-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x384x64x64 : Shape := ⟨4, ![8, 384, 64, 64]⟩
abbrev S4x384 : Shape := ⟨2, ![4, 384]⟩
abbrev S384 : Shape := ⟨1, ![384]⟩
abbrev S1536 : Shape := ⟨1, ![1536]⟩
abbrev S12x64x64 : Shape := ⟨3, ![12, 64, 64]⟩
abbrev S3 : Shape := ⟨1, ![3]⟩
abbrev S_ : Shape := ⟨0, ![]⟩
abbrev S16 : Shape := ⟨1, ![16]⟩
abbrev S1x64x64 : Shape := ⟨3, ![1, 64, 64]⟩
abbrev S64x64 : Shape := ⟨2, ![64, 64]⟩
abbrev S1x1x64x64 : Shape := ⟨4, ![1, 1, 64, 64]⟩
abbrev S1 : Shape := ⟨1, ![1]⟩
abbrev S1x1x16 : Shape := ⟨3, ![1, 1, 16]⟩
abbrev S4x64x64 : Shape := ⟨3, ![4, 64, 64]⟩
abbrev S1x4x64x64 : Shape := ⟨4, ![1, 4, 64, 64]⟩

abbrev nBuf : Table → Nat
  | .hbm => 7
  | .local .scVector .vmem => 3
  | _ => 0

abbrev bufTy : (tb : Table) → Fin (nBuf tb) → BufTy
  | .hbm, ⟨0, _⟩ => ⟨S8x384x64x64, .f32⟩
  | .hbm, ⟨1, _⟩ => ⟨S4x384, .i1⟩
  | .hbm, ⟨2, _⟩ => ⟨S384, .i1⟩
  | .hbm, ⟨3, _⟩ => ⟨S4x384, .i32⟩
  | .hbm, ⟨4, _⟩ => ⟨S1536, .i32⟩
  | .hbm, ⟨5, _⟩ => ⟨S384, .i32⟩
  | .hbm, ⟨6, _⟩ => ⟨S8x384x64x64, .f32⟩
  | .local .scVector .vmem, ⟨0, _⟩ => ⟨S1536, .i32⟩
  | .local .scVector .vmem, ⟨1, _⟩ => ⟨S384, .i32⟩
  | .local .scVector .vmem, ⟨2, _⟩ => ⟨S12x64x64, .f32⟩
  | _, _ => ⟨S8x384x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v15 : IVec S16 32) : Prop :=
  (∀ a x, ((![v15] : Fin 1 → IVec S16 32) a x).toNat < S1536.size a)
theorem k0_idx1_inb : ∀ (v15 : IVec S16 32) (k0_hw1 : k0_chk1 v15), ∀ a x, ((![v15] : Fin 1 → IVec S16 32) a x).toNat < S1536.size a := fun v15 k0_hw1 => k0_hw1

def k0_chk2 (v12 : IVec S16 32) : Prop :=
  (∀ a x, ((![v12] : Fin 1 → IVec S16 32) a x).toNat < S384.size a)
theorem k0_idx2_inb : ∀ (v12 : IVec S16 32) (k0_hw2 : k0_chk2 v12), ∀ a x, ((![v12] : Fin 1 → IVec S16 32) a x).toNat < S384.size a := fun v12 k0_hw2 => k0_hw2
def k0_off1 (i : grid0.Coords) (v24 : BitVec 32) : Fin 4 → Nat :=
  let c0_i32_4 : BitVec 32 := 0#32
  let v25 : BitVec 1 := Scalar.cmpi .ne v24 c0_i32_4
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_5 : BitVec 32 := 1#32
  let v26 : BitVec 32 := Scalar.xori v2 c1_i32_5
  let v27 : BitVec 32 := Scalar.select v25 v26 v2
  let c3_i32 : BitVec 32 := 3#32
  let v3 : BitVec 32 := Scalar.andi v1 c3_i32
  let c96_i32 : BitVec 32 := 96#32
  let v4 : BitVec 32 := Scalar.muli v3 c96_i32
  let c0_i32 : BitVec 32 := 0#32
  let v7 : BitVec 32 := Scalar.addi v4 c0_i32
  let c0_i32_6 : BitVec 32 := 0#32
  let v28 : BitVec 32 := Scalar.addi v7 c0_i32_6
  let c0_i32_11 : BitVec 32 := 0#32
  let c0_i32_12 : BitVec 32 := 0#32
  ![v27.toNat, v28.toNat, 0, 0]

def k0_chk3 (i : grid0.Coords) (v24 : BitVec 32) : Prop :=
  (∀ a, (k0_off1 i v24) a + S1x1x64x64.size a ≤ S8x384x64x64.size a)
theorem k0_off1_inb : ∀ (i : grid0.Coords) (v24 : BitVec 32) (k0_hw3 : k0_chk3 i v24), ∀ a, (k0_off1 i v24) a + S1x1x64x64.size a ≤ S8x384x64x64.size a := fun i v24 k0_hw3 => k0_hw3

def k0_off2 (i : grid0.Coords) (v45 : BitVec 32) : Fin 4 → Nat :=
  let c0_i32_20 : BitVec 32 := 0#32
  let v46 : BitVec 1 := Scalar.cmpi .ne v45 c0_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_21 : BitVec 32 := 1#32
  let v47 : BitVec 32 := Scalar.xori v2 c1_i32_21
  let v48 : BitVec 32 := Scalar.select v46 v47 v2
  let c3_i32 : BitVec 32 := 3#32
  let v3 : BitVec 32 := Scalar.andi v1 c3_i32
  let c96_i32 : BitVec 32 := 96#32
  let v4 : BitVec 32 := Scalar.muli v3 c96_i32
  let c0_i32 : BitVec 32 := 0#32
  let v7 : BitVec 32 := Scalar.addi v4 c0_i32
  let c1_i32_22 : BitVec 32 := 1#32
  let v49 : BitVec 32 := Scalar.addi v7 c1_i32_22
  let c0_i32_27 : BitVec 32 := 0#32
  let c0_i32_28 : BitVec 32 := 0#32
  ![v48.toNat, v49.toNat, 0, 0]

def k0_chk4 (i : grid0.Coords) (v45 : BitVec 32) : Prop :=
  (∀ a, (k0_off2 i v45) a + S1x1x64x64.size a ≤ S8x384x64x64.size a)
theorem k0_off2_inb : ∀ (i : grid0.Coords) (v45 : BitVec 32) (k0_hw4 : k0_chk4 i v45), ∀ a, (k0_off2 i v45) a + S1x1x64x64.size a ≤ S8x384x64x64.size a := fun i v45 k0_hw4 => k0_hw4

def k0_off3 (i : grid0.Coords) (v66 : BitVec 32) : Fin 4 → Nat :=
  let c0_i32_36 : BitVec 32 := 0#32
  let v67 : BitVec 1 := Scalar.cmpi .ne v66 c0_i32_36
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_37 : BitVec 32 := 1#32
  let v68 : BitVec 32 := Scalar.xori v2 c1_i32_37
  let v69 : BitVec 32 := Scalar.select v67 v68 v2
  let c3_i32 : BitVec 32 := 3#32
  let v3 : BitVec 32 := Scalar.andi v1 c3_i32
  let c96_i32 : BitVec 32 := 96#32
  let v4 : BitVec 32 := Scalar.muli v3 c96_i32
  let c0_i32 : BitVec 32 := 0#32
  let v7 : BitVec 32 := Scalar.addi v4 c0_i32
  let c2_i32_38 : BitVec 32 := 2#32
  let v70 : BitVec 32 := Scalar.addi v7 c2_i32_38
  let c0_i32_43 : BitVec 32 := 0#32
  let c0_i32_44 : BitVec 32 := 0#32
  ![v69.toNat, v70.toNat, 0, 0]

def k0_chk5 (i : grid0.Coords) (v66 : BitVec 32) : Prop :=
  (∀ a, (k0_off3 i v66) a + S1x1x64x64.size a ≤ S8x384x64x64.size a)
theorem k0_off3_inb : ∀ (i : grid0.Coords) (v66 : BitVec 32) (k0_hw5 : k0_chk5 i v66), ∀ a, (k0_off3 i v66) a + S1x1x64x64.size a ≤ S8x384x64x64.size a := fun i v66 k0_hw5 => k0_hw5

def k0_off4 (i : grid0.Coords) (v87 : BitVec 32) : Fin 4 → Nat :=
  let c0_i32_52 : BitVec 32 := 0#32
  let v88 : BitVec 1 := Scalar.cmpi .ne v87 c0_i32_52
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_53 : BitVec 32 := 1#32
  let v89 : BitVec 32 := Scalar.xori v2 c1_i32_53
  let v90 : BitVec 32 := Scalar.select v88 v89 v2
  let c3_i32 : BitVec 32 := 3#32
  let v3 : BitVec 32 := Scalar.andi v1 c3_i32
  let c96_i32 : BitVec 32 := 96#32
  let v4 : BitVec 32 := Scalar.muli v3 c96_i32
  let c0_i32 : BitVec 32 := 0#32
  let v7 : BitVec 32 := Scalar.addi v4 c0_i32
  let c3_i32_54 : BitVec 32 := 3#32
  let v91 : BitVec 32 := Scalar.addi v7 c3_i32_54
  let c0_i32_59 : BitVec 32 := 0#32
  let c0_i32_60 : BitVec 32 := 0#32
  ![v90.toNat, v91.toNat, 0, 0]

def k0_chk6 (i : grid0.Coords) (v87 : BitVec 32) : Prop :=
  (∀ a, (k0_off4 i v87) a + S1x1x64x64.size a ≤ S8x384x64x64.size a)
theorem k0_off4_inb : ∀ (i : grid0.Coords) (v87 : BitVec 32) (k0_hw6 : k0_chk6 i v87), ∀ a, (k0_off4 i v87) a + S1x1x64x64.size a ≤ S8x384x64x64.size a := fun i v87 k0_hw6 => k0_hw6

def k0_chk7 (v110 : IVec S16 32) : Prop :=
  (∀ a x, ((![v110] : Fin 1 → IVec S16 32) a x).toNat < S1536.size a)
theorem k0_idx3_inb : ∀ (v110 : IVec S16 32) (k0_hw7 : k0_chk7 v110), ∀ a x, ((![v110] : Fin 1 → IVec S16 32) a x).toNat < S1536.size a := fun v110 k0_hw7 => k0_hw7

def k0_chk8 (v107 : IVec S16 32) : Prop :=
  (∀ a x, ((![v107] : Fin 1 → IVec S16 32) a x).toNat < S384.size a)
theorem k0_idx4_inb : ∀ (v107 : IVec S16 32) (k0_hw8 : k0_chk8 v107), ∀ a x, ((![v107] : Fin 1 → IVec S16 32) a x).toNat < S384.size a := fun v107 k0_hw8 => k0_hw8
def k0_off5 (i : grid0.Coords) (v119 : BitVec 32) : Fin 4 → Nat :=
  let c0_i32_71 : BitVec 32 := 0#32
  let v120 : BitVec 1 := Scalar.cmpi .ne v119 c0_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_72 : BitVec 32 := 1#32
  let v121 : BitVec 32 := Scalar.xori v2 c1_i32_72
  let v122 : BitVec 32 := Scalar.select v120 v121 v2
  let c3_i32 : BitVec 32 := 3#32
  let v3 : BitVec 32 := Scalar.andi v1 c3_i32
  let c96_i32 : BitVec 32 := 96#32
  let v4 : BitVec 32 := Scalar.muli v3 c96_i32
  let c4_i32 : BitVec 32 := 4#32
  let v102 : BitVec 32 := Scalar.addi v4 c4_i32
  let c0_i32_73 : BitVec 32 := 0#32
  let v123 : BitVec 32 := Scalar.addi v102 c0_i32_73
  let c0_i32_78 : BitVec 32 := 0#32
  let c0_i32_79 : BitVec 32 := 0#32
  ![v122.toNat, v123.toNat, 0, 0]

def k0_chk9 (i : grid0.Coords) (v119 : BitVec 32) : Prop :=
  (∀ a, (k0_off5 i v119) a + S1x1x64x64.size a ≤ S8x384x64x64.size a)
theorem k0_off5_inb : ∀ (i : grid0.Coords) (v119 : BitVec 32) (k0_hw9 : k0_chk9 i v119), ∀ a, (k0_off5 i v119) a + S1x1x64x64.size a ≤ S8x384x64x64.size a := fun i v119 k0_hw9 => k0_hw9

def k0_off6 (i : grid0.Coords) (v140 : BitVec 32) : Fin 4 → Nat :=
  let c0_i32_87 : BitVec 32 := 0#32
  let v141 : BitVec 1 := Scalar.cmpi .ne v140 c0_i32_87
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_88 : BitVec 32 := 1#32
  let v142 : BitVec 32 := Scalar.xori v2 c1_i32_88
  let v143 : BitVec 32 := Scalar.select v141 v142 v2
  let c3_i32 : BitVec 32 := 3#32
  let v3 : BitVec 32 := Scalar.andi v1 c3_i32
  let c96_i32 : BitVec 32 := 96#32
  let v4 : BitVec 32 := Scalar.muli v3 c96_i32
  let c4_i32 : BitVec 32 := 4#32
  let v102 : BitVec 32 := Scalar.addi v4 c4_i32
  let c1_i32_89 : BitVec 32 := 1#32
  let v144 : BitVec 32 := Scalar.addi v102 c1_i32_89
  let c0_i32_93 : BitVec 32 := 0#32
  let c0_i32_94 : BitVec 32 := 0#32
  ![v143.toNat, v144.toNat, 0, 0]

def k0_chk10 (i : grid0.Coords) (v140 : BitVec 32) : Prop :=
  (∀ a, (k0_off6 i v140) a + S1x1x64x64.size a ≤ S8x384x64x64.size a)
theorem k0_off6_inb : ∀ (i : grid0.Coords) (v140 : BitVec 32) (k0_hw10 : k0_chk10 i v140), ∀ a, (k0_off6 i v140) a + S1x1x64x64.size a ≤ S8x384x64x64.size a := fun i v140 k0_hw10 => k0_hw10

def k0_off7 (i : grid0.Coords) (v161 : BitVec 32) : Fin 4 → Nat :=
  let c0_i32_102 : BitVec 32 := 0#32
  let v162 : BitVec 1 := Scalar.cmpi .ne v161 c0_i32_102
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_103 : BitVec 32 := 1#32
  let v163 : BitVec 32 := Scalar.xori v2 c1_i32_103
  let v164 : BitVec 32 := Scalar.select v162 v163 v2
  let c3_i32 : BitVec 32 := 3#32
  let v3 : BitVec 32 := Scalar.andi v1 c3_i32
  let c96_i32 : BitVec 32 := 96#32
  let v4 : BitVec 32 := Scalar.muli v3 c96_i32
  let c4_i32 : BitVec 32 := 4#32
  let v102 : BitVec 32 := Scalar.addi v4 c4_i32
  let c2_i32_104 : BitVec 32 := 2#32
  let v165 : BitVec 32 := Scalar.addi v102 c2_i32_104
  let c0_i32_108 : BitVec 32 := 0#32
  let c0_i32_109 : BitVec 32 := 0#32
  ![v164.toNat, v165.toNat, 0, 0]

def k0_chk11 (i : grid0.Coords) (v161 : BitVec 32) : Prop :=
  (∀ a, (k0_off7 i v161) a + S1x1x64x64.size a ≤ S8x384x64x64.size a)
theorem k0_off7_inb : ∀ (i : grid0.Coords) (v161 : BitVec 32) (k0_hw11 : k0_chk11 i v161), ∀ a, (k0_off7 i v161) a + S1x1x64x64.size a ≤ S8x384x64x64.size a := fun i v161 k0_hw11 => k0_hw11

def k0_off8 (i : grid0.Coords) (v182 : BitVec 32) : Fin 4 → Nat :=
  let c0_i32_117 : BitVec 32 := 0#32
  let v183 : BitVec 1 := Scalar.cmpi .ne v182 c0_i32_117
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_118 : BitVec 32 := 1#32
  let v184 : BitVec 32 := Scalar.xori v2 c1_i32_118
  let v185 : BitVec 32 := Scalar.select v183 v184 v2
  let c3_i32 : BitVec 32 := 3#32
  let v3 : BitVec 32 := Scalar.andi v1 c3_i32
  let c96_i32 : BitVec 32 := 96#32
  let v4 : BitVec 32 := Scalar.muli v3 c96_i32
  let c4_i32 : BitVec 32 := 4#32
  let v102 : BitVec 32 := Scalar.addi v4 c4_i32
  let c3_i32_119 : BitVec 32 := 3#32
  let v186 : BitVec 32 := Scalar.addi v102 c3_i32_119
  let c0_i32_123 : BitVec 32 := 0#32
  let c0_i32_124 : BitVec 32 := 0#32
  ![v185.toNat, v186.toNat, 0, 0]

def k0_chk12 (i : grid0.Coords) (v182 : BitVec 32) : Prop :=
  (∀ a, (k0_off8 i v182) a + S1x1x64x64.size a ≤ S8x384x64x64.size a)
theorem k0_off8_inb : ∀ (i : grid0.Coords) (v182 : BitVec 32) (k0_hw12 : k0_chk12 i v182), ∀ a, (k0_off8 i v182) a + S1x1x64x64.size a ≤ S8x384x64x64.size a := fun i v182 k0_hw12 => k0_hw12

def k0_chk13 (v205 : IVec S16 32) : Prop :=
  (∀ a x, ((![v205] : Fin 1 → IVec S16 32) a x).toNat < S1536.size a)
theorem k0_idx5_inb : ∀ (v205 : IVec S16 32) (k0_hw13 : k0_chk13 v205), ∀ a x, ((![v205] : Fin 1 → IVec S16 32) a x).toNat < S1536.size a := fun v205 k0_hw13 => k0_hw13

def k0_chk14 (v202 : IVec S16 32) : Prop :=
  (∀ a x, ((![v202] : Fin 1 → IVec S16 32) a x).toNat < S384.size a)
theorem k0_idx6_inb : ∀ (v202 : IVec S16 32) (k0_hw14 : k0_chk14 v202), ∀ a x, ((![v202] : Fin 1 → IVec S16 32) a x).toNat < S384.size a := fun v202 k0_hw14 => k0_hw14
def k0_off9 (i : grid0.Coords) (v214 : BitVec 32) : Fin 4 → Nat :=
  let c0_i32_135 : BitVec 32 := 0#32
  let v215 : BitVec 1 := Scalar.cmpi .ne v214 c0_i32_135
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_136 : BitVec 32 := 1#32
  let v216 : BitVec 32 := Scalar.xori v2 c1_i32_136
  let v217 : BitVec 32 := Scalar.select v215 v216 v2
  let c3_i32 : BitVec 32 := 3#32
  let v3 : BitVec 32 := Scalar.andi v1 c3_i32
  let c96_i32 : BitVec 32 := 96#32
  let v4 : BitVec 32 := Scalar.muli v3 c96_i32
  let c8_i32 : BitVec 32 := 8#32
  let v197 : BitVec 32 := Scalar.addi v4 c8_i32
  let c0_i32_137 : BitVec 32 := 0#32
  let v218 : BitVec 32 := Scalar.addi v197 c0_i32_137
  let c0_i32_142 : BitVec 32 := 0#32
  let c0_i32_143 : BitVec 32 := 0#32
  ![v217.toNat, v218.toNat, 0, 0]

def k0_chk15 (i : grid0.Coords) (v214 : BitVec 32) : Prop :=
  (∀ a, (k0_off9 i v214) a + S1x1x64x64.size a ≤ S8x384x64x64.size a)
theorem k0_off9_inb : ∀ (i : grid0.Coords) (v214 : BitVec 32) (k0_hw15 : k0_chk15 i v214), ∀ a, (k0_off9 i v214) a + S1x1x64x64.size a ≤ S8x384x64x64.size a := fun i v214 k0_hw15 => k0_hw15

def k0_off10 (i : grid0.Coords) (v235 : BitVec 32) : Fin 4 → Nat :=
  let c0_i32_151 : BitVec 32 := 0#32
  let v236 : BitVec 1 := Scalar.cmpi .ne v235 c0_i32_151
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_152 : BitVec 32 := 1#32
  let v237 : BitVec 32 := Scalar.xori v2 c1_i32_152
  let v238 : BitVec 32 := Scalar.select v236 v237 v2
  let c3_i32 : BitVec 32 := 3#32
  let v3 : BitVec 32 := Scalar.andi v1 c3_i32
  let c96_i32 : BitVec 32 := 96#32
  let v4 : BitVec 32 := Scalar.muli v3 c96_i32
  let c8_i32 : BitVec 32 := 8#32
  let v197 : BitVec 32 := Scalar.addi v4 c8_i32
  let c1_i32_153 : BitVec 32 := 1#32
  let v239 : BitVec 32 := Scalar.addi v197 c1_i32_153
  let c0_i32_157 : BitVec 32 := 0#32
  let c0_i32_158 : BitVec 32 := 0#32
  ![v238.toNat, v239.toNat, 0, 0]

def k0_chk16 (i : grid0.Coords) (v235 : BitVec 32) : Prop :=
  (∀ a, (k0_off10 i v235) a + S1x1x64x64.size a ≤ S8x384x64x64.size a)
theorem k0_off10_inb : ∀ (i : grid0.Coords) (v235 : BitVec 32) (k0_hw16 : k0_chk16 i v235), ∀ a, (k0_off10 i v235) a + S1x1x64x64.size a ≤ S8x384x64x64.size a := fun i v235 k0_hw16 => k0_hw16

def k0_off11 (i : grid0.Coords) (v256 : BitVec 32) : Fin 4 → Nat :=
  let c0_i32_166 : BitVec 32 := 0#32
  let v257 : BitVec 1 := Scalar.cmpi .ne v256 c0_i32_166
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_167 : BitVec 32 := 1#32
  let v258 : BitVec 32 := Scalar.xori v2 c1_i32_167
  let v259 : BitVec 32 := Scalar.select v257 v258 v2
  let c3_i32 : BitVec 32 := 3#32
  let v3 : BitVec 32 := Scalar.andi v1 c3_i32
  let c96_i32 : BitVec 32 := 96#32
  let v4 : BitVec 32 := Scalar.muli v3 c96_i32
  let c8_i32 : BitVec 32 := 8#32
  let v197 : BitVec 32 := Scalar.addi v4 c8_i32
  let c2_i32_168 : BitVec 32 := 2#32
  let v260 : BitVec 32 := Scalar.addi v197 c2_i32_168
  let c0_i32_172 : BitVec 32 := 0#32
  let c0_i32_173 : BitVec 32 := 0#32
  ![v259.toNat, v260.toNat, 0, 0]

def k0_chk17 (i : grid0.Coords) (v256 : BitVec 32) : Prop :=
  (∀ a, (k0_off11 i v256) a + S1x1x64x64.size a ≤ S8x384x64x64.size a)
theorem k0_off11_inb : ∀ (i : grid0.Coords) (v256 : BitVec 32) (k0_hw17 : k0_chk17 i v256), ∀ a, (k0_off11 i v256) a + S1x1x64x64.size a ≤ S8x384x64x64.size a := fun i v256 k0_hw17 => k0_hw17

def k0_off12 (i : grid0.Coords) (v277 : BitVec 32) : Fin 4 → Nat :=
  let c0_i32_181 : BitVec 32 := 0#32
  let v278 : BitVec 1 := Scalar.cmpi .ne v277 c0_i32_181
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_182 : BitVec 32 := 1#32
  let v279 : BitVec 32 := Scalar.xori v2 c1_i32_182
  let v280 : BitVec 32 := Scalar.select v278 v279 v2
  let c3_i32 : BitVec 32 := 3#32
  let v3 : BitVec 32 := Scalar.andi v1 c3_i32
  let c96_i32 : BitVec 32 := 96#32
  let v4 : BitVec 32 := Scalar.muli v3 c96_i32
  let c8_i32 : BitVec 32 := 8#32
  let v197 : BitVec 32 := Scalar.addi v4 c8_i32
  let c3_i32_183 : BitVec 32 := 3#32
  let v281 : BitVec 32 := Scalar.addi v197 c3_i32_183
  let c0_i32_187 : BitVec 32 := 0#32
  let c0_i32_188 : BitVec 32 := 0#32
  ![v280.toNat, v281.toNat, 0, 0]

def k0_chk18 (i : grid0.Coords) (v277 : BitVec 32) : Prop :=
  (∀ a, (k0_off12 i v277) a + S1x1x64x64.size a ≤ S8x384x64x64.size a)
theorem k0_off12_inb : ∀ (i : grid0.Coords) (v277 : BitVec 32) (k0_hw18 : k0_chk18 i v277), ∀ a, (k0_off12 i v277) a + S1x1x64x64.size a ≤ S8x384x64x64.size a := fun i v277 k0_hw18 => k0_hw18

def k0_chk19 (v339 : IVec S16 32) : Prop :=
  (∀ a x, ((![v339] : Fin 1 → IVec S16 32) a x).toNat < S1536.size a)
theorem k0_idx7_inb : ∀ (v339 : IVec S16 32) (k0_hw19 : k0_chk19 v339), ∀ a x, ((![v339] : Fin 1 → IVec S16 32) a x).toNat < S1536.size a := fun v339 k0_hw19 => k0_hw19

def k0_chk20 (v336 : IVec S16 32) : Prop :=
  (∀ a x, ((![v336] : Fin 1 → IVec S16 32) a x).toNat < S384.size a)
theorem k0_idx8_inb : ∀ (v336 : IVec S16 32) (k0_hw20 : k0_chk20 v336), ∀ a x, ((![v336] : Fin 1 → IVec S16 32) a x).toNat < S384.size a := fun v336 k0_hw20 => k0_hw20
@[reducible] def k0_t1_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off13 (k0_t1 : Fin k0_t1_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t1
  let v4882 : Index := Scalar.indexCast arg11
  let c0 : Index := 0#32
  ![0, v4882.toNat, 0]
def k0_off14 (k0_t1 : Fin k0_t1_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t1
  let v4885 : Index := Scalar.indexCast arg11
  let c16 : Index := 16#32
  ![0, v4885.toNat, 16]
def k0_off15 (k0_t1 : Fin k0_t1_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t1
  let v4888 : Index := Scalar.indexCast arg11
  let c32 : Index := 32#32
  ![0, v4888.toNat, 32]
def k0_off16 (k0_t1 : Fin k0_t1_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t1
  let v4891 : Index := Scalar.indexCast arg11
  let c48 : Index := 48#32
  ![0, v4891.toNat, 48]
@[reducible] def k0_t2_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off17 (k0_t2 : Fin k0_t2_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t2
  let v4882 : Index := Scalar.indexCast arg11
  let c0 : Index := 0#32
  ![1, v4882.toNat, 0]
def k0_off18 (k0_t2 : Fin k0_t2_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t2
  let v4885 : Index := Scalar.indexCast arg11
  let c16 : Index := 16#32
  ![1, v4885.toNat, 16]
def k0_off19 (k0_t2 : Fin k0_t2_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t2
  let v4888 : Index := Scalar.indexCast arg11
  let c32 : Index := 32#32
  ![1, v4888.toNat, 32]
def k0_off20 (k0_t2 : Fin k0_t2_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t2
  let v4891 : Index := Scalar.indexCast arg11
  let c48 : Index := 48#32
  ![1, v4891.toNat, 48]
@[reducible] def k0_t3_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off21 (k0_t3 : Fin k0_t3_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t3
  let v4882 : Index := Scalar.indexCast arg11
  let c0 : Index := 0#32
  ![2, v4882.toNat, 0]
def k0_off22 (k0_t3 : Fin k0_t3_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t3
  let v4885 : Index := Scalar.indexCast arg11
  let c16 : Index := 16#32
  ![2, v4885.toNat, 16]
def k0_off23 (k0_t3 : Fin k0_t3_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t3
  let v4888 : Index := Scalar.indexCast arg11
  let c32 : Index := 32#32
  ![2, v4888.toNat, 32]
def k0_off24 (k0_t3 : Fin k0_t3_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t3
  let v4891 : Index := Scalar.indexCast arg11
  let c48 : Index := 48#32
  ![2, v4891.toNat, 48]
@[reducible] def k0_t4_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off25 (k0_t4 : Fin k0_t4_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t4
  let v4882 : Index := Scalar.indexCast arg11
  let c0 : Index := 0#32
  ![3, v4882.toNat, 0]
def k0_off26 (k0_t4 : Fin k0_t4_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t4
  let v4885 : Index := Scalar.indexCast arg11
  let c16 : Index := 16#32
  ![3, v4885.toNat, 16]
def k0_off27 (k0_t4 : Fin k0_t4_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t4
  let v4888 : Index := Scalar.indexCast arg11
  let c32 : Index := 32#32
  ![3, v4888.toNat, 32]
def k0_off28 (k0_t4 : Fin k0_t4_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t4
  let v4891 : Index := Scalar.indexCast arg11
  let c48 : Index := 48#32
  ![3, v4891.toNat, 48]
def k0_off29 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c0_i32_264 : BitVec 32 := 0#32
  let v382 : BitVec 32 := Scalar.addi v4 c0_i32_264
  let c0_i32_269 : BitVec 32 := 0#32
  let c0_i32_270 : BitVec 32 := 0#32
  ![v2.toNat, v382.toNat, 0, 0]

def k0_chk21 (v408 : IVec S16 32) : Prop :=
  (∀ a x, ((![v408] : Fin 1 → IVec S16 32) a x).toNat < S1536.size a)
theorem k0_idx9_inb : ∀ (v408 : IVec S16 32) (k0_hw21 : k0_chk21 v408), ∀ a x, ((![v408] : Fin 1 → IVec S16 32) a x).toNat < S1536.size a := fun v408 k0_hw21 => k0_hw21

def k0_chk22 (v405 : IVec S16 32) : Prop :=
  (∀ a x, ((![v405] : Fin 1 → IVec S16 32) a x).toNat < S384.size a)
theorem k0_idx10_inb : ∀ (v405 : IVec S16 32) (k0_hw22 : k0_chk22 v405), ∀ a x, ((![v405] : Fin 1 → IVec S16 32) a x).toNat < S384.size a := fun v405 k0_hw22 => k0_hw22
def k0_off30 (i : grid0.Coords) (v417 : BitVec 32) : Fin 4 → Nat :=
  let c0_i32_294 : BitVec 32 := 0#32
  let v418 : BitVec 1 := Scalar.cmpi .ne v417 c0_i32_294
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_295 : BitVec 32 := 1#32
  let v419 : BitVec 32 := Scalar.xori v2 c1_i32_295
  let v420 : BitVec 32 := Scalar.select v418 v419 v2
  let c3_i32 : BitVec 32 := 3#32
  let v3 : BitVec 32 := Scalar.andi v1 c3_i32
  let c96_i32 : BitVec 32 := 96#32
  let v4 : BitVec 32 := Scalar.muli v3 c96_i32
  let c12_i32 : BitVec 32 := 12#32
  let v400 : BitVec 32 := Scalar.addi v4 c12_i32
  let c0_i32_296 : BitVec 32 := 0#32
  let v421 : BitVec 32 := Scalar.addi v400 c0_i32_296
  let c0_i32_301 : BitVec 32 := 0#32
  let c0_i32_302 : BitVec 32 := 0#32
  ![v420.toNat, v421.toNat, 0, 0]

def k0_chk23 (i : grid0.Coords) (v417 : BitVec 32) : Prop :=
  (∀ a, (k0_off30 i v417) a + S1x1x64x64.size a ≤ S8x384x64x64.size a)
theorem k0_off30_inb : ∀ (i : grid0.Coords) (v417 : BitVec 32) (k0_hw23 : k0_chk23 i v417), ∀ a, (k0_off30 i v417) a + S1x1x64x64.size a ≤ S8x384x64x64.size a := fun i v417 k0_hw23 => k0_hw23

def k0_off31 (i : grid0.Coords) (v438 : BitVec 32) : Fin 4 → Nat :=
  let c0_i32_310 : BitVec 32 := 0#32
  let v439 : BitVec 1 := Scalar.cmpi .ne v438 c0_i32_310
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_311 : BitVec 32 := 1#32
  let v440 : BitVec 32 := Scalar.xori v2 c1_i32_311
  let v441 : BitVec 32 := Scalar.select v439 v440 v2
  let c3_i32 : BitVec 32 := 3#32
  let v3 : BitVec 32 := Scalar.andi v1 c3_i32
  let c96_i32 : BitVec 32 := 96#32
  let v4 : BitVec 32 := Scalar.muli v3 c96_i32
  let c12_i32 : BitVec 32 := 12#32
  let v400 : BitVec 32 := Scalar.addi v4 c12_i32
  let c1_i32_312 : BitVec 32 := 1#32
  let v442 : BitVec 32 := Scalar.addi v400 c1_i32_312
  let c0_i32_317 : BitVec 32 := 0#32
  let c0_i32_318 : BitVec 32 := 0#32
  ![v441.toNat, v442.toNat, 0, 0]

def k0_chk24 (i : grid0.Coords) (v438 : BitVec 32) : Prop :=
  (∀ a, (k0_off31 i v438) a + S1x1x64x64.size a ≤ S8x384x64x64.size a)
theorem k0_off31_inb : ∀ (i : grid0.Coords) (v438 : BitVec 32) (k0_hw24 : k0_chk24 i v438), ∀ a, (k0_off31 i v438) a + S1x1x64x64.size a ≤ S8x384x64x64.size a := fun i v438 k0_hw24 => k0_hw24

def k0_off32 (i : grid0.Coords) (v459 : BitVec 32) : Fin 4 → Nat :=
  let c0_i32_326 : BitVec 32 := 0#32
  let v460 : BitVec 1 := Scalar.cmpi .ne v459 c0_i32_326
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_327 : BitVec 32 := 1#32
  let v461 : BitVec 32 := Scalar.xori v2 c1_i32_327
  let v462 : BitVec 32 := Scalar.select v460 v461 v2
  let c3_i32 : BitVec 32 := 3#32
  let v3 : BitVec 32 := Scalar.andi v1 c3_i32
  let c96_i32 : BitVec 32 := 96#32
  let v4 : BitVec 32 := Scalar.muli v3 c96_i32
  let c12_i32 : BitVec 32 := 12#32
  let v400 : BitVec 32 := Scalar.addi v4 c12_i32
  let c2_i32_328 : BitVec 32 := 2#32
  let v463 : BitVec 32 := Scalar.addi v400 c2_i32_328
  let c0_i32_333 : BitVec 32 := 0#32
  let c0_i32_334 : BitVec 32 := 0#32
  ![v462.toNat, v463.toNat, 0, 0]

def k0_chk25 (i : grid0.Coords) (v459 : BitVec 32) : Prop :=
  (∀ a, (k0_off32 i v459) a + S1x1x64x64.size a ≤ S8x384x64x64.size a)
theorem k0_off32_inb : ∀ (i : grid0.Coords) (v459 : BitVec 32) (k0_hw25 : k0_chk25 i v459), ∀ a, (k0_off32 i v459) a + S1x1x64x64.size a ≤ S8x384x64x64.size a := fun i v459 k0_hw25 => k0_hw25

def k0_off33 (i : grid0.Coords) (v480 : BitVec 32) : Fin 4 → Nat :=
  let c0_i32_342 : BitVec 32 := 0#32
  let v481 : BitVec 1 := Scalar.cmpi .ne v480 c0_i32_342
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_343 : BitVec 32 := 1#32
  let v482 : BitVec 32 := Scalar.xori v2 c1_i32_343
  let v483 : BitVec 32 := Scalar.select v481 v482 v2
  let c3_i32 : BitVec 32 := 3#32
  let v3 : BitVec 32 := Scalar.andi v1 c3_i32
  let c96_i32 : BitVec 32 := 96#32
  let v4 : BitVec 32 := Scalar.muli v3 c96_i32
  let c12_i32 : BitVec 32 := 12#32
  let v400 : BitVec 32 := Scalar.addi v4 c12_i32
  let c3_i32_344 : BitVec 32 := 3#32
  let v484 : BitVec 32 := Scalar.addi v400 c3_i32_344
  let c0_i32_349 : BitVec 32 := 0#32
  let c0_i32_350 : BitVec 32 := 0#32
  ![v483.toNat, v484.toNat, 0, 0]

def k0_chk26 (i : grid0.Coords) (v480 : BitVec 32) : Prop :=
  (∀ a, (k0_off33 i v480) a + S1x1x64x64.size a ≤ S8x384x64x64.size a)
theorem k0_off33_inb : ∀ (i : grid0.Coords) (v480 : BitVec 32) (k0_hw26 : k0_chk26 i v480), ∀ a, (k0_off33 i v480) a + S1x1x64x64.size a ≤ S8x384x64x64.size a := fun i v480 k0_hw26 => k0_hw26

def k0_chk27 (v542 : IVec S16 32) : Prop :=
  (∀ a x, ((![v542] : Fin 1 → IVec S16 32) a x).toNat < S1536.size a)
theorem k0_idx11_inb : ∀ (v542 : IVec S16 32) (k0_hw27 : k0_chk27 v542), ∀ a x, ((![v542] : Fin 1 → IVec S16 32) a x).toNat < S1536.size a := fun v542 k0_hw27 => k0_hw27

def k0_chk28 (v539 : IVec S16 32) : Prop :=
  (∀ a x, ((![v539] : Fin 1 → IVec S16 32) a x).toNat < S384.size a)
theorem k0_idx12_inb : ∀ (v539 : IVec S16 32) (k0_hw28 : k0_chk28 v539), ∀ a x, ((![v539] : Fin 1 → IVec S16 32) a x).toNat < S384.size a := fun v539 k0_hw28 => k0_hw28
@[reducible] def k0_t5_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off34 (k0_t5 : Fin k0_t5_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t5
  let v4882 : Index := Scalar.indexCast arg11
  let c0 : Index := 0#32
  ![4, v4882.toNat, 0]
def k0_off35 (k0_t5 : Fin k0_t5_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t5
  let v4885 : Index := Scalar.indexCast arg11
  let c16 : Index := 16#32
  ![4, v4885.toNat, 16]
def k0_off36 (k0_t5 : Fin k0_t5_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t5
  let v4888 : Index := Scalar.indexCast arg11
  let c32 : Index := 32#32
  ![4, v4888.toNat, 32]
def k0_off37 (k0_t5 : Fin k0_t5_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t5
  let v4891 : Index := Scalar.indexCast arg11
  let c48 : Index := 48#32
  ![4, v4891.toNat, 48]
@[reducible] def k0_t6_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off38 (k0_t6 : Fin k0_t6_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t6
  let v4882 : Index := Scalar.indexCast arg11
  let c0 : Index := 0#32
  ![5, v4882.toNat, 0]
def k0_off39 (k0_t6 : Fin k0_t6_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t6
  let v4885 : Index := Scalar.indexCast arg11
  let c16 : Index := 16#32
  ![5, v4885.toNat, 16]
def k0_off40 (k0_t6 : Fin k0_t6_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t6
  let v4888 : Index := Scalar.indexCast arg11
  let c32 : Index := 32#32
  ![5, v4888.toNat, 32]
def k0_off41 (k0_t6 : Fin k0_t6_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t6
  let v4891 : Index := Scalar.indexCast arg11
  let c48 : Index := 48#32
  ![5, v4891.toNat, 48]
@[reducible] def k0_t7_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off42 (k0_t7 : Fin k0_t7_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t7
  let v4882 : Index := Scalar.indexCast arg11
  let c0 : Index := 0#32
  ![6, v4882.toNat, 0]
def k0_off43 (k0_t7 : Fin k0_t7_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t7
  let v4885 : Index := Scalar.indexCast arg11
  let c16 : Index := 16#32
  ![6, v4885.toNat, 16]
def k0_off44 (k0_t7 : Fin k0_t7_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t7
  let v4888 : Index := Scalar.indexCast arg11
  let c32 : Index := 32#32
  ![6, v4888.toNat, 32]
def k0_off45 (k0_t7 : Fin k0_t7_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t7
  let v4891 : Index := Scalar.indexCast arg11
  let c48 : Index := 48#32
  ![6, v4891.toNat, 48]
@[reducible] def k0_t8_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off46 (k0_t8 : Fin k0_t8_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t8
  let v4882 : Index := Scalar.indexCast arg11
  let c0 : Index := 0#32
  ![7, v4882.toNat, 0]
def k0_off47 (k0_t8 : Fin k0_t8_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t8
  let v4885 : Index := Scalar.indexCast arg11
  let c16 : Index := 16#32
  ![7, v4885.toNat, 16]
def k0_off48 (k0_t8 : Fin k0_t8_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t8
  let v4888 : Index := Scalar.indexCast arg11
  let c32 : Index := 32#32
  ![7, v4888.toNat, 32]
def k0_off49 (k0_t8 : Fin k0_t8_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t8
  let v4891 : Index := Scalar.indexCast arg11
  let c48 : Index := 48#32
  ![7, v4891.toNat, 48]
def k0_off50 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c4_i32_426 : BitVec 32 := 4#32
  let v585 : BitVec 32 := Scalar.addi v4 c4_i32_426
  let c0_i32_431 : BitVec 32 := 0#32
  let c0_i32_432 : BitVec 32 := 0#32
  ![v2.toNat, v585.toNat, 0, 0]

def k0_chk29 (v611 : IVec S16 32) : Prop :=
  (∀ a x, ((![v611] : Fin 1 → IVec S16 32) a x).toNat < S1536.size a)
theorem k0_idx13_inb : ∀ (v611 : IVec S16 32) (k0_hw29 : k0_chk29 v611), ∀ a x, ((![v611] : Fin 1 → IVec S16 32) a x).toNat < S1536.size a := fun v611 k0_hw29 => k0_hw29

def k0_chk30 (v608 : IVec S16 32) : Prop :=
  (∀ a x, ((![v608] : Fin 1 → IVec S16 32) a x).toNat < S384.size a)
theorem k0_idx14_inb : ∀ (v608 : IVec S16 32) (k0_hw30 : k0_chk30 v608), ∀ a x, ((![v608] : Fin 1 → IVec S16 32) a x).toNat < S384.size a := fun v608 k0_hw30 => k0_hw30
def k0_off51 (i : grid0.Coords) (v620 : BitVec 32) : Fin 4 → Nat :=
  let c0_i32_456 : BitVec 32 := 0#32
  let v621 : BitVec 1 := Scalar.cmpi .ne v620 c0_i32_456
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_457 : BitVec 32 := 1#32
  let v622 : BitVec 32 := Scalar.xori v2 c1_i32_457
  let v623 : BitVec 32 := Scalar.select v621 v622 v2
  let c3_i32 : BitVec 32 := 3#32
  let v3 : BitVec 32 := Scalar.andi v1 c3_i32
  let c96_i32 : BitVec 32 := 96#32
  let v4 : BitVec 32 := Scalar.muli v3 c96_i32
  let c16_i32 : BitVec 32 := 16#32
  let v603 : BitVec 32 := Scalar.addi v4 c16_i32
  let c0_i32_458 : BitVec 32 := 0#32
  let v624 : BitVec 32 := Scalar.addi v603 c0_i32_458
  let c0_i32_463 : BitVec 32 := 0#32
  let c0_i32_464 : BitVec 32 := 0#32
  ![v623.toNat, v624.toNat, 0, 0]

def k0_chk31 (i : grid0.Coords) (v620 : BitVec 32) : Prop :=
  (∀ a, (k0_off51 i v620) a + S1x1x64x64.size a ≤ S8x384x64x64.size a)
theorem k0_off51_inb : ∀ (i : grid0.Coords) (v620 : BitVec 32) (k0_hw31 : k0_chk31 i v620), ∀ a, (k0_off51 i v620) a + S1x1x64x64.size a ≤ S8x384x64x64.size a := fun i v620 k0_hw31 => k0_hw31

def k0_off52 (i : grid0.Coords) (v641 : BitVec 32) : Fin 4 → Nat :=
  let c0_i32_472 : BitVec 32 := 0#32
  let v642 : BitVec 1 := Scalar.cmpi .ne v641 c0_i32_472
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_473 : BitVec 32 := 1#32
  let v643 : BitVec 32 := Scalar.xori v2 c1_i32_473
  let v644 : BitVec 32 := Scalar.select v642 v643 v2
  let c3_i32 : BitVec 32 := 3#32
  let v3 : BitVec 32 := Scalar.andi v1 c3_i32
  let c96_i32 : BitVec 32 := 96#32
  let v4 : BitVec 32 := Scalar.muli v3 c96_i32
  let c16_i32 : BitVec 32 := 16#32
  let v603 : BitVec 32 := Scalar.addi v4 c16_i32
  let c1_i32_474 : BitVec 32 := 1#32
  let v645 : BitVec 32 := Scalar.addi v603 c1_i32_474
  let c0_i32_479 : BitVec 32 := 0#32
  let c0_i32_480 : BitVec 32 := 0#32
  ![v644.toNat, v645.toNat, 0, 0]

def k0_chk32 (i : grid0.Coords) (v641 : BitVec 32) : Prop :=
  (∀ a, (k0_off52 i v641) a + S1x1x64x64.size a ≤ S8x384x64x64.size a)
theorem k0_off52_inb : ∀ (i : grid0.Coords) (v641 : BitVec 32) (k0_hw32 : k0_chk32 i v641), ∀ a, (k0_off52 i v641) a + S1x1x64x64.size a ≤ S8x384x64x64.size a := fun i v641 k0_hw32 => k0_hw32

def k0_off53 (i : grid0.Coords) (v662 : BitVec 32) : Fin 4 → Nat :=
  let c0_i32_488 : BitVec 32 := 0#32
  let v663 : BitVec 1 := Scalar.cmpi .ne v662 c0_i32_488
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_489 : BitVec 32 := 1#32
  let v664 : BitVec 32 := Scalar.xori v2 c1_i32_489
  let v665 : BitVec 32 := Scalar.select v663 v664 v2
  let c3_i32 : BitVec 32 := 3#32
  let v3 : BitVec 32 := Scalar.andi v1 c3_i32
  let c96_i32 : BitVec 32 := 96#32
  let v4 : BitVec 32 := Scalar.muli v3 c96_i32
  let c16_i32 : BitVec 32 := 16#32
  let v603 : BitVec 32 := Scalar.addi v4 c16_i32
  let c2_i32_490 : BitVec 32 := 2#32
  let v666 : BitVec 32 := Scalar.addi v603 c2_i32_490
  let c0_i32_495 : BitVec 32 := 0#32
  let c0_i32_496 : BitVec 32 := 0#32
  ![v665.toNat, v666.toNat, 0, 0]

def k0_chk33 (i : grid0.Coords) (v662 : BitVec 32) : Prop :=
  (∀ a, (k0_off53 i v662) a + S1x1x64x64.size a ≤ S8x384x64x64.size a)
theorem k0_off53_inb : ∀ (i : grid0.Coords) (v662 : BitVec 32) (k0_hw33 : k0_chk33 i v662), ∀ a, (k0_off53 i v662) a + S1x1x64x64.size a ≤ S8x384x64x64.size a := fun i v662 k0_hw33 => k0_hw33

def k0_off54 (i : grid0.Coords) (v683 : BitVec 32) : Fin 4 → Nat :=
  let c0_i32_504 : BitVec 32 := 0#32
  let v684 : BitVec 1 := Scalar.cmpi .ne v683 c0_i32_504
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_505 : BitVec 32 := 1#32
  let v685 : BitVec 32 := Scalar.xori v2 c1_i32_505
  let v686 : BitVec 32 := Scalar.select v684 v685 v2
  let c3_i32 : BitVec 32 := 3#32
  let v3 : BitVec 32 := Scalar.andi v1 c3_i32
  let c96_i32 : BitVec 32 := 96#32
  let v4 : BitVec 32 := Scalar.muli v3 c96_i32
  let c16_i32 : BitVec 32 := 16#32
  let v603 : BitVec 32 := Scalar.addi v4 c16_i32
  let c3_i32_506 : BitVec 32 := 3#32
  let v687 : BitVec 32 := Scalar.addi v603 c3_i32_506
  let c0_i32_511 : BitVec 32 := 0#32
  let c0_i32_512 : BitVec 32 := 0#32
  ![v686.toNat, v687.toNat, 0, 0]

def k0_chk34 (i : grid0.Coords) (v683 : BitVec 32) : Prop :=
  (∀ a, (k0_off54 i v683) a + S1x1x64x64.size a ≤ S8x384x64x64.size a)
theorem k0_off54_inb : ∀ (i : grid0.Coords) (v683 : BitVec 32) (k0_hw34 : k0_chk34 i v683), ∀ a, (k0_off54 i v683) a + S1x1x64x64.size a ≤ S8x384x64x64.size a := fun i v683 k0_hw34 => k0_hw34

def k0_chk35 (v745 : IVec S16 32) : Prop :=
  (∀ a x, ((![v745] : Fin 1 → IVec S16 32) a x).toNat < S1536.size a)
theorem k0_idx15_inb : ∀ (v745 : IVec S16 32) (k0_hw35 : k0_chk35 v745), ∀ a x, ((![v745] : Fin 1 → IVec S16 32) a x).toNat < S1536.size a := fun v745 k0_hw35 => k0_hw35

def k0_chk36 (v742 : IVec S16 32) : Prop :=
  (∀ a x, ((![v742] : Fin 1 → IVec S16 32) a x).toNat < S384.size a)
theorem k0_idx16_inb : ∀ (v742 : IVec S16 32) (k0_hw36 : k0_chk36 v742), ∀ a x, ((![v742] : Fin 1 → IVec S16 32) a x).toNat < S384.size a := fun v742 k0_hw36 => k0_hw36
@[reducible] def k0_t9_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off55 (k0_t9 : Fin k0_t9_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t9
  let v4882 : Index := Scalar.indexCast arg11
  let c0 : Index := 0#32
  ![8, v4882.toNat, 0]
def k0_off56 (k0_t9 : Fin k0_t9_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t9
  let v4885 : Index := Scalar.indexCast arg11
  let c16 : Index := 16#32
  ![8, v4885.toNat, 16]
def k0_off57 (k0_t9 : Fin k0_t9_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t9
  let v4888 : Index := Scalar.indexCast arg11
  let c32 : Index := 32#32
  ![8, v4888.toNat, 32]
def k0_off58 (k0_t9 : Fin k0_t9_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t9
  let v4891 : Index := Scalar.indexCast arg11
  let c48 : Index := 48#32
  ![8, v4891.toNat, 48]
@[reducible] def k0_t10_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off59 (k0_t10 : Fin k0_t10_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t10
  let v4882 : Index := Scalar.indexCast arg11
  let c0 : Index := 0#32
  ![9, v4882.toNat, 0]
def k0_off60 (k0_t10 : Fin k0_t10_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t10
  let v4885 : Index := Scalar.indexCast arg11
  let c16 : Index := 16#32
  ![9, v4885.toNat, 16]
def k0_off61 (k0_t10 : Fin k0_t10_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t10
  let v4888 : Index := Scalar.indexCast arg11
  let c32 : Index := 32#32
  ![9, v4888.toNat, 32]
def k0_off62 (k0_t10 : Fin k0_t10_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t10
  let v4891 : Index := Scalar.indexCast arg11
  let c48 : Index := 48#32
  ![9, v4891.toNat, 48]
@[reducible] def k0_t11_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off63 (k0_t11 : Fin k0_t11_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t11
  let v4882 : Index := Scalar.indexCast arg11
  let c0 : Index := 0#32
  ![10, v4882.toNat, 0]
def k0_off64 (k0_t11 : Fin k0_t11_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t11
  let v4885 : Index := Scalar.indexCast arg11
  let c16 : Index := 16#32
  ![10, v4885.toNat, 16]
def k0_off65 (k0_t11 : Fin k0_t11_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t11
  let v4888 : Index := Scalar.indexCast arg11
  let c32 : Index := 32#32
  ![10, v4888.toNat, 32]
def k0_off66 (k0_t11 : Fin k0_t11_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t11
  let v4891 : Index := Scalar.indexCast arg11
  let c48 : Index := 48#32
  ![10, v4891.toNat, 48]
@[reducible] def k0_t12_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off67 (k0_t12 : Fin k0_t12_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t12
  let v4882 : Index := Scalar.indexCast arg11
  let c0 : Index := 0#32
  ![11, v4882.toNat, 0]
def k0_off68 (k0_t12 : Fin k0_t12_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t12
  let v4885 : Index := Scalar.indexCast arg11
  let c16 : Index := 16#32
  ![11, v4885.toNat, 16]
def k0_off69 (k0_t12 : Fin k0_t12_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t12
  let v4888 : Index := Scalar.indexCast arg11
  let c32 : Index := 32#32
  ![11, v4888.toNat, 32]
def k0_off70 (k0_t12 : Fin k0_t12_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t12
  let v4891 : Index := Scalar.indexCast arg11
  let c48 : Index := 48#32
  ![11, v4891.toNat, 48]
def k0_off71 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c8_i32_588 : BitVec 32 := 8#32
  let v788 : BitVec 32 := Scalar.addi v4 c8_i32_588
  let c0_i32_593 : BitVec 32 := 0#32
  let c0_i32_594 : BitVec 32 := 0#32
  ![v2.toNat, v788.toNat, 0, 0]

def k0_chk37 (v814 : IVec S16 32) : Prop :=
  (∀ a x, ((![v814] : Fin 1 → IVec S16 32) a x).toNat < S1536.size a)
theorem k0_idx17_inb : ∀ (v814 : IVec S16 32) (k0_hw37 : k0_chk37 v814), ∀ a x, ((![v814] : Fin 1 → IVec S16 32) a x).toNat < S1536.size a := fun v814 k0_hw37 => k0_hw37

def k0_chk38 (v811 : IVec S16 32) : Prop :=
  (∀ a x, ((![v811] : Fin 1 → IVec S16 32) a x).toNat < S384.size a)
theorem k0_idx18_inb : ∀ (v811 : IVec S16 32) (k0_hw38 : k0_chk38 v811), ∀ a x, ((![v811] : Fin 1 → IVec S16 32) a x).toNat < S384.size a := fun v811 k0_hw38 => k0_hw38
def k0_off72 (i : grid0.Coords) (v823 : BitVec 32) : Fin 4 → Nat :=
  let c0_i32_618 : BitVec 32 := 0#32
  let v824 : BitVec 1 := Scalar.cmpi .ne v823 c0_i32_618
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_619 : BitVec 32 := 1#32
  let v825 : BitVec 32 := Scalar.xori v2 c1_i32_619
  let v826 : BitVec 32 := Scalar.select v824 v825 v2
  let c3_i32 : BitVec 32 := 3#32
  let v3 : BitVec 32 := Scalar.andi v1 c3_i32
  let c96_i32 : BitVec 32 := 96#32
  let v4 : BitVec 32 := Scalar.muli v3 c96_i32
  let c20_i32 : BitVec 32 := 20#32
  let v806 : BitVec 32 := Scalar.addi v4 c20_i32
  let c0_i32_620 : BitVec 32 := 0#32
  let v827 : BitVec 32 := Scalar.addi v806 c0_i32_620
  let c0_i32_625 : BitVec 32 := 0#32
  let c0_i32_626 : BitVec 32 := 0#32
  ![v826.toNat, v827.toNat, 0, 0]

def k0_chk39 (i : grid0.Coords) (v823 : BitVec 32) : Prop :=
  (∀ a, (k0_off72 i v823) a + S1x1x64x64.size a ≤ S8x384x64x64.size a)
theorem k0_off72_inb : ∀ (i : grid0.Coords) (v823 : BitVec 32) (k0_hw39 : k0_chk39 i v823), ∀ a, (k0_off72 i v823) a + S1x1x64x64.size a ≤ S8x384x64x64.size a := fun i v823 k0_hw39 => k0_hw39

def k0_off73 (i : grid0.Coords) (v844 : BitVec 32) : Fin 4 → Nat :=
  let c0_i32_634 : BitVec 32 := 0#32
  let v845 : BitVec 1 := Scalar.cmpi .ne v844 c0_i32_634
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_635 : BitVec 32 := 1#32
  let v846 : BitVec 32 := Scalar.xori v2 c1_i32_635
  let v847 : BitVec 32 := Scalar.select v845 v846 v2
  let c3_i32 : BitVec 32 := 3#32
  let v3 : BitVec 32 := Scalar.andi v1 c3_i32
  let c96_i32 : BitVec 32 := 96#32
  let v4 : BitVec 32 := Scalar.muli v3 c96_i32
  let c20_i32 : BitVec 32 := 20#32
  let v806 : BitVec 32 := Scalar.addi v4 c20_i32
  let c1_i32_636 : BitVec 32 := 1#32
  let v848 : BitVec 32 := Scalar.addi v806 c1_i32_636
  let c0_i32_641 : BitVec 32 := 0#32
  let c0_i32_642 : BitVec 32 := 0#32
  ![v847.toNat, v848.toNat, 0, 0]

def k0_chk40 (i : grid0.Coords) (v844 : BitVec 32) : Prop :=
  (∀ a, (k0_off73 i v844) a + S1x1x64x64.size a ≤ S8x384x64x64.size a)
theorem k0_off73_inb : ∀ (i : grid0.Coords) (v844 : BitVec 32) (k0_hw40 : k0_chk40 i v844), ∀ a, (k0_off73 i v844) a + S1x1x64x64.size a ≤ S8x384x64x64.size a := fun i v844 k0_hw40 => k0_hw40

def k0_off74 (i : grid0.Coords) (v865 : BitVec 32) : Fin 4 → Nat :=
  let c0_i32_650 : BitVec 32 := 0#32
  let v866 : BitVec 1 := Scalar.cmpi .ne v865 c0_i32_650
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_651 : BitVec 32 := 1#32
  let v867 : BitVec 32 := Scalar.xori v2 c1_i32_651
  let v868 : BitVec 32 := Scalar.select v866 v867 v2
  let c3_i32 : BitVec 32 := 3#32
  let v3 : BitVec 32 := Scalar.andi v1 c3_i32
  let c96_i32 : BitVec 32 := 96#32
  let v4 : BitVec 32 := Scalar.muli v3 c96_i32
  let c20_i32 : BitVec 32 := 20#32
  let v806 : BitVec 32 := Scalar.addi v4 c20_i32
  let c2_i32_652 : BitVec 32 := 2#32
  let v869 : BitVec 32 := Scalar.addi v806 c2_i32_652
  let c0_i32_657 : BitVec 32 := 0#32
  let c0_i32_658 : BitVec 32 := 0#32
  ![v868.toNat, v869.toNat, 0, 0]

def k0_chk41 (i : grid0.Coords) (v865 : BitVec 32) : Prop :=
  (∀ a, (k0_off74 i v865) a + S1x1x64x64.size a ≤ S8x384x64x64.size a)
theorem k0_off74_inb : ∀ (i : grid0.Coords) (v865 : BitVec 32) (k0_hw41 : k0_chk41 i v865), ∀ a, (k0_off74 i v865) a + S1x1x64x64.size a ≤ S8x384x64x64.size a := fun i v865 k0_hw41 => k0_hw41

def k0_off75 (i : grid0.Coords) (v886 : BitVec 32) : Fin 4 → Nat :=
  let c0_i32_666 : BitVec 32 := 0#32
  let v887 : BitVec 1 := Scalar.cmpi .ne v886 c0_i32_666
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_667 : BitVec 32 := 1#32
  let v888 : BitVec 32 := Scalar.xori v2 c1_i32_667
  let v889 : BitVec 32 := Scalar.select v887 v888 v2
  let c3_i32 : BitVec 32 := 3#32
  let v3 : BitVec 32 := Scalar.andi v1 c3_i32
  let c96_i32 : BitVec 32 := 96#32
  let v4 : BitVec 32 := Scalar.muli v3 c96_i32
  let c20_i32 : BitVec 32 := 20#32
  let v806 : BitVec 32 := Scalar.addi v4 c20_i32
  let c3_i32_668 : BitVec 32 := 3#32
  let v890 : BitVec 32 := Scalar.addi v806 c3_i32_668
  let c0_i32_673 : BitVec 32 := 0#32
  let c0_i32_674 : BitVec 32 := 0#32
  ![v889.toNat, v890.toNat, 0, 0]

def k0_chk42 (i : grid0.Coords) (v886 : BitVec 32) : Prop :=
  (∀ a, (k0_off75 i v886) a + S1x1x64x64.size a ≤ S8x384x64x64.size a)
theorem k0_off75_inb : ∀ (i : grid0.Coords) (v886 : BitVec 32) (k0_hw42 : k0_chk42 i v886), ∀ a, (k0_off75 i v886) a + S1x1x64x64.size a ≤ S8x384x64x64.size a := fun i v886 k0_hw42 => k0_hw42

def k0_chk43 (v948 : IVec S16 32) : Prop :=
  (∀ a x, ((![v948] : Fin 1 → IVec S16 32) a x).toNat < S1536.size a)
theorem k0_idx19_inb : ∀ (v948 : IVec S16 32) (k0_hw43 : k0_chk43 v948), ∀ a x, ((![v948] : Fin 1 → IVec S16 32) a x).toNat < S1536.size a := fun v948 k0_hw43 => k0_hw43

def k0_chk44 (v945 : IVec S16 32) : Prop :=
  (∀ a x, ((![v945] : Fin 1 → IVec S16 32) a x).toNat < S384.size a)
theorem k0_idx20_inb : ∀ (v945 : IVec S16 32) (k0_hw44 : k0_chk44 v945), ∀ a x, ((![v945] : Fin 1 → IVec S16 32) a x).toNat < S384.size a := fun v945 k0_hw44 => k0_hw44
@[reducible] def k0_t13_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off76 (k0_t13 : Fin k0_t13_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t13
  let v4882 : Index := Scalar.indexCast arg11
  let c0 : Index := 0#32
  ![0, v4882.toNat, 0]
def k0_off77 (k0_t13 : Fin k0_t13_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t13
  let v4885 : Index := Scalar.indexCast arg11
  let c16 : Index := 16#32
  ![0, v4885.toNat, 16]
def k0_off78 (k0_t13 : Fin k0_t13_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t13
  let v4888 : Index := Scalar.indexCast arg11
  let c32 : Index := 32#32
  ![0, v4888.toNat, 32]
def k0_off79 (k0_t13 : Fin k0_t13_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t13
  let v4891 : Index := Scalar.indexCast arg11
  let c48 : Index := 48#32
  ![0, v4891.toNat, 48]
@[reducible] def k0_t14_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off80 (k0_t14 : Fin k0_t14_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t14
  let v4882 : Index := Scalar.indexCast arg11
  let c0 : Index := 0#32
  ![1, v4882.toNat, 0]
def k0_off81 (k0_t14 : Fin k0_t14_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t14
  let v4885 : Index := Scalar.indexCast arg11
  let c16 : Index := 16#32
  ![1, v4885.toNat, 16]
def k0_off82 (k0_t14 : Fin k0_t14_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t14
  let v4888 : Index := Scalar.indexCast arg11
  let c32 : Index := 32#32
  ![1, v4888.toNat, 32]
def k0_off83 (k0_t14 : Fin k0_t14_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t14
  let v4891 : Index := Scalar.indexCast arg11
  let c48 : Index := 48#32
  ![1, v4891.toNat, 48]
@[reducible] def k0_t15_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off84 (k0_t15 : Fin k0_t15_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t15
  let v4882 : Index := Scalar.indexCast arg11
  let c0 : Index := 0#32
  ![2, v4882.toNat, 0]
def k0_off85 (k0_t15 : Fin k0_t15_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t15
  let v4885 : Index := Scalar.indexCast arg11
  let c16 : Index := 16#32
  ![2, v4885.toNat, 16]
def k0_off86 (k0_t15 : Fin k0_t15_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t15
  let v4888 : Index := Scalar.indexCast arg11
  let c32 : Index := 32#32
  ![2, v4888.toNat, 32]
def k0_off87 (k0_t15 : Fin k0_t15_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t15
  let v4891 : Index := Scalar.indexCast arg11
  let c48 : Index := 48#32
  ![2, v4891.toNat, 48]
@[reducible] def k0_t16_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off88 (k0_t16 : Fin k0_t16_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t16
  let v4882 : Index := Scalar.indexCast arg11
  let c0 : Index := 0#32
  ![3, v4882.toNat, 0]
def k0_off89 (k0_t16 : Fin k0_t16_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t16
  let v4885 : Index := Scalar.indexCast arg11
  let c16 : Index := 16#32
  ![3, v4885.toNat, 16]
def k0_off90 (k0_t16 : Fin k0_t16_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t16
  let v4888 : Index := Scalar.indexCast arg11
  let c32 : Index := 32#32
  ![3, v4888.toNat, 32]
def k0_off91 (k0_t16 : Fin k0_t16_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t16
  let v4891 : Index := Scalar.indexCast arg11
  let c48 : Index := 48#32
  ![3, v4891.toNat, 48]
def k0_off92 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c12_i32_750 : BitVec 32 := 12#32
  let v991 : BitVec 32 := Scalar.addi v4 c12_i32_750
  let c0_i32_755 : BitVec 32 := 0#32
  let c0_i32_756 : BitVec 32 := 0#32
  ![v2.toNat, v991.toNat, 0, 0]

def k0_chk45 (v1017 : IVec S16 32) : Prop :=
  (∀ a x, ((![v1017] : Fin 1 → IVec S16 32) a x).toNat < S1536.size a)
theorem k0_idx21_inb : ∀ (v1017 : IVec S16 32) (k0_hw45 : k0_chk45 v1017), ∀ a x, ((![v1017] : Fin 1 → IVec S16 32) a x).toNat < S1536.size a := fun v1017 k0_hw45 => k0_hw45

def k0_chk46 (v1014 : IVec S16 32) : Prop :=
  (∀ a x, ((![v1014] : Fin 1 → IVec S16 32) a x).toNat < S384.size a)
theorem k0_idx22_inb : ∀ (v1014 : IVec S16 32) (k0_hw46 : k0_chk46 v1014), ∀ a x, ((![v1014] : Fin 1 → IVec S16 32) a x).toNat < S384.size a := fun v1014 k0_hw46 => k0_hw46
def k0_off93 (i : grid0.Coords) (v1026 : BitVec 32) : Fin 4 → Nat :=
  let c0_i32_780 : BitVec 32 := 0#32
  let v1027 : BitVec 1 := Scalar.cmpi .ne v1026 c0_i32_780
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_781 : BitVec 32 := 1#32
  let v1028 : BitVec 32 := Scalar.xori v2 c1_i32_781
  let v1029 : BitVec 32 := Scalar.select v1027 v1028 v2
  let c3_i32 : BitVec 32 := 3#32
  let v3 : BitVec 32 := Scalar.andi v1 c3_i32
  let c96_i32 : BitVec 32 := 96#32
  let v4 : BitVec 32 := Scalar.muli v3 c96_i32
  let c24_i32 : BitVec 32 := 24#32
  let v1009 : BitVec 32 := Scalar.addi v4 c24_i32
  let c0_i32_782 : BitVec 32 := 0#32
  let v1030 : BitVec 32 := Scalar.addi v1009 c0_i32_782
  let c0_i32_787 : BitVec 32 := 0#32
  let c0_i32_788 : BitVec 32 := 0#32
  ![v1029.toNat, v1030.toNat, 0, 0]

def k0_chk47 (i : grid0.Coords) (v1026 : BitVec 32) : Prop :=
  (∀ a, (k0_off93 i v1026) a + S1x1x64x64.size a ≤ S8x384x64x64.size a)
theorem k0_off93_inb : ∀ (i : grid0.Coords) (v1026 : BitVec 32) (k0_hw47 : k0_chk47 i v1026), ∀ a, (k0_off93 i v1026) a + S1x1x64x64.size a ≤ S8x384x64x64.size a := fun i v1026 k0_hw47 => k0_hw47

def k0_off94 (i : grid0.Coords) (v1047 : BitVec 32) : Fin 4 → Nat :=
  let c0_i32_796 : BitVec 32 := 0#32
  let v1048 : BitVec 1 := Scalar.cmpi .ne v1047 c0_i32_796
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_797 : BitVec 32 := 1#32
  let v1049 : BitVec 32 := Scalar.xori v2 c1_i32_797
  let v1050 : BitVec 32 := Scalar.select v1048 v1049 v2
  let c3_i32 : BitVec 32 := 3#32
  let v3 : BitVec 32 := Scalar.andi v1 c3_i32
  let c96_i32 : BitVec 32 := 96#32
  let v4 : BitVec 32 := Scalar.muli v3 c96_i32
  let c24_i32 : BitVec 32 := 24#32
  let v1009 : BitVec 32 := Scalar.addi v4 c24_i32
  let c1_i32_798 : BitVec 32 := 1#32
  let v1051 : BitVec 32 := Scalar.addi v1009 c1_i32_798
  let c0_i32_803 : BitVec 32 := 0#32
  let c0_i32_804 : BitVec 32 := 0#32
  ![v1050.toNat, v1051.toNat, 0, 0]

def k0_chk48 (i : grid0.Coords) (v1047 : BitVec 32) : Prop :=
  (∀ a, (k0_off94 i v1047) a + S1x1x64x64.size a ≤ S8x384x64x64.size a)
theorem k0_off94_inb : ∀ (i : grid0.Coords) (v1047 : BitVec 32) (k0_hw48 : k0_chk48 i v1047), ∀ a, (k0_off94 i v1047) a + S1x1x64x64.size a ≤ S8x384x64x64.size a := fun i v1047 k0_hw48 => k0_hw48

def k0_off95 (i : grid0.Coords) (v1068 : BitVec 32) : Fin 4 → Nat :=
  let c0_i32_812 : BitVec 32 := 0#32
  let v1069 : BitVec 1 := Scalar.cmpi .ne v1068 c0_i32_812
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_813 : BitVec 32 := 1#32
  let v1070 : BitVec 32 := Scalar.xori v2 c1_i32_813
  let v1071 : BitVec 32 := Scalar.select v1069 v1070 v2
  let c3_i32 : BitVec 32 := 3#32
  let v3 : BitVec 32 := Scalar.andi v1 c3_i32
  let c96_i32 : BitVec 32 := 96#32
  let v4 : BitVec 32 := Scalar.muli v3 c96_i32
  let c24_i32 : BitVec 32 := 24#32
  let v1009 : BitVec 32 := Scalar.addi v4 c24_i32
  let c2_i32_814 : BitVec 32 := 2#32
  let v1072 : BitVec 32 := Scalar.addi v1009 c2_i32_814
  let c0_i32_819 : BitVec 32 := 0#32
  let c0_i32_820 : BitVec 32 := 0#32
  ![v1071.toNat, v1072.toNat, 0, 0]

def k0_chk49 (i : grid0.Coords) (v1068 : BitVec 32) : Prop :=
  (∀ a, (k0_off95 i v1068) a + S1x1x64x64.size a ≤ S8x384x64x64.size a)
theorem k0_off95_inb : ∀ (i : grid0.Coords) (v1068 : BitVec 32) (k0_hw49 : k0_chk49 i v1068), ∀ a, (k0_off95 i v1068) a + S1x1x64x64.size a ≤ S8x384x64x64.size a := fun i v1068 k0_hw49 => k0_hw49

def k0_off96 (i : grid0.Coords) (v1089 : BitVec 32) : Fin 4 → Nat :=
  let c0_i32_828 : BitVec 32 := 0#32
  let v1090 : BitVec 1 := Scalar.cmpi .ne v1089 c0_i32_828
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_829 : BitVec 32 := 1#32
  let v1091 : BitVec 32 := Scalar.xori v2 c1_i32_829
  let v1092 : BitVec 32 := Scalar.select v1090 v1091 v2
  let c3_i32 : BitVec 32 := 3#32
  let v3 : BitVec 32 := Scalar.andi v1 c3_i32
  let c96_i32 : BitVec 32 := 96#32
  let v4 : BitVec 32 := Scalar.muli v3 c96_i32
  let c24_i32 : BitVec 32 := 24#32
  let v1009 : BitVec 32 := Scalar.addi v4 c24_i32
  let c3_i32_830 : BitVec 32 := 3#32
  let v1093 : BitVec 32 := Scalar.addi v1009 c3_i32_830
  let c0_i32_835 : BitVec 32 := 0#32
  let c0_i32_836 : BitVec 32 := 0#32
  ![v1092.toNat, v1093.toNat, 0, 0]

def k0_chk50 (i : grid0.Coords) (v1089 : BitVec 32) : Prop :=
  (∀ a, (k0_off96 i v1089) a + S1x1x64x64.size a ≤ S8x384x64x64.size a)
theorem k0_off96_inb : ∀ (i : grid0.Coords) (v1089 : BitVec 32) (k0_hw50 : k0_chk50 i v1089), ∀ a, (k0_off96 i v1089) a + S1x1x64x64.size a ≤ S8x384x64x64.size a := fun i v1089 k0_hw50 => k0_hw50

def k0_chk51 (v1151 : IVec S16 32) : Prop :=
  (∀ a x, ((![v1151] : Fin 1 → IVec S16 32) a x).toNat < S1536.size a)
theorem k0_idx23_inb : ∀ (v1151 : IVec S16 32) (k0_hw51 : k0_chk51 v1151), ∀ a x, ((![v1151] : Fin 1 → IVec S16 32) a x).toNat < S1536.size a := fun v1151 k0_hw51 => k0_hw51

def k0_chk52 (v1148 : IVec S16 32) : Prop :=
  (∀ a x, ((![v1148] : Fin 1 → IVec S16 32) a x).toNat < S384.size a)
theorem k0_idx24_inb : ∀ (v1148 : IVec S16 32) (k0_hw52 : k0_chk52 v1148), ∀ a x, ((![v1148] : Fin 1 → IVec S16 32) a x).toNat < S384.size a := fun v1148 k0_hw52 => k0_hw52
@[reducible] def k0_t17_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off97 (k0_t17 : Fin k0_t17_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t17
  let v4882 : Index := Scalar.indexCast arg11
  let c0 : Index := 0#32
  ![4, v4882.toNat, 0]
def k0_off98 (k0_t17 : Fin k0_t17_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t17
  let v4885 : Index := Scalar.indexCast arg11
  let c16 : Index := 16#32
  ![4, v4885.toNat, 16]
def k0_off99 (k0_t17 : Fin k0_t17_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t17
  let v4888 : Index := Scalar.indexCast arg11
  let c32 : Index := 32#32
  ![4, v4888.toNat, 32]
def k0_off100 (k0_t17 : Fin k0_t17_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t17
  let v4891 : Index := Scalar.indexCast arg11
  let c48 : Index := 48#32
  ![4, v4891.toNat, 48]
@[reducible] def k0_t18_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off101 (k0_t18 : Fin k0_t18_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t18
  let v4882 : Index := Scalar.indexCast arg11
  let c0 : Index := 0#32
  ![5, v4882.toNat, 0]
def k0_off102 (k0_t18 : Fin k0_t18_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t18
  let v4885 : Index := Scalar.indexCast arg11
  let c16 : Index := 16#32
  ![5, v4885.toNat, 16]
def k0_off103 (k0_t18 : Fin k0_t18_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t18
  let v4888 : Index := Scalar.indexCast arg11
  let c32 : Index := 32#32
  ![5, v4888.toNat, 32]
def k0_off104 (k0_t18 : Fin k0_t18_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t18
  let v4891 : Index := Scalar.indexCast arg11
  let c48 : Index := 48#32
  ![5, v4891.toNat, 48]
@[reducible] def k0_t19_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off105 (k0_t19 : Fin k0_t19_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t19
  let v4882 : Index := Scalar.indexCast arg11
  let c0 : Index := 0#32
  ![6, v4882.toNat, 0]
def k0_off106 (k0_t19 : Fin k0_t19_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t19
  let v4885 : Index := Scalar.indexCast arg11
  let c16 : Index := 16#32
  ![6, v4885.toNat, 16]
def k0_off107 (k0_t19 : Fin k0_t19_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t19
  let v4888 : Index := Scalar.indexCast arg11
  let c32 : Index := 32#32
  ![6, v4888.toNat, 32]
def k0_off108 (k0_t19 : Fin k0_t19_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t19
  let v4891 : Index := Scalar.indexCast arg11
  let c48 : Index := 48#32
  ![6, v4891.toNat, 48]
@[reducible] def k0_t20_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off109 (k0_t20 : Fin k0_t20_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t20
  let v4882 : Index := Scalar.indexCast arg11
  let c0 : Index := 0#32
  ![7, v4882.toNat, 0]
def k0_off110 (k0_t20 : Fin k0_t20_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t20
  let v4885 : Index := Scalar.indexCast arg11
  let c16 : Index := 16#32
  ![7, v4885.toNat, 16]
def k0_off111 (k0_t20 : Fin k0_t20_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t20
  let v4888 : Index := Scalar.indexCast arg11
  let c32 : Index := 32#32
  ![7, v4888.toNat, 32]
def k0_off112 (k0_t20 : Fin k0_t20_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t20
  let v4891 : Index := Scalar.indexCast arg11
  let c48 : Index := 48#32
  ![7, v4891.toNat, 48]
def k0_off113 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c16_i32_912 : BitVec 32 := 16#32
  let v1194 : BitVec 32 := Scalar.addi v4 c16_i32_912
  let c0_i32_917 : BitVec 32 := 0#32
  let c0_i32_918 : BitVec 32 := 0#32
  ![v2.toNat, v1194.toNat, 0, 0]

def k0_chk53 (v1220 : IVec S16 32) : Prop :=
  (∀ a x, ((![v1220] : Fin 1 → IVec S16 32) a x).toNat < S1536.size a)
theorem k0_idx25_inb : ∀ (v1220 : IVec S16 32) (k0_hw53 : k0_chk53 v1220), ∀ a x, ((![v1220] : Fin 1 → IVec S16 32) a x).toNat < S1536.size a := fun v1220 k0_hw53 => k0_hw53

def k0_chk54 (v1217 : IVec S16 32) : Prop :=
  (∀ a x, ((![v1217] : Fin 1 → IVec S16 32) a x).toNat < S384.size a)
theorem k0_idx26_inb : ∀ (v1217 : IVec S16 32) (k0_hw54 : k0_chk54 v1217), ∀ a x, ((![v1217] : Fin 1 → IVec S16 32) a x).toNat < S384.size a := fun v1217 k0_hw54 => k0_hw54
def k0_off114 (i : grid0.Coords) (v1229 : BitVec 32) : Fin 4 → Nat :=
  let c0_i32_942 : BitVec 32 := 0#32
  let v1230 : BitVec 1 := Scalar.cmpi .ne v1229 c0_i32_942
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_943 : BitVec 32 := 1#32
  let v1231 : BitVec 32 := Scalar.xori v2 c1_i32_943
  let v1232 : BitVec 32 := Scalar.select v1230 v1231 v2
  let c3_i32 : BitVec 32 := 3#32
  let v3 : BitVec 32 := Scalar.andi v1 c3_i32
  let c96_i32 : BitVec 32 := 96#32
  let v4 : BitVec 32 := Scalar.muli v3 c96_i32
  let c28_i32 : BitVec 32 := 28#32
  let v1212 : BitVec 32 := Scalar.addi v4 c28_i32
  let c0_i32_944 : BitVec 32 := 0#32
  let v1233 : BitVec 32 := Scalar.addi v1212 c0_i32_944
  let c0_i32_949 : BitVec 32 := 0#32
  let c0_i32_950 : BitVec 32 := 0#32
  ![v1232.toNat, v1233.toNat, 0, 0]

def k0_chk55 (i : grid0.Coords) (v1229 : BitVec 32) : Prop :=
  (∀ a, (k0_off114 i v1229) a + S1x1x64x64.size a ≤ S8x384x64x64.size a)
theorem k0_off114_inb : ∀ (i : grid0.Coords) (v1229 : BitVec 32) (k0_hw55 : k0_chk55 i v1229), ∀ a, (k0_off114 i v1229) a + S1x1x64x64.size a ≤ S8x384x64x64.size a := fun i v1229 k0_hw55 => k0_hw55

def k0_off115 (i : grid0.Coords) (v1250 : BitVec 32) : Fin 4 → Nat :=
  let c0_i32_958 : BitVec 32 := 0#32
  let v1251 : BitVec 1 := Scalar.cmpi .ne v1250 c0_i32_958
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_959 : BitVec 32 := 1#32
  let v1252 : BitVec 32 := Scalar.xori v2 c1_i32_959
  let v1253 : BitVec 32 := Scalar.select v1251 v1252 v2
  let c3_i32 : BitVec 32 := 3#32
  let v3 : BitVec 32 := Scalar.andi v1 c3_i32
  let c96_i32 : BitVec 32 := 96#32
  let v4 : BitVec 32 := Scalar.muli v3 c96_i32
  let c28_i32 : BitVec 32 := 28#32
  let v1212 : BitVec 32 := Scalar.addi v4 c28_i32
  let c1_i32_960 : BitVec 32 := 1#32
  let v1254 : BitVec 32 := Scalar.addi v1212 c1_i32_960
  let c0_i32_965 : BitVec 32 := 0#32
  let c0_i32_966 : BitVec 32 := 0#32
  ![v1253.toNat, v1254.toNat, 0, 0]

def k0_chk56 (i : grid0.Coords) (v1250 : BitVec 32) : Prop :=
  (∀ a, (k0_off115 i v1250) a + S1x1x64x64.size a ≤ S8x384x64x64.size a)
theorem k0_off115_inb : ∀ (i : grid0.Coords) (v1250 : BitVec 32) (k0_hw56 : k0_chk56 i v1250), ∀ a, (k0_off115 i v1250) a + S1x1x64x64.size a ≤ S8x384x64x64.size a := fun i v1250 k0_hw56 => k0_hw56

def k0_off116 (i : grid0.Coords) (v1271 : BitVec 32) : Fin 4 → Nat :=
  let c0_i32_974 : BitVec 32 := 0#32
  let v1272 : BitVec 1 := Scalar.cmpi .ne v1271 c0_i32_974
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_975 : BitVec 32 := 1#32
  let v1273 : BitVec 32 := Scalar.xori v2 c1_i32_975
  let v1274 : BitVec 32 := Scalar.select v1272 v1273 v2
  let c3_i32 : BitVec 32 := 3#32
  let v3 : BitVec 32 := Scalar.andi v1 c3_i32
  let c96_i32 : BitVec 32 := 96#32
  let v4 : BitVec 32 := Scalar.muli v3 c96_i32
  let c28_i32 : BitVec 32 := 28#32
  let v1212 : BitVec 32 := Scalar.addi v4 c28_i32
  let c2_i32_976 : BitVec 32 := 2#32
  let v1275 : BitVec 32 := Scalar.addi v1212 c2_i32_976
  let c0_i32_981 : BitVec 32 := 0#32
  let c0_i32_982 : BitVec 32 := 0#32
  ![v1274.toNat, v1275.toNat, 0, 0]

def k0_chk57 (i : grid0.Coords) (v1271 : BitVec 32) : Prop :=
  (∀ a, (k0_off116 i v1271) a + S1x1x64x64.size a ≤ S8x384x64x64.size a)
theorem k0_off116_inb : ∀ (i : grid0.Coords) (v1271 : BitVec 32) (k0_hw57 : k0_chk57 i v1271), ∀ a, (k0_off116 i v1271) a + S1x1x64x64.size a ≤ S8x384x64x64.size a := fun i v1271 k0_hw57 => k0_hw57

def k0_off117 (i : grid0.Coords) (v1292 : BitVec 32) : Fin 4 → Nat :=
  let c0_i32_990 : BitVec 32 := 0#32
  let v1293 : BitVec 1 := Scalar.cmpi .ne v1292 c0_i32_990
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_991 : BitVec 32 := 1#32
  let v1294 : BitVec 32 := Scalar.xori v2 c1_i32_991
  let v1295 : BitVec 32 := Scalar.select v1293 v1294 v2
  let c3_i32 : BitVec 32 := 3#32
  let v3 : BitVec 32 := Scalar.andi v1 c3_i32
  let c96_i32 : BitVec 32 := 96#32
  let v4 : BitVec 32 := Scalar.muli v3 c96_i32
  let c28_i32 : BitVec 32 := 28#32
  let v1212 : BitVec 32 := Scalar.addi v4 c28_i32
  let c3_i32_992 : BitVec 32 := 3#32
  let v1296 : BitVec 32 := Scalar.addi v1212 c3_i32_992
  let c0_i32_997 : BitVec 32 := 0#32
  let c0_i32_998 : BitVec 32 := 0#32
  ![v1295.toNat, v1296.toNat, 0, 0]

def k0_chk58 (i : grid0.Coords) (v1292 : BitVec 32) : Prop :=
  (∀ a, (k0_off117 i v1292) a + S1x1x64x64.size a ≤ S8x384x64x64.size a)
theorem k0_off117_inb : ∀ (i : grid0.Coords) (v1292 : BitVec 32) (k0_hw58 : k0_chk58 i v1292), ∀ a, (k0_off117 i v1292) a + S1x1x64x64.size a ≤ S8x384x64x64.size a := fun i v1292 k0_hw58 => k0_hw58

def k0_chk59 (v1354 : IVec S16 32) : Prop :=
  (∀ a x, ((![v1354] : Fin 1 → IVec S16 32) a x).toNat < S1536.size a)
theorem k0_idx27_inb : ∀ (v1354 : IVec S16 32) (k0_hw59 : k0_chk59 v1354), ∀ a x, ((![v1354] : Fin 1 → IVec S16 32) a x).toNat < S1536.size a := fun v1354 k0_hw59 => k0_hw59

def k0_chk60 (v1351 : IVec S16 32) : Prop :=
  (∀ a x, ((![v1351] : Fin 1 → IVec S16 32) a x).toNat < S384.size a)
theorem k0_idx28_inb : ∀ (v1351 : IVec S16 32) (k0_hw60 : k0_chk60 v1351), ∀ a x, ((![v1351] : Fin 1 → IVec S16 32) a x).toNat < S384.size a := fun v1351 k0_hw60 => k0_hw60
@[reducible] def k0_t21_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off118 (k0_t21 : Fin k0_t21_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t21
  let v4882 : Index := Scalar.indexCast arg11
  let c0 : Index := 0#32
  ![8, v4882.toNat, 0]
def k0_off119 (k0_t21 : Fin k0_t21_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t21
  let v4885 : Index := Scalar.indexCast arg11
  let c16 : Index := 16#32
  ![8, v4885.toNat, 16]
def k0_off120 (k0_t21 : Fin k0_t21_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t21
  let v4888 : Index := Scalar.indexCast arg11
  let c32 : Index := 32#32
  ![8, v4888.toNat, 32]
def k0_off121 (k0_t21 : Fin k0_t21_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t21
  let v4891 : Index := Scalar.indexCast arg11
  let c48 : Index := 48#32
  ![8, v4891.toNat, 48]
@[reducible] def k0_t22_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off122 (k0_t22 : Fin k0_t22_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t22
  let v4882 : Index := Scalar.indexCast arg11
  let c0 : Index := 0#32
  ![9, v4882.toNat, 0]
def k0_off123 (k0_t22 : Fin k0_t22_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t22
  let v4885 : Index := Scalar.indexCast arg11
  let c16 : Index := 16#32
  ![9, v4885.toNat, 16]
def k0_off124 (k0_t22 : Fin k0_t22_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t22
  let v4888 : Index := Scalar.indexCast arg11
  let c32 : Index := 32#32
  ![9, v4888.toNat, 32]
def k0_off125 (k0_t22 : Fin k0_t22_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t22
  let v4891 : Index := Scalar.indexCast arg11
  let c48 : Index := 48#32
  ![9, v4891.toNat, 48]
@[reducible] def k0_t23_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off126 (k0_t23 : Fin k0_t23_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t23
  let v4882 : Index := Scalar.indexCast arg11
  let c0 : Index := 0#32
  ![10, v4882.toNat, 0]
def k0_off127 (k0_t23 : Fin k0_t23_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t23
  let v4885 : Index := Scalar.indexCast arg11
  let c16 : Index := 16#32
  ![10, v4885.toNat, 16]
def k0_off128 (k0_t23 : Fin k0_t23_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t23
  let v4888 : Index := Scalar.indexCast arg11
  let c32 : Index := 32#32
  ![10, v4888.toNat, 32]
def k0_off129 (k0_t23 : Fin k0_t23_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t23
  let v4891 : Index := Scalar.indexCast arg11
  let c48 : Index := 48#32
  ![10, v4891.toNat, 48]
@[reducible] def k0_t24_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off130 (k0_t24 : Fin k0_t24_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t24
  let v4882 : Index := Scalar.indexCast arg11
  let c0 : Index := 0#32
  ![11, v4882.toNat, 0]
def k0_off131 (k0_t24 : Fin k0_t24_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t24
  let v4885 : Index := Scalar.indexCast arg11
  let c16 : Index := 16#32
  ![11, v4885.toNat, 16]
def k0_off132 (k0_t24 : Fin k0_t24_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t24
  let v4888 : Index := Scalar.indexCast arg11
  let c32 : Index := 32#32
  ![11, v4888.toNat, 32]
def k0_off133 (k0_t24 : Fin k0_t24_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t24
  let v4891 : Index := Scalar.indexCast arg11
  let c48 : Index := 48#32
  ![11, v4891.toNat, 48]
def k0_off134 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c20_i32_1074 : BitVec 32 := 20#32
  let v1397 : BitVec 32 := Scalar.addi v4 c20_i32_1074
  let c0_i32_1079 : BitVec 32 := 0#32
  let c0_i32_1080 : BitVec 32 := 0#32
  ![v2.toNat, v1397.toNat, 0, 0]

def k0_chk61 (v1423 : IVec S16 32) : Prop :=
  (∀ a x, ((![v1423] : Fin 1 → IVec S16 32) a x).toNat < S1536.size a)
theorem k0_idx29_inb : ∀ (v1423 : IVec S16 32) (k0_hw61 : k0_chk61 v1423), ∀ a x, ((![v1423] : Fin 1 → IVec S16 32) a x).toNat < S1536.size a := fun v1423 k0_hw61 => k0_hw61

def k0_chk62 (v1420 : IVec S16 32) : Prop :=
  (∀ a x, ((![v1420] : Fin 1 → IVec S16 32) a x).toNat < S384.size a)
theorem k0_idx30_inb : ∀ (v1420 : IVec S16 32) (k0_hw62 : k0_chk62 v1420), ∀ a x, ((![v1420] : Fin 1 → IVec S16 32) a x).toNat < S384.size a := fun v1420 k0_hw62 => k0_hw62
def k0_off135 (i : grid0.Coords) (v1432 : BitVec 32) : Fin 4 → Nat :=
  let c0_i32_1104 : BitVec 32 := 0#32
  let v1433 : BitVec 1 := Scalar.cmpi .ne v1432 c0_i32_1104
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1105 : BitVec 32 := 1#32
  let v1434 : BitVec 32 := Scalar.xori v2 c1_i32_1105
  let v1435 : BitVec 32 := Scalar.select v1433 v1434 v2
  let c3_i32 : BitVec 32 := 3#32
  let v3 : BitVec 32 := Scalar.andi v1 c3_i32
  let c96_i32 : BitVec 32 := 96#32
  let v4 : BitVec 32 := Scalar.muli v3 c96_i32
  let c32_i32 : BitVec 32 := 32#32
  let v1415 : BitVec 32 := Scalar.addi v4 c32_i32
  let c0_i32_1106 : BitVec 32 := 0#32
  let v1436 : BitVec 32 := Scalar.addi v1415 c0_i32_1106
  let c0_i32_1111 : BitVec 32 := 0#32
  let c0_i32_1112 : BitVec 32 := 0#32
  ![v1435.toNat, v1436.toNat, 0, 0]

def k0_chk63 (i : grid0.Coords) (v1432 : BitVec 32) : Prop :=
  (∀ a, (k0_off135 i v1432) a + S1x1x64x64.size a ≤ S8x384x64x64.size a)
theorem k0_off135_inb : ∀ (i : grid0.Coords) (v1432 : BitVec 32) (k0_hw63 : k0_chk63 i v1432), ∀ a, (k0_off135 i v1432) a + S1x1x64x64.size a ≤ S8x384x64x64.size a := fun i v1432 k0_hw63 => k0_hw63

def k0_off136 (i : grid0.Coords) (v1453 : BitVec 32) : Fin 4 → Nat :=
  let c0_i32_1120 : BitVec 32 := 0#32
  let v1454 : BitVec 1 := Scalar.cmpi .ne v1453 c0_i32_1120
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1121 : BitVec 32 := 1#32
  let v1455 : BitVec 32 := Scalar.xori v2 c1_i32_1121
  let v1456 : BitVec 32 := Scalar.select v1454 v1455 v2
  let c3_i32 : BitVec 32 := 3#32
  let v3 : BitVec 32 := Scalar.andi v1 c3_i32
  let c96_i32 : BitVec 32 := 96#32
  let v4 : BitVec 32 := Scalar.muli v3 c96_i32
  let c32_i32 : BitVec 32 := 32#32
  let v1415 : BitVec 32 := Scalar.addi v4 c32_i32
  let c1_i32_1122 : BitVec 32 := 1#32
  let v1457 : BitVec 32 := Scalar.addi v1415 c1_i32_1122
  let c0_i32_1127 : BitVec 32 := 0#32
  let c0_i32_1128 : BitVec 32 := 0#32
  ![v1456.toNat, v1457.toNat, 0, 0]

def k0_chk64 (i : grid0.Coords) (v1453 : BitVec 32) : Prop :=
  (∀ a, (k0_off136 i v1453) a + S1x1x64x64.size a ≤ S8x384x64x64.size a)
theorem k0_off136_inb : ∀ (i : grid0.Coords) (v1453 : BitVec 32) (k0_hw64 : k0_chk64 i v1453), ∀ a, (k0_off136 i v1453) a + S1x1x64x64.size a ≤ S8x384x64x64.size a := fun i v1453 k0_hw64 => k0_hw64

def k0_off137 (i : grid0.Coords) (v1474 : BitVec 32) : Fin 4 → Nat :=
  let c0_i32_1136 : BitVec 32 := 0#32
  let v1475 : BitVec 1 := Scalar.cmpi .ne v1474 c0_i32_1136
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1137 : BitVec 32 := 1#32
  let v1476 : BitVec 32 := Scalar.xori v2 c1_i32_1137
  let v1477 : BitVec 32 := Scalar.select v1475 v1476 v2
  let c3_i32 : BitVec 32 := 3#32
  let v3 : BitVec 32 := Scalar.andi v1 c3_i32
  let c96_i32 : BitVec 32 := 96#32
  let v4 : BitVec 32 := Scalar.muli v3 c96_i32
  let c32_i32 : BitVec 32 := 32#32
  let v1415 : BitVec 32 := Scalar.addi v4 c32_i32
  let c2_i32_1138 : BitVec 32 := 2#32
  let v1478 : BitVec 32 := Scalar.addi v1415 c2_i32_1138
  let c0_i32_1143 : BitVec 32 := 0#32
  let c0_i32_1144 : BitVec 32 := 0#32
  ![v1477.toNat, v1478.toNat, 0, 0]

def k0_chk65 (i : grid0.Coords) (v1474 : BitVec 32) : Prop :=
  (∀ a, (k0_off137 i v1474) a + S1x1x64x64.size a ≤ S8x384x64x64.size a)
theorem k0_off137_inb : ∀ (i : grid0.Coords) (v1474 : BitVec 32) (k0_hw65 : k0_chk65 i v1474), ∀ a, (k0_off137 i v1474) a + S1x1x64x64.size a ≤ S8x384x64x64.size a := fun i v1474 k0_hw65 => k0_hw65

def k0_off138 (i : grid0.Coords) (v1495 : BitVec 32) : Fin 4 → Nat :=
  let c0_i32_1152 : BitVec 32 := 0#32
  let v1496 : BitVec 1 := Scalar.cmpi .ne v1495 c0_i32_1152
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1153 : BitVec 32 := 1#32
  let v1497 : BitVec 32 := Scalar.xori v2 c1_i32_1153
  let v1498 : BitVec 32 := Scalar.select v1496 v1497 v2
  let c3_i32 : BitVec 32 := 3#32
  let v3 : BitVec 32 := Scalar.andi v1 c3_i32
  let c96_i32 : BitVec 32 := 96#32
  let v4 : BitVec 32 := Scalar.muli v3 c96_i32
  let c32_i32 : BitVec 32 := 32#32
  let v1415 : BitVec 32 := Scalar.addi v4 c32_i32
  let c3_i32_1154 : BitVec 32 := 3#32
  let v1499 : BitVec 32 := Scalar.addi v1415 c3_i32_1154
  let c0_i32_1159 : BitVec 32 := 0#32
  let c0_i32_1160 : BitVec 32 := 0#32
  ![v1498.toNat, v1499.toNat, 0, 0]

def k0_chk66 (i : grid0.Coords) (v1495 : BitVec 32) : Prop :=
  (∀ a, (k0_off138 i v1495) a + S1x1x64x64.size a ≤ S8x384x64x64.size a)
theorem k0_off138_inb : ∀ (i : grid0.Coords) (v1495 : BitVec 32) (k0_hw66 : k0_chk66 i v1495), ∀ a, (k0_off138 i v1495) a + S1x1x64x64.size a ≤ S8x384x64x64.size a := fun i v1495 k0_hw66 => k0_hw66

def k0_chk67 (v1557 : IVec S16 32) : Prop :=
  (∀ a x, ((![v1557] : Fin 1 → IVec S16 32) a x).toNat < S1536.size a)
theorem k0_idx31_inb : ∀ (v1557 : IVec S16 32) (k0_hw67 : k0_chk67 v1557), ∀ a x, ((![v1557] : Fin 1 → IVec S16 32) a x).toNat < S1536.size a := fun v1557 k0_hw67 => k0_hw67

def k0_chk68 (v1554 : IVec S16 32) : Prop :=
  (∀ a x, ((![v1554] : Fin 1 → IVec S16 32) a x).toNat < S384.size a)
theorem k0_idx32_inb : ∀ (v1554 : IVec S16 32) (k0_hw68 : k0_chk68 v1554), ∀ a x, ((![v1554] : Fin 1 → IVec S16 32) a x).toNat < S384.size a := fun v1554 k0_hw68 => k0_hw68
@[reducible] def k0_t25_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off139 (k0_t25 : Fin k0_t25_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t25
  let v4882 : Index := Scalar.indexCast arg11
  let c0 : Index := 0#32
  ![0, v4882.toNat, 0]
def k0_off140 (k0_t25 : Fin k0_t25_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t25
  let v4885 : Index := Scalar.indexCast arg11
  let c16 : Index := 16#32
  ![0, v4885.toNat, 16]
def k0_off141 (k0_t25 : Fin k0_t25_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t25
  let v4888 : Index := Scalar.indexCast arg11
  let c32 : Index := 32#32
  ![0, v4888.toNat, 32]
def k0_off142 (k0_t25 : Fin k0_t25_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t25
  let v4891 : Index := Scalar.indexCast arg11
  let c48 : Index := 48#32
  ![0, v4891.toNat, 48]
@[reducible] def k0_t26_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off143 (k0_t26 : Fin k0_t26_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t26
  let v4882 : Index := Scalar.indexCast arg11
  let c0 : Index := 0#32
  ![1, v4882.toNat, 0]
def k0_off144 (k0_t26 : Fin k0_t26_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t26
  let v4885 : Index := Scalar.indexCast arg11
  let c16 : Index := 16#32
  ![1, v4885.toNat, 16]
def k0_off145 (k0_t26 : Fin k0_t26_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t26
  let v4888 : Index := Scalar.indexCast arg11
  let c32 : Index := 32#32
  ![1, v4888.toNat, 32]
def k0_off146 (k0_t26 : Fin k0_t26_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t26
  let v4891 : Index := Scalar.indexCast arg11
  let c48 : Index := 48#32
  ![1, v4891.toNat, 48]
@[reducible] def k0_t27_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off147 (k0_t27 : Fin k0_t27_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t27
  let v4882 : Index := Scalar.indexCast arg11
  let c0 : Index := 0#32
  ![2, v4882.toNat, 0]
def k0_off148 (k0_t27 : Fin k0_t27_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t27
  let v4885 : Index := Scalar.indexCast arg11
  let c16 : Index := 16#32
  ![2, v4885.toNat, 16]
def k0_off149 (k0_t27 : Fin k0_t27_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t27
  let v4888 : Index := Scalar.indexCast arg11
  let c32 : Index := 32#32
  ![2, v4888.toNat, 32]
def k0_off150 (k0_t27 : Fin k0_t27_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t27
  let v4891 : Index := Scalar.indexCast arg11
  let c48 : Index := 48#32
  ![2, v4891.toNat, 48]
@[reducible] def k0_t28_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off151 (k0_t28 : Fin k0_t28_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t28
  let v4882 : Index := Scalar.indexCast arg11
  let c0 : Index := 0#32
  ![3, v4882.toNat, 0]
def k0_off152 (k0_t28 : Fin k0_t28_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t28
  let v4885 : Index := Scalar.indexCast arg11
  let c16 : Index := 16#32
  ![3, v4885.toNat, 16]
def k0_off153 (k0_t28 : Fin k0_t28_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t28
  let v4888 : Index := Scalar.indexCast arg11
  let c32 : Index := 32#32
  ![3, v4888.toNat, 32]
def k0_off154 (k0_t28 : Fin k0_t28_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t28
  let v4891 : Index := Scalar.indexCast arg11
  let c48 : Index := 48#32
  ![3, v4891.toNat, 48]
def k0_off155 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c24_i32_1236 : BitVec 32 := 24#32
  let v1600 : BitVec 32 := Scalar.addi v4 c24_i32_1236
  let c0_i32_1241 : BitVec 32 := 0#32
  let c0_i32_1242 : BitVec 32 := 0#32
  ![v2.toNat, v1600.toNat, 0, 0]

def k0_chk69 (v1626 : IVec S16 32) : Prop :=
  (∀ a x, ((![v1626] : Fin 1 → IVec S16 32) a x).toNat < S1536.size a)
theorem k0_idx33_inb : ∀ (v1626 : IVec S16 32) (k0_hw69 : k0_chk69 v1626), ∀ a x, ((![v1626] : Fin 1 → IVec S16 32) a x).toNat < S1536.size a := fun v1626 k0_hw69 => k0_hw69

def k0_chk70 (v1623 : IVec S16 32) : Prop :=
  (∀ a x, ((![v1623] : Fin 1 → IVec S16 32) a x).toNat < S384.size a)
theorem k0_idx34_inb : ∀ (v1623 : IVec S16 32) (k0_hw70 : k0_chk70 v1623), ∀ a x, ((![v1623] : Fin 1 → IVec S16 32) a x).toNat < S384.size a := fun v1623 k0_hw70 => k0_hw70
def k0_off156 (i : grid0.Coords) (v1635 : BitVec 32) : Fin 4 → Nat :=
  let c0_i32_1266 : BitVec 32 := 0#32
  let v1636 : BitVec 1 := Scalar.cmpi .ne v1635 c0_i32_1266
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1267 : BitVec 32 := 1#32
  let v1637 : BitVec 32 := Scalar.xori v2 c1_i32_1267
  let v1638 : BitVec 32 := Scalar.select v1636 v1637 v2
  let c3_i32 : BitVec 32 := 3#32
  let v3 : BitVec 32 := Scalar.andi v1 c3_i32
  let c96_i32 : BitVec 32 := 96#32
  let v4 : BitVec 32 := Scalar.muli v3 c96_i32
  let c36_i32 : BitVec 32 := 36#32
  let v1618 : BitVec 32 := Scalar.addi v4 c36_i32
  let c0_i32_1268 : BitVec 32 := 0#32
  let v1639 : BitVec 32 := Scalar.addi v1618 c0_i32_1268
  let c0_i32_1273 : BitVec 32 := 0#32
  let c0_i32_1274 : BitVec 32 := 0#32
  ![v1638.toNat, v1639.toNat, 0, 0]

def k0_chk71 (i : grid0.Coords) (v1635 : BitVec 32) : Prop :=
  (∀ a, (k0_off156 i v1635) a + S1x1x64x64.size a ≤ S8x384x64x64.size a)
theorem k0_off156_inb : ∀ (i : grid0.Coords) (v1635 : BitVec 32) (k0_hw71 : k0_chk71 i v1635), ∀ a, (k0_off156 i v1635) a + S1x1x64x64.size a ≤ S8x384x64x64.size a := fun i v1635 k0_hw71 => k0_hw71

def k0_off157 (i : grid0.Coords) (v1656 : BitVec 32) : Fin 4 → Nat :=
  let c0_i32_1282 : BitVec 32 := 0#32
  let v1657 : BitVec 1 := Scalar.cmpi .ne v1656 c0_i32_1282
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1283 : BitVec 32 := 1#32
  let v1658 : BitVec 32 := Scalar.xori v2 c1_i32_1283
  let v1659 : BitVec 32 := Scalar.select v1657 v1658 v2
  let c3_i32 : BitVec 32 := 3#32
  let v3 : BitVec 32 := Scalar.andi v1 c3_i32
  let c96_i32 : BitVec 32 := 96#32
  let v4 : BitVec 32 := Scalar.muli v3 c96_i32
  let c36_i32 : BitVec 32 := 36#32
  let v1618 : BitVec 32 := Scalar.addi v4 c36_i32
  let c1_i32_1284 : BitVec 32 := 1#32
  let v1660 : BitVec 32 := Scalar.addi v1618 c1_i32_1284
  let c0_i32_1289 : BitVec 32 := 0#32
  let c0_i32_1290 : BitVec 32 := 0#32
  ![v1659.toNat, v1660.toNat, 0, 0]

def k0_chk72 (i : grid0.Coords) (v1656 : BitVec 32) : Prop :=
  (∀ a, (k0_off157 i v1656) a + S1x1x64x64.size a ≤ S8x384x64x64.size a)
theorem k0_off157_inb : ∀ (i : grid0.Coords) (v1656 : BitVec 32) (k0_hw72 : k0_chk72 i v1656), ∀ a, (k0_off157 i v1656) a + S1x1x64x64.size a ≤ S8x384x64x64.size a := fun i v1656 k0_hw72 => k0_hw72

def k0_off158 (i : grid0.Coords) (v1677 : BitVec 32) : Fin 4 → Nat :=
  let c0_i32_1298 : BitVec 32 := 0#32
  let v1678 : BitVec 1 := Scalar.cmpi .ne v1677 c0_i32_1298
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1299 : BitVec 32 := 1#32
  let v1679 : BitVec 32 := Scalar.xori v2 c1_i32_1299
  let v1680 : BitVec 32 := Scalar.select v1678 v1679 v2
  let c3_i32 : BitVec 32 := 3#32
  let v3 : BitVec 32 := Scalar.andi v1 c3_i32
  let c96_i32 : BitVec 32 := 96#32
  let v4 : BitVec 32 := Scalar.muli v3 c96_i32
  let c36_i32 : BitVec 32 := 36#32
  let v1618 : BitVec 32 := Scalar.addi v4 c36_i32
  let c2_i32_1300 : BitVec 32 := 2#32
  let v1681 : BitVec 32 := Scalar.addi v1618 c2_i32_1300
  let c0_i32_1305 : BitVec 32 := 0#32
  let c0_i32_1306 : BitVec 32 := 0#32
  ![v1680.toNat, v1681.toNat, 0, 0]

def k0_chk73 (i : grid0.Coords) (v1677 : BitVec 32) : Prop :=
  (∀ a, (k0_off158 i v1677) a + S1x1x64x64.size a ≤ S8x384x64x64.size a)
theorem k0_off158_inb : ∀ (i : grid0.Coords) (v1677 : BitVec 32) (k0_hw73 : k0_chk73 i v1677), ∀ a, (k0_off158 i v1677) a + S1x1x64x64.size a ≤ S8x384x64x64.size a := fun i v1677 k0_hw73 => k0_hw73

def k0_off159 (i : grid0.Coords) (v1698 : BitVec 32) : Fin 4 → Nat :=
  let c0_i32_1314 : BitVec 32 := 0#32
  let v1699 : BitVec 1 := Scalar.cmpi .ne v1698 c0_i32_1314
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1315 : BitVec 32 := 1#32
  let v1700 : BitVec 32 := Scalar.xori v2 c1_i32_1315
  let v1701 : BitVec 32 := Scalar.select v1699 v1700 v2
  let c3_i32 : BitVec 32 := 3#32
  let v3 : BitVec 32 := Scalar.andi v1 c3_i32
  let c96_i32 : BitVec 32 := 96#32
  let v4 : BitVec 32 := Scalar.muli v3 c96_i32
  let c36_i32 : BitVec 32 := 36#32
  let v1618 : BitVec 32 := Scalar.addi v4 c36_i32
  let c3_i32_1316 : BitVec 32 := 3#32
  let v1702 : BitVec 32 := Scalar.addi v1618 c3_i32_1316
  let c0_i32_1321 : BitVec 32 := 0#32
  let c0_i32_1322 : BitVec 32 := 0#32
  ![v1701.toNat, v1702.toNat, 0, 0]

def k0_chk74 (i : grid0.Coords) (v1698 : BitVec 32) : Prop :=
  (∀ a, (k0_off159 i v1698) a + S1x1x64x64.size a ≤ S8x384x64x64.size a)
theorem k0_off159_inb : ∀ (i : grid0.Coords) (v1698 : BitVec 32) (k0_hw74 : k0_chk74 i v1698), ∀ a, (k0_off159 i v1698) a + S1x1x64x64.size a ≤ S8x384x64x64.size a := fun i v1698 k0_hw74 => k0_hw74

def k0_chk75 (v1760 : IVec S16 32) : Prop :=
  (∀ a x, ((![v1760] : Fin 1 → IVec S16 32) a x).toNat < S1536.size a)
theorem k0_idx35_inb : ∀ (v1760 : IVec S16 32) (k0_hw75 : k0_chk75 v1760), ∀ a x, ((![v1760] : Fin 1 → IVec S16 32) a x).toNat < S1536.size a := fun v1760 k0_hw75 => k0_hw75

def k0_chk76 (v1757 : IVec S16 32) : Prop :=
  (∀ a x, ((![v1757] : Fin 1 → IVec S16 32) a x).toNat < S384.size a)
theorem k0_idx36_inb : ∀ (v1757 : IVec S16 32) (k0_hw76 : k0_chk76 v1757), ∀ a x, ((![v1757] : Fin 1 → IVec S16 32) a x).toNat < S384.size a := fun v1757 k0_hw76 => k0_hw76
@[reducible] def k0_t29_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off160 (k0_t29 : Fin k0_t29_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t29
  let v4882 : Index := Scalar.indexCast arg11
  let c0 : Index := 0#32
  ![4, v4882.toNat, 0]
def k0_off161 (k0_t29 : Fin k0_t29_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t29
  let v4885 : Index := Scalar.indexCast arg11
  let c16 : Index := 16#32
  ![4, v4885.toNat, 16]
def k0_off162 (k0_t29 : Fin k0_t29_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t29
  let v4888 : Index := Scalar.indexCast arg11
  let c32 : Index := 32#32
  ![4, v4888.toNat, 32]
def k0_off163 (k0_t29 : Fin k0_t29_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t29
  let v4891 : Index := Scalar.indexCast arg11
  let c48 : Index := 48#32
  ![4, v4891.toNat, 48]
@[reducible] def k0_t30_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off164 (k0_t30 : Fin k0_t30_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t30
  let v4882 : Index := Scalar.indexCast arg11
  let c0 : Index := 0#32
  ![5, v4882.toNat, 0]
def k0_off165 (k0_t30 : Fin k0_t30_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t30
  let v4885 : Index := Scalar.indexCast arg11
  let c16 : Index := 16#32
  ![5, v4885.toNat, 16]
def k0_off166 (k0_t30 : Fin k0_t30_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t30
  let v4888 : Index := Scalar.indexCast arg11
  let c32 : Index := 32#32
  ![5, v4888.toNat, 32]
def k0_off167 (k0_t30 : Fin k0_t30_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t30
  let v4891 : Index := Scalar.indexCast arg11
  let c48 : Index := 48#32
  ![5, v4891.toNat, 48]
@[reducible] def k0_t31_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off168 (k0_t31 : Fin k0_t31_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t31
  let v4882 : Index := Scalar.indexCast arg11
  let c0 : Index := 0#32
  ![6, v4882.toNat, 0]
def k0_off169 (k0_t31 : Fin k0_t31_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t31
  let v4885 : Index := Scalar.indexCast arg11
  let c16 : Index := 16#32
  ![6, v4885.toNat, 16]
def k0_off170 (k0_t31 : Fin k0_t31_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t31
  let v4888 : Index := Scalar.indexCast arg11
  let c32 : Index := 32#32
  ![6, v4888.toNat, 32]
def k0_off171 (k0_t31 : Fin k0_t31_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t31
  let v4891 : Index := Scalar.indexCast arg11
  let c48 : Index := 48#32
  ![6, v4891.toNat, 48]
@[reducible] def k0_t32_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off172 (k0_t32 : Fin k0_t32_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t32
  let v4882 : Index := Scalar.indexCast arg11
  let c0 : Index := 0#32
  ![7, v4882.toNat, 0]
def k0_off173 (k0_t32 : Fin k0_t32_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t32
  let v4885 : Index := Scalar.indexCast arg11
  let c16 : Index := 16#32
  ![7, v4885.toNat, 16]
def k0_off174 (k0_t32 : Fin k0_t32_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t32
  let v4888 : Index := Scalar.indexCast arg11
  let c32 : Index := 32#32
  ![7, v4888.toNat, 32]
def k0_off175 (k0_t32 : Fin k0_t32_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t32
  let v4891 : Index := Scalar.indexCast arg11
  let c48 : Index := 48#32
  ![7, v4891.toNat, 48]
def k0_off176 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c28_i32_1398 : BitVec 32 := 28#32
  let v1803 : BitVec 32 := Scalar.addi v4 c28_i32_1398
  let c0_i32_1403 : BitVec 32 := 0#32
  let c0_i32_1404 : BitVec 32 := 0#32
  ![v2.toNat, v1803.toNat, 0, 0]

def k0_chk77 (v1829 : IVec S16 32) : Prop :=
  (∀ a x, ((![v1829] : Fin 1 → IVec S16 32) a x).toNat < S1536.size a)
theorem k0_idx37_inb : ∀ (v1829 : IVec S16 32) (k0_hw77 : k0_chk77 v1829), ∀ a x, ((![v1829] : Fin 1 → IVec S16 32) a x).toNat < S1536.size a := fun v1829 k0_hw77 => k0_hw77

def k0_chk78 (v1826 : IVec S16 32) : Prop :=
  (∀ a x, ((![v1826] : Fin 1 → IVec S16 32) a x).toNat < S384.size a)
theorem k0_idx38_inb : ∀ (v1826 : IVec S16 32) (k0_hw78 : k0_chk78 v1826), ∀ a x, ((![v1826] : Fin 1 → IVec S16 32) a x).toNat < S384.size a := fun v1826 k0_hw78 => k0_hw78
def k0_off177 (i : grid0.Coords) (v1838 : BitVec 32) : Fin 4 → Nat :=
  let c0_i32_1428 : BitVec 32 := 0#32
  let v1839 : BitVec 1 := Scalar.cmpi .ne v1838 c0_i32_1428
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1429 : BitVec 32 := 1#32
  let v1840 : BitVec 32 := Scalar.xori v2 c1_i32_1429
  let v1841 : BitVec 32 := Scalar.select v1839 v1840 v2
  let c3_i32 : BitVec 32 := 3#32
  let v3 : BitVec 32 := Scalar.andi v1 c3_i32
  let c96_i32 : BitVec 32 := 96#32
  let v4 : BitVec 32 := Scalar.muli v3 c96_i32
  let c40_i32 : BitVec 32 := 40#32
  let v1821 : BitVec 32 := Scalar.addi v4 c40_i32
  let c0_i32_1430 : BitVec 32 := 0#32
  let v1842 : BitVec 32 := Scalar.addi v1821 c0_i32_1430
  let c0_i32_1435 : BitVec 32 := 0#32
  let c0_i32_1436 : BitVec 32 := 0#32
  ![v1841.toNat, v1842.toNat, 0, 0]

def k0_chk79 (i : grid0.Coords) (v1838 : BitVec 32) : Prop :=
  (∀ a, (k0_off177 i v1838) a + S1x1x64x64.size a ≤ S8x384x64x64.size a)
theorem k0_off177_inb : ∀ (i : grid0.Coords) (v1838 : BitVec 32) (k0_hw79 : k0_chk79 i v1838), ∀ a, (k0_off177 i v1838) a + S1x1x64x64.size a ≤ S8x384x64x64.size a := fun i v1838 k0_hw79 => k0_hw79

def k0_off178 (i : grid0.Coords) (v1859 : BitVec 32) : Fin 4 → Nat :=
  let c0_i32_1444 : BitVec 32 := 0#32
  let v1860 : BitVec 1 := Scalar.cmpi .ne v1859 c0_i32_1444
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1445 : BitVec 32 := 1#32
  let v1861 : BitVec 32 := Scalar.xori v2 c1_i32_1445
  let v1862 : BitVec 32 := Scalar.select v1860 v1861 v2
  let c3_i32 : BitVec 32 := 3#32
  let v3 : BitVec 32 := Scalar.andi v1 c3_i32
  let c96_i32 : BitVec 32 := 96#32
  let v4 : BitVec 32 := Scalar.muli v3 c96_i32
  let c40_i32 : BitVec 32 := 40#32
  let v1821 : BitVec 32 := Scalar.addi v4 c40_i32
  let c1_i32_1446 : BitVec 32 := 1#32
  let v1863 : BitVec 32 := Scalar.addi v1821 c1_i32_1446
  let c0_i32_1451 : BitVec 32 := 0#32
  let c0_i32_1452 : BitVec 32 := 0#32
  ![v1862.toNat, v1863.toNat, 0, 0]

def k0_chk80 (i : grid0.Coords) (v1859 : BitVec 32) : Prop :=
  (∀ a, (k0_off178 i v1859) a + S1x1x64x64.size a ≤ S8x384x64x64.size a)
theorem k0_off178_inb : ∀ (i : grid0.Coords) (v1859 : BitVec 32) (k0_hw80 : k0_chk80 i v1859), ∀ a, (k0_off178 i v1859) a + S1x1x64x64.size a ≤ S8x384x64x64.size a := fun i v1859 k0_hw80 => k0_hw80

def k0_off179 (i : grid0.Coords) (v1880 : BitVec 32) : Fin 4 → Nat :=
  let c0_i32_1460 : BitVec 32 := 0#32
  let v1881 : BitVec 1 := Scalar.cmpi .ne v1880 c0_i32_1460
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1461 : BitVec 32 := 1#32
  let v1882 : BitVec 32 := Scalar.xori v2 c1_i32_1461
  let v1883 : BitVec 32 := Scalar.select v1881 v1882 v2
  let c3_i32 : BitVec 32 := 3#32
  let v3 : BitVec 32 := Scalar.andi v1 c3_i32
  let c96_i32 : BitVec 32 := 96#32
  let v4 : BitVec 32 := Scalar.muli v3 c96_i32
  let c40_i32 : BitVec 32 := 40#32
  let v1821 : BitVec 32 := Scalar.addi v4 c40_i32
  let c2_i32_1462 : BitVec 32 := 2#32
  let v1884 : BitVec 32 := Scalar.addi v1821 c2_i32_1462
  let c0_i32_1467 : BitVec 32 := 0#32
  let c0_i32_1468 : BitVec 32 := 0#32
  ![v1883.toNat, v1884.toNat, 0, 0]

def k0_chk81 (i : grid0.Coords) (v1880 : BitVec 32) : Prop :=
  (∀ a, (k0_off179 i v1880) a + S1x1x64x64.size a ≤ S8x384x64x64.size a)
theorem k0_off179_inb : ∀ (i : grid0.Coords) (v1880 : BitVec 32) (k0_hw81 : k0_chk81 i v1880), ∀ a, (k0_off179 i v1880) a + S1x1x64x64.size a ≤ S8x384x64x64.size a := fun i v1880 k0_hw81 => k0_hw81

def k0_off180 (i : grid0.Coords) (v1901 : BitVec 32) : Fin 4 → Nat :=
  let c0_i32_1476 : BitVec 32 := 0#32
  let v1902 : BitVec 1 := Scalar.cmpi .ne v1901 c0_i32_1476
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1477 : BitVec 32 := 1#32
  let v1903 : BitVec 32 := Scalar.xori v2 c1_i32_1477
  let v1904 : BitVec 32 := Scalar.select v1902 v1903 v2
  let c3_i32 : BitVec 32 := 3#32
  let v3 : BitVec 32 := Scalar.andi v1 c3_i32
  let c96_i32 : BitVec 32 := 96#32
  let v4 : BitVec 32 := Scalar.muli v3 c96_i32
  let c40_i32 : BitVec 32 := 40#32
  let v1821 : BitVec 32 := Scalar.addi v4 c40_i32
  let c3_i32_1478 : BitVec 32 := 3#32
  let v1905 : BitVec 32 := Scalar.addi v1821 c3_i32_1478
  let c0_i32_1483 : BitVec 32 := 0#32
  let c0_i32_1484 : BitVec 32 := 0#32
  ![v1904.toNat, v1905.toNat, 0, 0]

def k0_chk82 (i : grid0.Coords) (v1901 : BitVec 32) : Prop :=
  (∀ a, (k0_off180 i v1901) a + S1x1x64x64.size a ≤ S8x384x64x64.size a)
theorem k0_off180_inb : ∀ (i : grid0.Coords) (v1901 : BitVec 32) (k0_hw82 : k0_chk82 i v1901), ∀ a, (k0_off180 i v1901) a + S1x1x64x64.size a ≤ S8x384x64x64.size a := fun i v1901 k0_hw82 => k0_hw82

def k0_chk83 (v1963 : IVec S16 32) : Prop :=
  (∀ a x, ((![v1963] : Fin 1 → IVec S16 32) a x).toNat < S1536.size a)
theorem k0_idx39_inb : ∀ (v1963 : IVec S16 32) (k0_hw83 : k0_chk83 v1963), ∀ a x, ((![v1963] : Fin 1 → IVec S16 32) a x).toNat < S1536.size a := fun v1963 k0_hw83 => k0_hw83

def k0_chk84 (v1960 : IVec S16 32) : Prop :=
  (∀ a x, ((![v1960] : Fin 1 → IVec S16 32) a x).toNat < S384.size a)
theorem k0_idx40_inb : ∀ (v1960 : IVec S16 32) (k0_hw84 : k0_chk84 v1960), ∀ a x, ((![v1960] : Fin 1 → IVec S16 32) a x).toNat < S384.size a := fun v1960 k0_hw84 => k0_hw84
@[reducible] def k0_t33_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off181 (k0_t33 : Fin k0_t33_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t33
  let v4882 : Index := Scalar.indexCast arg11
  let c0 : Index := 0#32
  ![8, v4882.toNat, 0]
def k0_off182 (k0_t33 : Fin k0_t33_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t33
  let v4885 : Index := Scalar.indexCast arg11
  let c16 : Index := 16#32
  ![8, v4885.toNat, 16]
def k0_off183 (k0_t33 : Fin k0_t33_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t33
  let v4888 : Index := Scalar.indexCast arg11
  let c32 : Index := 32#32
  ![8, v4888.toNat, 32]
def k0_off184 (k0_t33 : Fin k0_t33_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t33
  let v4891 : Index := Scalar.indexCast arg11
  let c48 : Index := 48#32
  ![8, v4891.toNat, 48]
@[reducible] def k0_t34_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off185 (k0_t34 : Fin k0_t34_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t34
  let v4882 : Index := Scalar.indexCast arg11
  let c0 : Index := 0#32
  ![9, v4882.toNat, 0]
def k0_off186 (k0_t34 : Fin k0_t34_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t34
  let v4885 : Index := Scalar.indexCast arg11
  let c16 : Index := 16#32
  ![9, v4885.toNat, 16]
def k0_off187 (k0_t34 : Fin k0_t34_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t34
  let v4888 : Index := Scalar.indexCast arg11
  let c32 : Index := 32#32
  ![9, v4888.toNat, 32]
def k0_off188 (k0_t34 : Fin k0_t34_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t34
  let v4891 : Index := Scalar.indexCast arg11
  let c48 : Index := 48#32
  ![9, v4891.toNat, 48]
@[reducible] def k0_t35_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off189 (k0_t35 : Fin k0_t35_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t35
  let v4882 : Index := Scalar.indexCast arg11
  let c0 : Index := 0#32
  ![10, v4882.toNat, 0]
def k0_off190 (k0_t35 : Fin k0_t35_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t35
  let v4885 : Index := Scalar.indexCast arg11
  let c16 : Index := 16#32
  ![10, v4885.toNat, 16]
def k0_off191 (k0_t35 : Fin k0_t35_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t35
  let v4888 : Index := Scalar.indexCast arg11
  let c32 : Index := 32#32
  ![10, v4888.toNat, 32]
def k0_off192 (k0_t35 : Fin k0_t35_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t35
  let v4891 : Index := Scalar.indexCast arg11
  let c48 : Index := 48#32
  ![10, v4891.toNat, 48]
@[reducible] def k0_t36_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off193 (k0_t36 : Fin k0_t36_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t36
  let v4882 : Index := Scalar.indexCast arg11
  let c0 : Index := 0#32
  ![11, v4882.toNat, 0]
def k0_off194 (k0_t36 : Fin k0_t36_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t36
  let v4885 : Index := Scalar.indexCast arg11
  let c16 : Index := 16#32
  ![11, v4885.toNat, 16]
def k0_off195 (k0_t36 : Fin k0_t36_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t36
  let v4888 : Index := Scalar.indexCast arg11
  let c32 : Index := 32#32
  ![11, v4888.toNat, 32]
def k0_off196 (k0_t36 : Fin k0_t36_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t36
  let v4891 : Index := Scalar.indexCast arg11
  let c48 : Index := 48#32
  ![11, v4891.toNat, 48]
def k0_off197 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c32_i32_1560 : BitVec 32 := 32#32
  let v2006 : BitVec 32 := Scalar.addi v4 c32_i32_1560
  let c0_i32_1565 : BitVec 32 := 0#32
  let c0_i32_1566 : BitVec 32 := 0#32
  ![v2.toNat, v2006.toNat, 0, 0]

def k0_chk85 (v2032 : IVec S16 32) : Prop :=
  (∀ a x, ((![v2032] : Fin 1 → IVec S16 32) a x).toNat < S1536.size a)
theorem k0_idx41_inb : ∀ (v2032 : IVec S16 32) (k0_hw85 : k0_chk85 v2032), ∀ a x, ((![v2032] : Fin 1 → IVec S16 32) a x).toNat < S1536.size a := fun v2032 k0_hw85 => k0_hw85

def k0_chk86 (v2029 : IVec S16 32) : Prop :=
  (∀ a x, ((![v2029] : Fin 1 → IVec S16 32) a x).toNat < S384.size a)
theorem k0_idx42_inb : ∀ (v2029 : IVec S16 32) (k0_hw86 : k0_chk86 v2029), ∀ a x, ((![v2029] : Fin 1 → IVec S16 32) a x).toNat < S384.size a := fun v2029 k0_hw86 => k0_hw86
def k0_off198 (i : grid0.Coords) (v2041 : BitVec 32) : Fin 4 → Nat :=
  let c0_i32_1590 : BitVec 32 := 0#32
  let v2042 : BitVec 1 := Scalar.cmpi .ne v2041 c0_i32_1590
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1591 : BitVec 32 := 1#32
  let v2043 : BitVec 32 := Scalar.xori v2 c1_i32_1591
  let v2044 : BitVec 32 := Scalar.select v2042 v2043 v2
  let c3_i32 : BitVec 32 := 3#32
  let v3 : BitVec 32 := Scalar.andi v1 c3_i32
  let c96_i32 : BitVec 32 := 96#32
  let v4 : BitVec 32 := Scalar.muli v3 c96_i32
  let c44_i32 : BitVec 32 := 44#32
  let v2024 : BitVec 32 := Scalar.addi v4 c44_i32
  let c0_i32_1592 : BitVec 32 := 0#32
  let v2045 : BitVec 32 := Scalar.addi v2024 c0_i32_1592
  let c0_i32_1597 : BitVec 32 := 0#32
  let c0_i32_1598 : BitVec 32 := 0#32
  ![v2044.toNat, v2045.toNat, 0, 0]

def k0_chk87 (i : grid0.Coords) (v2041 : BitVec 32) : Prop :=
  (∀ a, (k0_off198 i v2041) a + S1x1x64x64.size a ≤ S8x384x64x64.size a)
theorem k0_off198_inb : ∀ (i : grid0.Coords) (v2041 : BitVec 32) (k0_hw87 : k0_chk87 i v2041), ∀ a, (k0_off198 i v2041) a + S1x1x64x64.size a ≤ S8x384x64x64.size a := fun i v2041 k0_hw87 => k0_hw87

def k0_off199 (i : grid0.Coords) (v2062 : BitVec 32) : Fin 4 → Nat :=
  let c0_i32_1606 : BitVec 32 := 0#32
  let v2063 : BitVec 1 := Scalar.cmpi .ne v2062 c0_i32_1606
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1607 : BitVec 32 := 1#32
  let v2064 : BitVec 32 := Scalar.xori v2 c1_i32_1607
  let v2065 : BitVec 32 := Scalar.select v2063 v2064 v2
  let c3_i32 : BitVec 32 := 3#32
  let v3 : BitVec 32 := Scalar.andi v1 c3_i32
  let c96_i32 : BitVec 32 := 96#32
  let v4 : BitVec 32 := Scalar.muli v3 c96_i32
  let c44_i32 : BitVec 32 := 44#32
  let v2024 : BitVec 32 := Scalar.addi v4 c44_i32
  let c1_i32_1608 : BitVec 32 := 1#32
  let v2066 : BitVec 32 := Scalar.addi v2024 c1_i32_1608
  let c0_i32_1613 : BitVec 32 := 0#32
  let c0_i32_1614 : BitVec 32 := 0#32
  ![v2065.toNat, v2066.toNat, 0, 0]

def k0_chk88 (i : grid0.Coords) (v2062 : BitVec 32) : Prop :=
  (∀ a, (k0_off199 i v2062) a + S1x1x64x64.size a ≤ S8x384x64x64.size a)
theorem k0_off199_inb : ∀ (i : grid0.Coords) (v2062 : BitVec 32) (k0_hw88 : k0_chk88 i v2062), ∀ a, (k0_off199 i v2062) a + S1x1x64x64.size a ≤ S8x384x64x64.size a := fun i v2062 k0_hw88 => k0_hw88

def k0_off200 (i : grid0.Coords) (v2083 : BitVec 32) : Fin 4 → Nat :=
  let c0_i32_1622 : BitVec 32 := 0#32
  let v2084 : BitVec 1 := Scalar.cmpi .ne v2083 c0_i32_1622
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1623 : BitVec 32 := 1#32
  let v2085 : BitVec 32 := Scalar.xori v2 c1_i32_1623
  let v2086 : BitVec 32 := Scalar.select v2084 v2085 v2
  let c3_i32 : BitVec 32 := 3#32
  let v3 : BitVec 32 := Scalar.andi v1 c3_i32
  let c96_i32 : BitVec 32 := 96#32
  let v4 : BitVec 32 := Scalar.muli v3 c96_i32
  let c44_i32 : BitVec 32 := 44#32
  let v2024 : BitVec 32 := Scalar.addi v4 c44_i32
  let c2_i32_1624 : BitVec 32 := 2#32
  let v2087 : BitVec 32 := Scalar.addi v2024 c2_i32_1624
  let c0_i32_1629 : BitVec 32 := 0#32
  let c0_i32_1630 : BitVec 32 := 0#32
  ![v2086.toNat, v2087.toNat, 0, 0]

def k0_chk89 (i : grid0.Coords) (v2083 : BitVec 32) : Prop :=
  (∀ a, (k0_off200 i v2083) a + S1x1x64x64.size a ≤ S8x384x64x64.size a)
theorem k0_off200_inb : ∀ (i : grid0.Coords) (v2083 : BitVec 32) (k0_hw89 : k0_chk89 i v2083), ∀ a, (k0_off200 i v2083) a + S1x1x64x64.size a ≤ S8x384x64x64.size a := fun i v2083 k0_hw89 => k0_hw89

def k0_off201 (i : grid0.Coords) (v2104 : BitVec 32) : Fin 4 → Nat :=
  let c0_i32_1638 : BitVec 32 := 0#32
  let v2105 : BitVec 1 := Scalar.cmpi .ne v2104 c0_i32_1638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1639 : BitVec 32 := 1#32
  let v2106 : BitVec 32 := Scalar.xori v2 c1_i32_1639
  let v2107 : BitVec 32 := Scalar.select v2105 v2106 v2
  let c3_i32 : BitVec 32 := 3#32
  let v3 : BitVec 32 := Scalar.andi v1 c3_i32
  let c96_i32 : BitVec 32 := 96#32
  let v4 : BitVec 32 := Scalar.muli v3 c96_i32
  let c44_i32 : BitVec 32 := 44#32
  let v2024 : BitVec 32 := Scalar.addi v4 c44_i32
  let c3_i32_1640 : BitVec 32 := 3#32
  let v2108 : BitVec 32 := Scalar.addi v2024 c3_i32_1640
  let c0_i32_1645 : BitVec 32 := 0#32
  let c0_i32_1646 : BitVec 32 := 0#32
  ![v2107.toNat, v2108.toNat, 0, 0]

def k0_chk90 (i : grid0.Coords) (v2104 : BitVec 32) : Prop :=
  (∀ a, (k0_off201 i v2104) a + S1x1x64x64.size a ≤ S8x384x64x64.size a)
theorem k0_off201_inb : ∀ (i : grid0.Coords) (v2104 : BitVec 32) (k0_hw90 : k0_chk90 i v2104), ∀ a, (k0_off201 i v2104) a + S1x1x64x64.size a ≤ S8x384x64x64.size a := fun i v2104 k0_hw90 => k0_hw90

def k0_chk91 (v2166 : IVec S16 32) : Prop :=
  (∀ a x, ((![v2166] : Fin 1 → IVec S16 32) a x).toNat < S1536.size a)
theorem k0_idx43_inb : ∀ (v2166 : IVec S16 32) (k0_hw91 : k0_chk91 v2166), ∀ a x, ((![v2166] : Fin 1 → IVec S16 32) a x).toNat < S1536.size a := fun v2166 k0_hw91 => k0_hw91

def k0_chk92 (v2163 : IVec S16 32) : Prop :=
  (∀ a x, ((![v2163] : Fin 1 → IVec S16 32) a x).toNat < S384.size a)
theorem k0_idx44_inb : ∀ (v2163 : IVec S16 32) (k0_hw92 : k0_chk92 v2163), ∀ a x, ((![v2163] : Fin 1 → IVec S16 32) a x).toNat < S384.size a := fun v2163 k0_hw92 => k0_hw92
@[reducible] def k0_t37_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off202 (k0_t37 : Fin k0_t37_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t37
  let v4882 : Index := Scalar.indexCast arg11
  let c0 : Index := 0#32
  ![0, v4882.toNat, 0]
def k0_off203 (k0_t37 : Fin k0_t37_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t37
  let v4885 : Index := Scalar.indexCast arg11
  let c16 : Index := 16#32
  ![0, v4885.toNat, 16]
def k0_off204 (k0_t37 : Fin k0_t37_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t37
  let v4888 : Index := Scalar.indexCast arg11
  let c32 : Index := 32#32
  ![0, v4888.toNat, 32]
def k0_off205 (k0_t37 : Fin k0_t37_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t37
  let v4891 : Index := Scalar.indexCast arg11
  let c48 : Index := 48#32
  ![0, v4891.toNat, 48]
@[reducible] def k0_t38_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off206 (k0_t38 : Fin k0_t38_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t38
  let v4882 : Index := Scalar.indexCast arg11
  let c0 : Index := 0#32
  ![1, v4882.toNat, 0]
def k0_off207 (k0_t38 : Fin k0_t38_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t38
  let v4885 : Index := Scalar.indexCast arg11
  let c16 : Index := 16#32
  ![1, v4885.toNat, 16]
def k0_off208 (k0_t38 : Fin k0_t38_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t38
  let v4888 : Index := Scalar.indexCast arg11
  let c32 : Index := 32#32
  ![1, v4888.toNat, 32]
def k0_off209 (k0_t38 : Fin k0_t38_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t38
  let v4891 : Index := Scalar.indexCast arg11
  let c48 : Index := 48#32
  ![1, v4891.toNat, 48]
@[reducible] def k0_t39_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off210 (k0_t39 : Fin k0_t39_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t39
  let v4882 : Index := Scalar.indexCast arg11
  let c0 : Index := 0#32
  ![2, v4882.toNat, 0]
def k0_off211 (k0_t39 : Fin k0_t39_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t39
  let v4885 : Index := Scalar.indexCast arg11
  let c16 : Index := 16#32
  ![2, v4885.toNat, 16]
def k0_off212 (k0_t39 : Fin k0_t39_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t39
  let v4888 : Index := Scalar.indexCast arg11
  let c32 : Index := 32#32
  ![2, v4888.toNat, 32]
def k0_off213 (k0_t39 : Fin k0_t39_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t39
  let v4891 : Index := Scalar.indexCast arg11
  let c48 : Index := 48#32
  ![2, v4891.toNat, 48]
@[reducible] def k0_t40_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off214 (k0_t40 : Fin k0_t40_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t40
  let v4882 : Index := Scalar.indexCast arg11
  let c0 : Index := 0#32
  ![3, v4882.toNat, 0]
def k0_off215 (k0_t40 : Fin k0_t40_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t40
  let v4885 : Index := Scalar.indexCast arg11
  let c16 : Index := 16#32
  ![3, v4885.toNat, 16]
def k0_off216 (k0_t40 : Fin k0_t40_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t40
  let v4888 : Index := Scalar.indexCast arg11
  let c32 : Index := 32#32
  ![3, v4888.toNat, 32]
def k0_off217 (k0_t40 : Fin k0_t40_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t40
  let v4891 : Index := Scalar.indexCast arg11
  let c48 : Index := 48#32
  ![3, v4891.toNat, 48]
def k0_off218 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c36_i32_1722 : BitVec 32 := 36#32
  let v2209 : BitVec 32 := Scalar.addi v4 c36_i32_1722
  let c0_i32_1727 : BitVec 32 := 0#32
  let c0_i32_1728 : BitVec 32 := 0#32
  ![v2.toNat, v2209.toNat, 0, 0]

def k0_chk93 (v2235 : IVec S16 32) : Prop :=
  (∀ a x, ((![v2235] : Fin 1 → IVec S16 32) a x).toNat < S1536.size a)
theorem k0_idx45_inb : ∀ (v2235 : IVec S16 32) (k0_hw93 : k0_chk93 v2235), ∀ a x, ((![v2235] : Fin 1 → IVec S16 32) a x).toNat < S1536.size a := fun v2235 k0_hw93 => k0_hw93

def k0_chk94 (v2232 : IVec S16 32) : Prop :=
  (∀ a x, ((![v2232] : Fin 1 → IVec S16 32) a x).toNat < S384.size a)
theorem k0_idx46_inb : ∀ (v2232 : IVec S16 32) (k0_hw94 : k0_chk94 v2232), ∀ a x, ((![v2232] : Fin 1 → IVec S16 32) a x).toNat < S384.size a := fun v2232 k0_hw94 => k0_hw94
def k0_off219 (i : grid0.Coords) (v2244 : BitVec 32) : Fin 4 → Nat :=
  let c0_i32_1752 : BitVec 32 := 0#32
  let v2245 : BitVec 1 := Scalar.cmpi .ne v2244 c0_i32_1752
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1753 : BitVec 32 := 1#32
  let v2246 : BitVec 32 := Scalar.xori v2 c1_i32_1753
  let v2247 : BitVec 32 := Scalar.select v2245 v2246 v2
  let c3_i32 : BitVec 32 := 3#32
  let v3 : BitVec 32 := Scalar.andi v1 c3_i32
  let c96_i32 : BitVec 32 := 96#32
  let v4 : BitVec 32 := Scalar.muli v3 c96_i32
  let c48_i32 : BitVec 32 := 48#32
  let v2227 : BitVec 32 := Scalar.addi v4 c48_i32
  let c0_i32_1754 : BitVec 32 := 0#32
  let v2248 : BitVec 32 := Scalar.addi v2227 c0_i32_1754
  let c0_i32_1759 : BitVec 32 := 0#32
  let c0_i32_1760 : BitVec 32 := 0#32
  ![v2247.toNat, v2248.toNat, 0, 0]

def k0_chk95 (i : grid0.Coords) (v2244 : BitVec 32) : Prop :=
  (∀ a, (k0_off219 i v2244) a + S1x1x64x64.size a ≤ S8x384x64x64.size a)
theorem k0_off219_inb : ∀ (i : grid0.Coords) (v2244 : BitVec 32) (k0_hw95 : k0_chk95 i v2244), ∀ a, (k0_off219 i v2244) a + S1x1x64x64.size a ≤ S8x384x64x64.size a := fun i v2244 k0_hw95 => k0_hw95

def k0_off220 (i : grid0.Coords) (v2265 : BitVec 32) : Fin 4 → Nat :=
  let c0_i32_1768 : BitVec 32 := 0#32
  let v2266 : BitVec 1 := Scalar.cmpi .ne v2265 c0_i32_1768
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1769 : BitVec 32 := 1#32
  let v2267 : BitVec 32 := Scalar.xori v2 c1_i32_1769
  let v2268 : BitVec 32 := Scalar.select v2266 v2267 v2
  let c3_i32 : BitVec 32 := 3#32
  let v3 : BitVec 32 := Scalar.andi v1 c3_i32
  let c96_i32 : BitVec 32 := 96#32
  let v4 : BitVec 32 := Scalar.muli v3 c96_i32
  let c48_i32 : BitVec 32 := 48#32
  let v2227 : BitVec 32 := Scalar.addi v4 c48_i32
  let c1_i32_1770 : BitVec 32 := 1#32
  let v2269 : BitVec 32 := Scalar.addi v2227 c1_i32_1770
  let c0_i32_1775 : BitVec 32 := 0#32
  let c0_i32_1776 : BitVec 32 := 0#32
  ![v2268.toNat, v2269.toNat, 0, 0]

def k0_chk96 (i : grid0.Coords) (v2265 : BitVec 32) : Prop :=
  (∀ a, (k0_off220 i v2265) a + S1x1x64x64.size a ≤ S8x384x64x64.size a)
theorem k0_off220_inb : ∀ (i : grid0.Coords) (v2265 : BitVec 32) (k0_hw96 : k0_chk96 i v2265), ∀ a, (k0_off220 i v2265) a + S1x1x64x64.size a ≤ S8x384x64x64.size a := fun i v2265 k0_hw96 => k0_hw96

def k0_off221 (i : grid0.Coords) (v2286 : BitVec 32) : Fin 4 → Nat :=
  let c0_i32_1784 : BitVec 32 := 0#32
  let v2287 : BitVec 1 := Scalar.cmpi .ne v2286 c0_i32_1784
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1785 : BitVec 32 := 1#32
  let v2288 : BitVec 32 := Scalar.xori v2 c1_i32_1785
  let v2289 : BitVec 32 := Scalar.select v2287 v2288 v2
  let c3_i32 : BitVec 32 := 3#32
  let v3 : BitVec 32 := Scalar.andi v1 c3_i32
  let c96_i32 : BitVec 32 := 96#32
  let v4 : BitVec 32 := Scalar.muli v3 c96_i32
  let c48_i32 : BitVec 32 := 48#32
  let v2227 : BitVec 32 := Scalar.addi v4 c48_i32
  let c2_i32_1786 : BitVec 32 := 2#32
  let v2290 : BitVec 32 := Scalar.addi v2227 c2_i32_1786
  let c0_i32_1791 : BitVec 32 := 0#32
  let c0_i32_1792 : BitVec 32 := 0#32
  ![v2289.toNat, v2290.toNat, 0, 0]

def k0_chk97 (i : grid0.Coords) (v2286 : BitVec 32) : Prop :=
  (∀ a, (k0_off221 i v2286) a + S1x1x64x64.size a ≤ S8x384x64x64.size a)
theorem k0_off221_inb : ∀ (i : grid0.Coords) (v2286 : BitVec 32) (k0_hw97 : k0_chk97 i v2286), ∀ a, (k0_off221 i v2286) a + S1x1x64x64.size a ≤ S8x384x64x64.size a := fun i v2286 k0_hw97 => k0_hw97

def k0_off222 (i : grid0.Coords) (v2307 : BitVec 32) : Fin 4 → Nat :=
  let c0_i32_1800 : BitVec 32 := 0#32
  let v2308 : BitVec 1 := Scalar.cmpi .ne v2307 c0_i32_1800
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1801 : BitVec 32 := 1#32
  let v2309 : BitVec 32 := Scalar.xori v2 c1_i32_1801
  let v2310 : BitVec 32 := Scalar.select v2308 v2309 v2
  let c3_i32 : BitVec 32 := 3#32
  let v3 : BitVec 32 := Scalar.andi v1 c3_i32
  let c96_i32 : BitVec 32 := 96#32
  let v4 : BitVec 32 := Scalar.muli v3 c96_i32
  let c48_i32 : BitVec 32 := 48#32
  let v2227 : BitVec 32 := Scalar.addi v4 c48_i32
  let c3_i32_1802 : BitVec 32 := 3#32
  let v2311 : BitVec 32 := Scalar.addi v2227 c3_i32_1802
  let c0_i32_1807 : BitVec 32 := 0#32
  let c0_i32_1808 : BitVec 32 := 0#32
  ![v2310.toNat, v2311.toNat, 0, 0]

def k0_chk98 (i : grid0.Coords) (v2307 : BitVec 32) : Prop :=
  (∀ a, (k0_off222 i v2307) a + S1x1x64x64.size a ≤ S8x384x64x64.size a)
theorem k0_off222_inb : ∀ (i : grid0.Coords) (v2307 : BitVec 32) (k0_hw98 : k0_chk98 i v2307), ∀ a, (k0_off222 i v2307) a + S1x1x64x64.size a ≤ S8x384x64x64.size a := fun i v2307 k0_hw98 => k0_hw98

def k0_chk99 (v2369 : IVec S16 32) : Prop :=
  (∀ a x, ((![v2369] : Fin 1 → IVec S16 32) a x).toNat < S1536.size a)
theorem k0_idx47_inb : ∀ (v2369 : IVec S16 32) (k0_hw99 : k0_chk99 v2369), ∀ a x, ((![v2369] : Fin 1 → IVec S16 32) a x).toNat < S1536.size a := fun v2369 k0_hw99 => k0_hw99

def k0_chk100 (v2366 : IVec S16 32) : Prop :=
  (∀ a x, ((![v2366] : Fin 1 → IVec S16 32) a x).toNat < S384.size a)
theorem k0_idx48_inb : ∀ (v2366 : IVec S16 32) (k0_hw100 : k0_chk100 v2366), ∀ a x, ((![v2366] : Fin 1 → IVec S16 32) a x).toNat < S384.size a := fun v2366 k0_hw100 => k0_hw100
@[reducible] def k0_t41_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off223 (k0_t41 : Fin k0_t41_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t41
  let v4882 : Index := Scalar.indexCast arg11
  let c0 : Index := 0#32
  ![4, v4882.toNat, 0]
def k0_off224 (k0_t41 : Fin k0_t41_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t41
  let v4885 : Index := Scalar.indexCast arg11
  let c16 : Index := 16#32
  ![4, v4885.toNat, 16]
def k0_off225 (k0_t41 : Fin k0_t41_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t41
  let v4888 : Index := Scalar.indexCast arg11
  let c32 : Index := 32#32
  ![4, v4888.toNat, 32]
def k0_off226 (k0_t41 : Fin k0_t41_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t41
  let v4891 : Index := Scalar.indexCast arg11
  let c48 : Index := 48#32
  ![4, v4891.toNat, 48]
@[reducible] def k0_t42_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off227 (k0_t42 : Fin k0_t42_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t42
  let v4882 : Index := Scalar.indexCast arg11
  let c0 : Index := 0#32
  ![5, v4882.toNat, 0]
def k0_off228 (k0_t42 : Fin k0_t42_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t42
  let v4885 : Index := Scalar.indexCast arg11
  let c16 : Index := 16#32
  ![5, v4885.toNat, 16]
def k0_off229 (k0_t42 : Fin k0_t42_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t42
  let v4888 : Index := Scalar.indexCast arg11
  let c32 : Index := 32#32
  ![5, v4888.toNat, 32]
def k0_off230 (k0_t42 : Fin k0_t42_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t42
  let v4891 : Index := Scalar.indexCast arg11
  let c48 : Index := 48#32
  ![5, v4891.toNat, 48]
@[reducible] def k0_t43_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off231 (k0_t43 : Fin k0_t43_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t43
  let v4882 : Index := Scalar.indexCast arg11
  let c0 : Index := 0#32
  ![6, v4882.toNat, 0]
def k0_off232 (k0_t43 : Fin k0_t43_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t43
  let v4885 : Index := Scalar.indexCast arg11
  let c16 : Index := 16#32
  ![6, v4885.toNat, 16]
def k0_off233 (k0_t43 : Fin k0_t43_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t43
  let v4888 : Index := Scalar.indexCast arg11
  let c32 : Index := 32#32
  ![6, v4888.toNat, 32]
def k0_off234 (k0_t43 : Fin k0_t43_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t43
  let v4891 : Index := Scalar.indexCast arg11
  let c48 : Index := 48#32
  ![6, v4891.toNat, 48]
@[reducible] def k0_t44_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off235 (k0_t44 : Fin k0_t44_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t44
  let v4882 : Index := Scalar.indexCast arg11
  let c0 : Index := 0#32
  ![7, v4882.toNat, 0]
def k0_off236 (k0_t44 : Fin k0_t44_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t44
  let v4885 : Index := Scalar.indexCast arg11
  let c16 : Index := 16#32
  ![7, v4885.toNat, 16]
def k0_off237 (k0_t44 : Fin k0_t44_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t44
  let v4888 : Index := Scalar.indexCast arg11
  let c32 : Index := 32#32
  ![7, v4888.toNat, 32]
def k0_off238 (k0_t44 : Fin k0_t44_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t44
  let v4891 : Index := Scalar.indexCast arg11
  let c48 : Index := 48#32
  ![7, v4891.toNat, 48]
def k0_off239 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c40_i32_1884 : BitVec 32 := 40#32
  let v2412 : BitVec 32 := Scalar.addi v4 c40_i32_1884
  let c0_i32_1889 : BitVec 32 := 0#32
  let c0_i32_1890 : BitVec 32 := 0#32
  ![v2.toNat, v2412.toNat, 0, 0]

def k0_chk101 (v2438 : IVec S16 32) : Prop :=
  (∀ a x, ((![v2438] : Fin 1 → IVec S16 32) a x).toNat < S1536.size a)
theorem k0_idx49_inb : ∀ (v2438 : IVec S16 32) (k0_hw101 : k0_chk101 v2438), ∀ a x, ((![v2438] : Fin 1 → IVec S16 32) a x).toNat < S1536.size a := fun v2438 k0_hw101 => k0_hw101

def k0_chk102 (v2435 : IVec S16 32) : Prop :=
  (∀ a x, ((![v2435] : Fin 1 → IVec S16 32) a x).toNat < S384.size a)
theorem k0_idx50_inb : ∀ (v2435 : IVec S16 32) (k0_hw102 : k0_chk102 v2435), ∀ a x, ((![v2435] : Fin 1 → IVec S16 32) a x).toNat < S384.size a := fun v2435 k0_hw102 => k0_hw102
def k0_off240 (i : grid0.Coords) (v2447 : BitVec 32) : Fin 4 → Nat :=
  let c0_i32_1914 : BitVec 32 := 0#32
  let v2448 : BitVec 1 := Scalar.cmpi .ne v2447 c0_i32_1914
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1915 : BitVec 32 := 1#32
  let v2449 : BitVec 32 := Scalar.xori v2 c1_i32_1915
  let v2450 : BitVec 32 := Scalar.select v2448 v2449 v2
  let c3_i32 : BitVec 32 := 3#32
  let v3 : BitVec 32 := Scalar.andi v1 c3_i32
  let c96_i32 : BitVec 32 := 96#32
  let v4 : BitVec 32 := Scalar.muli v3 c96_i32
  let c52_i32 : BitVec 32 := 52#32
  let v2430 : BitVec 32 := Scalar.addi v4 c52_i32
  let c0_i32_1916 : BitVec 32 := 0#32
  let v2451 : BitVec 32 := Scalar.addi v2430 c0_i32_1916
  let c0_i32_1921 : BitVec 32 := 0#32
  let c0_i32_1922 : BitVec 32 := 0#32
  ![v2450.toNat, v2451.toNat, 0, 0]

def k0_chk103 (i : grid0.Coords) (v2447 : BitVec 32) : Prop :=
  (∀ a, (k0_off240 i v2447) a + S1x1x64x64.size a ≤ S8x384x64x64.size a)
theorem k0_off240_inb : ∀ (i : grid0.Coords) (v2447 : BitVec 32) (k0_hw103 : k0_chk103 i v2447), ∀ a, (k0_off240 i v2447) a + S1x1x64x64.size a ≤ S8x384x64x64.size a := fun i v2447 k0_hw103 => k0_hw103

def k0_off241 (i : grid0.Coords) (v2468 : BitVec 32) : Fin 4 → Nat :=
  let c0_i32_1930 : BitVec 32 := 0#32
  let v2469 : BitVec 1 := Scalar.cmpi .ne v2468 c0_i32_1930
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1931 : BitVec 32 := 1#32
  let v2470 : BitVec 32 := Scalar.xori v2 c1_i32_1931
  let v2471 : BitVec 32 := Scalar.select v2469 v2470 v2
  let c3_i32 : BitVec 32 := 3#32
  let v3 : BitVec 32 := Scalar.andi v1 c3_i32
  let c96_i32 : BitVec 32 := 96#32
  let v4 : BitVec 32 := Scalar.muli v3 c96_i32
  let c52_i32 : BitVec 32 := 52#32
  let v2430 : BitVec 32 := Scalar.addi v4 c52_i32
  let c1_i32_1932 : BitVec 32 := 1#32
  let v2472 : BitVec 32 := Scalar.addi v2430 c1_i32_1932
  let c0_i32_1937 : BitVec 32 := 0#32
  let c0_i32_1938 : BitVec 32 := 0#32
  ![v2471.toNat, v2472.toNat, 0, 0]

def k0_chk104 (i : grid0.Coords) (v2468 : BitVec 32) : Prop :=
  (∀ a, (k0_off241 i v2468) a + S1x1x64x64.size a ≤ S8x384x64x64.size a)
theorem k0_off241_inb : ∀ (i : grid0.Coords) (v2468 : BitVec 32) (k0_hw104 : k0_chk104 i v2468), ∀ a, (k0_off241 i v2468) a + S1x1x64x64.size a ≤ S8x384x64x64.size a := fun i v2468 k0_hw104 => k0_hw104

def k0_off242 (i : grid0.Coords) (v2489 : BitVec 32) : Fin 4 → Nat :=
  let c0_i32_1946 : BitVec 32 := 0#32
  let v2490 : BitVec 1 := Scalar.cmpi .ne v2489 c0_i32_1946
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1947 : BitVec 32 := 1#32
  let v2491 : BitVec 32 := Scalar.xori v2 c1_i32_1947
  let v2492 : BitVec 32 := Scalar.select v2490 v2491 v2
  let c3_i32 : BitVec 32 := 3#32
  let v3 : BitVec 32 := Scalar.andi v1 c3_i32
  let c96_i32 : BitVec 32 := 96#32
  let v4 : BitVec 32 := Scalar.muli v3 c96_i32
  let c52_i32 : BitVec 32 := 52#32
  let v2430 : BitVec 32 := Scalar.addi v4 c52_i32
  let c2_i32_1948 : BitVec 32 := 2#32
  let v2493 : BitVec 32 := Scalar.addi v2430 c2_i32_1948
  let c0_i32_1953 : BitVec 32 := 0#32
  let c0_i32_1954 : BitVec 32 := 0#32
  ![v2492.toNat, v2493.toNat, 0, 0]

def k0_chk105 (i : grid0.Coords) (v2489 : BitVec 32) : Prop :=
  (∀ a, (k0_off242 i v2489) a + S1x1x64x64.size a ≤ S8x384x64x64.size a)
theorem k0_off242_inb : ∀ (i : grid0.Coords) (v2489 : BitVec 32) (k0_hw105 : k0_chk105 i v2489), ∀ a, (k0_off242 i v2489) a + S1x1x64x64.size a ≤ S8x384x64x64.size a := fun i v2489 k0_hw105 => k0_hw105

def k0_off243 (i : grid0.Coords) (v2510 : BitVec 32) : Fin 4 → Nat :=
  let c0_i32_1962 : BitVec 32 := 0#32
  let v2511 : BitVec 1 := Scalar.cmpi .ne v2510 c0_i32_1962
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_1963 : BitVec 32 := 1#32
  let v2512 : BitVec 32 := Scalar.xori v2 c1_i32_1963
  let v2513 : BitVec 32 := Scalar.select v2511 v2512 v2
  let c3_i32 : BitVec 32 := 3#32
  let v3 : BitVec 32 := Scalar.andi v1 c3_i32
  let c96_i32 : BitVec 32 := 96#32
  let v4 : BitVec 32 := Scalar.muli v3 c96_i32
  let c52_i32 : BitVec 32 := 52#32
  let v2430 : BitVec 32 := Scalar.addi v4 c52_i32
  let c3_i32_1964 : BitVec 32 := 3#32
  let v2514 : BitVec 32 := Scalar.addi v2430 c3_i32_1964
  let c0_i32_1969 : BitVec 32 := 0#32
  let c0_i32_1970 : BitVec 32 := 0#32
  ![v2513.toNat, v2514.toNat, 0, 0]

def k0_chk106 (i : grid0.Coords) (v2510 : BitVec 32) : Prop :=
  (∀ a, (k0_off243 i v2510) a + S1x1x64x64.size a ≤ S8x384x64x64.size a)
theorem k0_off243_inb : ∀ (i : grid0.Coords) (v2510 : BitVec 32) (k0_hw106 : k0_chk106 i v2510), ∀ a, (k0_off243 i v2510) a + S1x1x64x64.size a ≤ S8x384x64x64.size a := fun i v2510 k0_hw106 => k0_hw106

def k0_chk107 (v2572 : IVec S16 32) : Prop :=
  (∀ a x, ((![v2572] : Fin 1 → IVec S16 32) a x).toNat < S1536.size a)
theorem k0_idx51_inb : ∀ (v2572 : IVec S16 32) (k0_hw107 : k0_chk107 v2572), ∀ a x, ((![v2572] : Fin 1 → IVec S16 32) a x).toNat < S1536.size a := fun v2572 k0_hw107 => k0_hw107

def k0_chk108 (v2569 : IVec S16 32) : Prop :=
  (∀ a x, ((![v2569] : Fin 1 → IVec S16 32) a x).toNat < S384.size a)
theorem k0_idx52_inb : ∀ (v2569 : IVec S16 32) (k0_hw108 : k0_chk108 v2569), ∀ a x, ((![v2569] : Fin 1 → IVec S16 32) a x).toNat < S384.size a := fun v2569 k0_hw108 => k0_hw108
@[reducible] def k0_t45_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off244 (k0_t45 : Fin k0_t45_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t45
  let v4882 : Index := Scalar.indexCast arg11
  let c0 : Index := 0#32
  ![8, v4882.toNat, 0]
def k0_off245 (k0_t45 : Fin k0_t45_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t45
  let v4885 : Index := Scalar.indexCast arg11
  let c16 : Index := 16#32
  ![8, v4885.toNat, 16]
def k0_off246 (k0_t45 : Fin k0_t45_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t45
  let v4888 : Index := Scalar.indexCast arg11
  let c32 : Index := 32#32
  ![8, v4888.toNat, 32]
def k0_off247 (k0_t45 : Fin k0_t45_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t45
  let v4891 : Index := Scalar.indexCast arg11
  let c48 : Index := 48#32
  ![8, v4891.toNat, 48]
@[reducible] def k0_t46_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off248 (k0_t46 : Fin k0_t46_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t46
  let v4882 : Index := Scalar.indexCast arg11
  let c0 : Index := 0#32
  ![9, v4882.toNat, 0]
def k0_off249 (k0_t46 : Fin k0_t46_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t46
  let v4885 : Index := Scalar.indexCast arg11
  let c16 : Index := 16#32
  ![9, v4885.toNat, 16]
def k0_off250 (k0_t46 : Fin k0_t46_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t46
  let v4888 : Index := Scalar.indexCast arg11
  let c32 : Index := 32#32
  ![9, v4888.toNat, 32]
def k0_off251 (k0_t46 : Fin k0_t46_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t46
  let v4891 : Index := Scalar.indexCast arg11
  let c48 : Index := 48#32
  ![9, v4891.toNat, 48]
@[reducible] def k0_t47_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off252 (k0_t47 : Fin k0_t47_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t47
  let v4882 : Index := Scalar.indexCast arg11
  let c0 : Index := 0#32
  ![10, v4882.toNat, 0]
def k0_off253 (k0_t47 : Fin k0_t47_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t47
  let v4885 : Index := Scalar.indexCast arg11
  let c16 : Index := 16#32
  ![10, v4885.toNat, 16]
def k0_off254 (k0_t47 : Fin k0_t47_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t47
  let v4888 : Index := Scalar.indexCast arg11
  let c32 : Index := 32#32
  ![10, v4888.toNat, 32]
def k0_off255 (k0_t47 : Fin k0_t47_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t47
  let v4891 : Index := Scalar.indexCast arg11
  let c48 : Index := 48#32
  ![10, v4891.toNat, 48]
@[reducible] def k0_t48_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off256 (k0_t48 : Fin k0_t48_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t48
  let v4882 : Index := Scalar.indexCast arg11
  let c0 : Index := 0#32
  ![11, v4882.toNat, 0]
def k0_off257 (k0_t48 : Fin k0_t48_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t48
  let v4885 : Index := Scalar.indexCast arg11
  let c16 : Index := 16#32
  ![11, v4885.toNat, 16]
def k0_off258 (k0_t48 : Fin k0_t48_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t48
  let v4888 : Index := Scalar.indexCast arg11
  let c32 : Index := 32#32
  ![11, v4888.toNat, 32]
def k0_off259 (k0_t48 : Fin k0_t48_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t48
  let v4891 : Index := Scalar.indexCast arg11
  let c48 : Index := 48#32
  ![11, v4891.toNat, 48]
def k0_off260 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c44_i32_2046 : BitVec 32 := 44#32
  let v2615 : BitVec 32 := Scalar.addi v4 c44_i32_2046
  let c0_i32_2051 : BitVec 32 := 0#32
  let c0_i32_2052 : BitVec 32 := 0#32
  ![v2.toNat, v2615.toNat, 0, 0]

def k0_chk109 (v2641 : IVec S16 32) : Prop :=
  (∀ a x, ((![v2641] : Fin 1 → IVec S16 32) a x).toNat < S1536.size a)
theorem k0_idx53_inb : ∀ (v2641 : IVec S16 32) (k0_hw109 : k0_chk109 v2641), ∀ a x, ((![v2641] : Fin 1 → IVec S16 32) a x).toNat < S1536.size a := fun v2641 k0_hw109 => k0_hw109

def k0_chk110 (v2638 : IVec S16 32) : Prop :=
  (∀ a x, ((![v2638] : Fin 1 → IVec S16 32) a x).toNat < S384.size a)
theorem k0_idx54_inb : ∀ (v2638 : IVec S16 32) (k0_hw110 : k0_chk110 v2638), ∀ a x, ((![v2638] : Fin 1 → IVec S16 32) a x).toNat < S384.size a := fun v2638 k0_hw110 => k0_hw110
def k0_off261 (i : grid0.Coords) (v2650 : BitVec 32) : Fin 4 → Nat :=
  let c0_i32_2076 : BitVec 32 := 0#32
  let v2651 : BitVec 1 := Scalar.cmpi .ne v2650 c0_i32_2076
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2077 : BitVec 32 := 1#32
  let v2652 : BitVec 32 := Scalar.xori v2 c1_i32_2077
  let v2653 : BitVec 32 := Scalar.select v2651 v2652 v2
  let c3_i32 : BitVec 32 := 3#32
  let v3 : BitVec 32 := Scalar.andi v1 c3_i32
  let c96_i32 : BitVec 32 := 96#32
  let v4 : BitVec 32 := Scalar.muli v3 c96_i32
  let c56_i32 : BitVec 32 := 56#32
  let v2633 : BitVec 32 := Scalar.addi v4 c56_i32
  let c0_i32_2078 : BitVec 32 := 0#32
  let v2654 : BitVec 32 := Scalar.addi v2633 c0_i32_2078
  let c0_i32_2083 : BitVec 32 := 0#32
  let c0_i32_2084 : BitVec 32 := 0#32
  ![v2653.toNat, v2654.toNat, 0, 0]

def k0_chk111 (i : grid0.Coords) (v2650 : BitVec 32) : Prop :=
  (∀ a, (k0_off261 i v2650) a + S1x1x64x64.size a ≤ S8x384x64x64.size a)
theorem k0_off261_inb : ∀ (i : grid0.Coords) (v2650 : BitVec 32) (k0_hw111 : k0_chk111 i v2650), ∀ a, (k0_off261 i v2650) a + S1x1x64x64.size a ≤ S8x384x64x64.size a := fun i v2650 k0_hw111 => k0_hw111

def k0_off262 (i : grid0.Coords) (v2671 : BitVec 32) : Fin 4 → Nat :=
  let c0_i32_2092 : BitVec 32 := 0#32
  let v2672 : BitVec 1 := Scalar.cmpi .ne v2671 c0_i32_2092
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2093 : BitVec 32 := 1#32
  let v2673 : BitVec 32 := Scalar.xori v2 c1_i32_2093
  let v2674 : BitVec 32 := Scalar.select v2672 v2673 v2
  let c3_i32 : BitVec 32 := 3#32
  let v3 : BitVec 32 := Scalar.andi v1 c3_i32
  let c96_i32 : BitVec 32 := 96#32
  let v4 : BitVec 32 := Scalar.muli v3 c96_i32
  let c56_i32 : BitVec 32 := 56#32
  let v2633 : BitVec 32 := Scalar.addi v4 c56_i32
  let c1_i32_2094 : BitVec 32 := 1#32
  let v2675 : BitVec 32 := Scalar.addi v2633 c1_i32_2094
  let c0_i32_2099 : BitVec 32 := 0#32
  let c0_i32_2100 : BitVec 32 := 0#32
  ![v2674.toNat, v2675.toNat, 0, 0]

def k0_chk112 (i : grid0.Coords) (v2671 : BitVec 32) : Prop :=
  (∀ a, (k0_off262 i v2671) a + S1x1x64x64.size a ≤ S8x384x64x64.size a)
theorem k0_off262_inb : ∀ (i : grid0.Coords) (v2671 : BitVec 32) (k0_hw112 : k0_chk112 i v2671), ∀ a, (k0_off262 i v2671) a + S1x1x64x64.size a ≤ S8x384x64x64.size a := fun i v2671 k0_hw112 => k0_hw112

def k0_off263 (i : grid0.Coords) (v2692 : BitVec 32) : Fin 4 → Nat :=
  let c0_i32_2108 : BitVec 32 := 0#32
  let v2693 : BitVec 1 := Scalar.cmpi .ne v2692 c0_i32_2108
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2109 : BitVec 32 := 1#32
  let v2694 : BitVec 32 := Scalar.xori v2 c1_i32_2109
  let v2695 : BitVec 32 := Scalar.select v2693 v2694 v2
  let c3_i32 : BitVec 32 := 3#32
  let v3 : BitVec 32 := Scalar.andi v1 c3_i32
  let c96_i32 : BitVec 32 := 96#32
  let v4 : BitVec 32 := Scalar.muli v3 c96_i32
  let c56_i32 : BitVec 32 := 56#32
  let v2633 : BitVec 32 := Scalar.addi v4 c56_i32
  let c2_i32_2110 : BitVec 32 := 2#32
  let v2696 : BitVec 32 := Scalar.addi v2633 c2_i32_2110
  let c0_i32_2115 : BitVec 32 := 0#32
  let c0_i32_2116 : BitVec 32 := 0#32
  ![v2695.toNat, v2696.toNat, 0, 0]

def k0_chk113 (i : grid0.Coords) (v2692 : BitVec 32) : Prop :=
  (∀ a, (k0_off263 i v2692) a + S1x1x64x64.size a ≤ S8x384x64x64.size a)
theorem k0_off263_inb : ∀ (i : grid0.Coords) (v2692 : BitVec 32) (k0_hw113 : k0_chk113 i v2692), ∀ a, (k0_off263 i v2692) a + S1x1x64x64.size a ≤ S8x384x64x64.size a := fun i v2692 k0_hw113 => k0_hw113

def k0_off264 (i : grid0.Coords) (v2713 : BitVec 32) : Fin 4 → Nat :=
  let c0_i32_2124 : BitVec 32 := 0#32
  let v2714 : BitVec 1 := Scalar.cmpi .ne v2713 c0_i32_2124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2125 : BitVec 32 := 1#32
  let v2715 : BitVec 32 := Scalar.xori v2 c1_i32_2125
  let v2716 : BitVec 32 := Scalar.select v2714 v2715 v2
  let c3_i32 : BitVec 32 := 3#32
  let v3 : BitVec 32 := Scalar.andi v1 c3_i32
  let c96_i32 : BitVec 32 := 96#32
  let v4 : BitVec 32 := Scalar.muli v3 c96_i32
  let c56_i32 : BitVec 32 := 56#32
  let v2633 : BitVec 32 := Scalar.addi v4 c56_i32
  let c3_i32_2126 : BitVec 32 := 3#32
  let v2717 : BitVec 32 := Scalar.addi v2633 c3_i32_2126
  let c0_i32_2131 : BitVec 32 := 0#32
  let c0_i32_2132 : BitVec 32 := 0#32
  ![v2716.toNat, v2717.toNat, 0, 0]

def k0_chk114 (i : grid0.Coords) (v2713 : BitVec 32) : Prop :=
  (∀ a, (k0_off264 i v2713) a + S1x1x64x64.size a ≤ S8x384x64x64.size a)
theorem k0_off264_inb : ∀ (i : grid0.Coords) (v2713 : BitVec 32) (k0_hw114 : k0_chk114 i v2713), ∀ a, (k0_off264 i v2713) a + S1x1x64x64.size a ≤ S8x384x64x64.size a := fun i v2713 k0_hw114 => k0_hw114

def k0_chk115 (v2775 : IVec S16 32) : Prop :=
  (∀ a x, ((![v2775] : Fin 1 → IVec S16 32) a x).toNat < S1536.size a)
theorem k0_idx55_inb : ∀ (v2775 : IVec S16 32) (k0_hw115 : k0_chk115 v2775), ∀ a x, ((![v2775] : Fin 1 → IVec S16 32) a x).toNat < S1536.size a := fun v2775 k0_hw115 => k0_hw115

def k0_chk116 (v2772 : IVec S16 32) : Prop :=
  (∀ a x, ((![v2772] : Fin 1 → IVec S16 32) a x).toNat < S384.size a)
theorem k0_idx56_inb : ∀ (v2772 : IVec S16 32) (k0_hw116 : k0_chk116 v2772), ∀ a x, ((![v2772] : Fin 1 → IVec S16 32) a x).toNat < S384.size a := fun v2772 k0_hw116 => k0_hw116
@[reducible] def k0_t49_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off265 (k0_t49 : Fin k0_t49_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t49
  let v4882 : Index := Scalar.indexCast arg11
  let c0 : Index := 0#32
  ![0, v4882.toNat, 0]
def k0_off266 (k0_t49 : Fin k0_t49_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t49
  let v4885 : Index := Scalar.indexCast arg11
  let c16 : Index := 16#32
  ![0, v4885.toNat, 16]
def k0_off267 (k0_t49 : Fin k0_t49_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t49
  let v4888 : Index := Scalar.indexCast arg11
  let c32 : Index := 32#32
  ![0, v4888.toNat, 32]
def k0_off268 (k0_t49 : Fin k0_t49_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t49
  let v4891 : Index := Scalar.indexCast arg11
  let c48 : Index := 48#32
  ![0, v4891.toNat, 48]
@[reducible] def k0_t50_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off269 (k0_t50 : Fin k0_t50_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t50
  let v4882 : Index := Scalar.indexCast arg11
  let c0 : Index := 0#32
  ![1, v4882.toNat, 0]
def k0_off270 (k0_t50 : Fin k0_t50_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t50
  let v4885 : Index := Scalar.indexCast arg11
  let c16 : Index := 16#32
  ![1, v4885.toNat, 16]
def k0_off271 (k0_t50 : Fin k0_t50_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t50
  let v4888 : Index := Scalar.indexCast arg11
  let c32 : Index := 32#32
  ![1, v4888.toNat, 32]
def k0_off272 (k0_t50 : Fin k0_t50_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t50
  let v4891 : Index := Scalar.indexCast arg11
  let c48 : Index := 48#32
  ![1, v4891.toNat, 48]
@[reducible] def k0_t51_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off273 (k0_t51 : Fin k0_t51_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t51
  let v4882 : Index := Scalar.indexCast arg11
  let c0 : Index := 0#32
  ![2, v4882.toNat, 0]
def k0_off274 (k0_t51 : Fin k0_t51_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t51
  let v4885 : Index := Scalar.indexCast arg11
  let c16 : Index := 16#32
  ![2, v4885.toNat, 16]
def k0_off275 (k0_t51 : Fin k0_t51_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t51
  let v4888 : Index := Scalar.indexCast arg11
  let c32 : Index := 32#32
  ![2, v4888.toNat, 32]
def k0_off276 (k0_t51 : Fin k0_t51_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t51
  let v4891 : Index := Scalar.indexCast arg11
  let c48 : Index := 48#32
  ![2, v4891.toNat, 48]
@[reducible] def k0_t52_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off277 (k0_t52 : Fin k0_t52_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t52
  let v4882 : Index := Scalar.indexCast arg11
  let c0 : Index := 0#32
  ![3, v4882.toNat, 0]
def k0_off278 (k0_t52 : Fin k0_t52_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t52
  let v4885 : Index := Scalar.indexCast arg11
  let c16 : Index := 16#32
  ![3, v4885.toNat, 16]
def k0_off279 (k0_t52 : Fin k0_t52_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t52
  let v4888 : Index := Scalar.indexCast arg11
  let c32 : Index := 32#32
  ![3, v4888.toNat, 32]
def k0_off280 (k0_t52 : Fin k0_t52_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t52
  let v4891 : Index := Scalar.indexCast arg11
  let c48 : Index := 48#32
  ![3, v4891.toNat, 48]
def k0_off281 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c48_i32_2208 : BitVec 32 := 48#32
  let v2818 : BitVec 32 := Scalar.addi v4 c48_i32_2208
  let c0_i32_2213 : BitVec 32 := 0#32
  let c0_i32_2214 : BitVec 32 := 0#32
  ![v2.toNat, v2818.toNat, 0, 0]

def k0_chk117 (v2844 : IVec S16 32) : Prop :=
  (∀ a x, ((![v2844] : Fin 1 → IVec S16 32) a x).toNat < S1536.size a)
theorem k0_idx57_inb : ∀ (v2844 : IVec S16 32) (k0_hw117 : k0_chk117 v2844), ∀ a x, ((![v2844] : Fin 1 → IVec S16 32) a x).toNat < S1536.size a := fun v2844 k0_hw117 => k0_hw117

def k0_chk118 (v2841 : IVec S16 32) : Prop :=
  (∀ a x, ((![v2841] : Fin 1 → IVec S16 32) a x).toNat < S384.size a)
theorem k0_idx58_inb : ∀ (v2841 : IVec S16 32) (k0_hw118 : k0_chk118 v2841), ∀ a x, ((![v2841] : Fin 1 → IVec S16 32) a x).toNat < S384.size a := fun v2841 k0_hw118 => k0_hw118
def k0_off282 (i : grid0.Coords) (v2853 : BitVec 32) : Fin 4 → Nat :=
  let c0_i32_2238 : BitVec 32 := 0#32
  let v2854 : BitVec 1 := Scalar.cmpi .ne v2853 c0_i32_2238
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2239 : BitVec 32 := 1#32
  let v2855 : BitVec 32 := Scalar.xori v2 c1_i32_2239
  let v2856 : BitVec 32 := Scalar.select v2854 v2855 v2
  let c3_i32 : BitVec 32 := 3#32
  let v3 : BitVec 32 := Scalar.andi v1 c3_i32
  let c96_i32 : BitVec 32 := 96#32
  let v4 : BitVec 32 := Scalar.muli v3 c96_i32
  let c60_i32 : BitVec 32 := 60#32
  let v2836 : BitVec 32 := Scalar.addi v4 c60_i32
  let c0_i32_2240 : BitVec 32 := 0#32
  let v2857 : BitVec 32 := Scalar.addi v2836 c0_i32_2240
  let c0_i32_2245 : BitVec 32 := 0#32
  let c0_i32_2246 : BitVec 32 := 0#32
  ![v2856.toNat, v2857.toNat, 0, 0]

def k0_chk119 (i : grid0.Coords) (v2853 : BitVec 32) : Prop :=
  (∀ a, (k0_off282 i v2853) a + S1x1x64x64.size a ≤ S8x384x64x64.size a)
theorem k0_off282_inb : ∀ (i : grid0.Coords) (v2853 : BitVec 32) (k0_hw119 : k0_chk119 i v2853), ∀ a, (k0_off282 i v2853) a + S1x1x64x64.size a ≤ S8x384x64x64.size a := fun i v2853 k0_hw119 => k0_hw119

def k0_off283 (i : grid0.Coords) (v2874 : BitVec 32) : Fin 4 → Nat :=
  let c0_i32_2254 : BitVec 32 := 0#32
  let v2875 : BitVec 1 := Scalar.cmpi .ne v2874 c0_i32_2254
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2255 : BitVec 32 := 1#32
  let v2876 : BitVec 32 := Scalar.xori v2 c1_i32_2255
  let v2877 : BitVec 32 := Scalar.select v2875 v2876 v2
  let c3_i32 : BitVec 32 := 3#32
  let v3 : BitVec 32 := Scalar.andi v1 c3_i32
  let c96_i32 : BitVec 32 := 96#32
  let v4 : BitVec 32 := Scalar.muli v3 c96_i32
  let c60_i32 : BitVec 32 := 60#32
  let v2836 : BitVec 32 := Scalar.addi v4 c60_i32
  let c1_i32_2256 : BitVec 32 := 1#32
  let v2878 : BitVec 32 := Scalar.addi v2836 c1_i32_2256
  let c0_i32_2261 : BitVec 32 := 0#32
  let c0_i32_2262 : BitVec 32 := 0#32
  ![v2877.toNat, v2878.toNat, 0, 0]

def k0_chk120 (i : grid0.Coords) (v2874 : BitVec 32) : Prop :=
  (∀ a, (k0_off283 i v2874) a + S1x1x64x64.size a ≤ S8x384x64x64.size a)
theorem k0_off283_inb : ∀ (i : grid0.Coords) (v2874 : BitVec 32) (k0_hw120 : k0_chk120 i v2874), ∀ a, (k0_off283 i v2874) a + S1x1x64x64.size a ≤ S8x384x64x64.size a := fun i v2874 k0_hw120 => k0_hw120

def k0_off284 (i : grid0.Coords) (v2895 : BitVec 32) : Fin 4 → Nat :=
  let c0_i32_2270 : BitVec 32 := 0#32
  let v2896 : BitVec 1 := Scalar.cmpi .ne v2895 c0_i32_2270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2271 : BitVec 32 := 1#32
  let v2897 : BitVec 32 := Scalar.xori v2 c1_i32_2271
  let v2898 : BitVec 32 := Scalar.select v2896 v2897 v2
  let c3_i32 : BitVec 32 := 3#32
  let v3 : BitVec 32 := Scalar.andi v1 c3_i32
  let c96_i32 : BitVec 32 := 96#32
  let v4 : BitVec 32 := Scalar.muli v3 c96_i32
  let c60_i32 : BitVec 32 := 60#32
  let v2836 : BitVec 32 := Scalar.addi v4 c60_i32
  let c2_i32_2272 : BitVec 32 := 2#32
  let v2899 : BitVec 32 := Scalar.addi v2836 c2_i32_2272
  let c0_i32_2277 : BitVec 32 := 0#32
  let c0_i32_2278 : BitVec 32 := 0#32
  ![v2898.toNat, v2899.toNat, 0, 0]

def k0_chk121 (i : grid0.Coords) (v2895 : BitVec 32) : Prop :=
  (∀ a, (k0_off284 i v2895) a + S1x1x64x64.size a ≤ S8x384x64x64.size a)
theorem k0_off284_inb : ∀ (i : grid0.Coords) (v2895 : BitVec 32) (k0_hw121 : k0_chk121 i v2895), ∀ a, (k0_off284 i v2895) a + S1x1x64x64.size a ≤ S8x384x64x64.size a := fun i v2895 k0_hw121 => k0_hw121

def k0_off285 (i : grid0.Coords) (v2916 : BitVec 32) : Fin 4 → Nat :=
  let c0_i32_2286 : BitVec 32 := 0#32
  let v2917 : BitVec 1 := Scalar.cmpi .ne v2916 c0_i32_2286
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2287 : BitVec 32 := 1#32
  let v2918 : BitVec 32 := Scalar.xori v2 c1_i32_2287
  let v2919 : BitVec 32 := Scalar.select v2917 v2918 v2
  let c3_i32 : BitVec 32 := 3#32
  let v3 : BitVec 32 := Scalar.andi v1 c3_i32
  let c96_i32 : BitVec 32 := 96#32
  let v4 : BitVec 32 := Scalar.muli v3 c96_i32
  let c60_i32 : BitVec 32 := 60#32
  let v2836 : BitVec 32 := Scalar.addi v4 c60_i32
  let c3_i32_2288 : BitVec 32 := 3#32
  let v2920 : BitVec 32 := Scalar.addi v2836 c3_i32_2288
  let c0_i32_2293 : BitVec 32 := 0#32
  let c0_i32_2294 : BitVec 32 := 0#32
  ![v2919.toNat, v2920.toNat, 0, 0]

def k0_chk122 (i : grid0.Coords) (v2916 : BitVec 32) : Prop :=
  (∀ a, (k0_off285 i v2916) a + S1x1x64x64.size a ≤ S8x384x64x64.size a)
theorem k0_off285_inb : ∀ (i : grid0.Coords) (v2916 : BitVec 32) (k0_hw122 : k0_chk122 i v2916), ∀ a, (k0_off285 i v2916) a + S1x1x64x64.size a ≤ S8x384x64x64.size a := fun i v2916 k0_hw122 => k0_hw122

def k0_chk123 (v2978 : IVec S16 32) : Prop :=
  (∀ a x, ((![v2978] : Fin 1 → IVec S16 32) a x).toNat < S1536.size a)
theorem k0_idx59_inb : ∀ (v2978 : IVec S16 32) (k0_hw123 : k0_chk123 v2978), ∀ a x, ((![v2978] : Fin 1 → IVec S16 32) a x).toNat < S1536.size a := fun v2978 k0_hw123 => k0_hw123

def k0_chk124 (v2975 : IVec S16 32) : Prop :=
  (∀ a x, ((![v2975] : Fin 1 → IVec S16 32) a x).toNat < S384.size a)
theorem k0_idx60_inb : ∀ (v2975 : IVec S16 32) (k0_hw124 : k0_chk124 v2975), ∀ a x, ((![v2975] : Fin 1 → IVec S16 32) a x).toNat < S384.size a := fun v2975 k0_hw124 => k0_hw124
@[reducible] def k0_t53_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off286 (k0_t53 : Fin k0_t53_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t53
  let v4882 : Index := Scalar.indexCast arg11
  let c0 : Index := 0#32
  ![4, v4882.toNat, 0]
def k0_off287 (k0_t53 : Fin k0_t53_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t53
  let v4885 : Index := Scalar.indexCast arg11
  let c16 : Index := 16#32
  ![4, v4885.toNat, 16]
def k0_off288 (k0_t53 : Fin k0_t53_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t53
  let v4888 : Index := Scalar.indexCast arg11
  let c32 : Index := 32#32
  ![4, v4888.toNat, 32]
def k0_off289 (k0_t53 : Fin k0_t53_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t53
  let v4891 : Index := Scalar.indexCast arg11
  let c48 : Index := 48#32
  ![4, v4891.toNat, 48]
@[reducible] def k0_t54_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off290 (k0_t54 : Fin k0_t54_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t54
  let v4882 : Index := Scalar.indexCast arg11
  let c0 : Index := 0#32
  ![5, v4882.toNat, 0]
def k0_off291 (k0_t54 : Fin k0_t54_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t54
  let v4885 : Index := Scalar.indexCast arg11
  let c16 : Index := 16#32
  ![5, v4885.toNat, 16]
def k0_off292 (k0_t54 : Fin k0_t54_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t54
  let v4888 : Index := Scalar.indexCast arg11
  let c32 : Index := 32#32
  ![5, v4888.toNat, 32]
def k0_off293 (k0_t54 : Fin k0_t54_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t54
  let v4891 : Index := Scalar.indexCast arg11
  let c48 : Index := 48#32
  ![5, v4891.toNat, 48]
@[reducible] def k0_t55_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off294 (k0_t55 : Fin k0_t55_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t55
  let v4882 : Index := Scalar.indexCast arg11
  let c0 : Index := 0#32
  ![6, v4882.toNat, 0]
def k0_off295 (k0_t55 : Fin k0_t55_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t55
  let v4885 : Index := Scalar.indexCast arg11
  let c16 : Index := 16#32
  ![6, v4885.toNat, 16]
def k0_off296 (k0_t55 : Fin k0_t55_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t55
  let v4888 : Index := Scalar.indexCast arg11
  let c32 : Index := 32#32
  ![6, v4888.toNat, 32]
def k0_off297 (k0_t55 : Fin k0_t55_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t55
  let v4891 : Index := Scalar.indexCast arg11
  let c48 : Index := 48#32
  ![6, v4891.toNat, 48]
@[reducible] def k0_t56_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off298 (k0_t56 : Fin k0_t56_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t56
  let v4882 : Index := Scalar.indexCast arg11
  let c0 : Index := 0#32
  ![7, v4882.toNat, 0]
def k0_off299 (k0_t56 : Fin k0_t56_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t56
  let v4885 : Index := Scalar.indexCast arg11
  let c16 : Index := 16#32
  ![7, v4885.toNat, 16]
def k0_off300 (k0_t56 : Fin k0_t56_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t56
  let v4888 : Index := Scalar.indexCast arg11
  let c32 : Index := 32#32
  ![7, v4888.toNat, 32]
def k0_off301 (k0_t56 : Fin k0_t56_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t56
  let v4891 : Index := Scalar.indexCast arg11
  let c48 : Index := 48#32
  ![7, v4891.toNat, 48]
def k0_off302 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c52_i32_2370 : BitVec 32 := 52#32
  let v3021 : BitVec 32 := Scalar.addi v4 c52_i32_2370
  let c0_i32_2375 : BitVec 32 := 0#32
  let c0_i32_2376 : BitVec 32 := 0#32
  ![v2.toNat, v3021.toNat, 0, 0]

def k0_chk125 (v3047 : IVec S16 32) : Prop :=
  (∀ a x, ((![v3047] : Fin 1 → IVec S16 32) a x).toNat < S1536.size a)
theorem k0_idx61_inb : ∀ (v3047 : IVec S16 32) (k0_hw125 : k0_chk125 v3047), ∀ a x, ((![v3047] : Fin 1 → IVec S16 32) a x).toNat < S1536.size a := fun v3047 k0_hw125 => k0_hw125

def k0_chk126 (v3044 : IVec S16 32) : Prop :=
  (∀ a x, ((![v3044] : Fin 1 → IVec S16 32) a x).toNat < S384.size a)
theorem k0_idx62_inb : ∀ (v3044 : IVec S16 32) (k0_hw126 : k0_chk126 v3044), ∀ a x, ((![v3044] : Fin 1 → IVec S16 32) a x).toNat < S384.size a := fun v3044 k0_hw126 => k0_hw126
def k0_off303 (i : grid0.Coords) (v3056 : BitVec 32) : Fin 4 → Nat :=
  let c0_i32_2400 : BitVec 32 := 0#32
  let v3057 : BitVec 1 := Scalar.cmpi .ne v3056 c0_i32_2400
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2401 : BitVec 32 := 1#32
  let v3058 : BitVec 32 := Scalar.xori v2 c1_i32_2401
  let v3059 : BitVec 32 := Scalar.select v3057 v3058 v2
  let c3_i32 : BitVec 32 := 3#32
  let v3 : BitVec 32 := Scalar.andi v1 c3_i32
  let c96_i32 : BitVec 32 := 96#32
  let v4 : BitVec 32 := Scalar.muli v3 c96_i32
  let c64_i32 : BitVec 32 := 64#32
  let v3039 : BitVec 32 := Scalar.addi v4 c64_i32
  let c0_i32_2402 : BitVec 32 := 0#32
  let v3060 : BitVec 32 := Scalar.addi v3039 c0_i32_2402
  let c0_i32_2407 : BitVec 32 := 0#32
  let c0_i32_2408 : BitVec 32 := 0#32
  ![v3059.toNat, v3060.toNat, 0, 0]

def k0_chk127 (i : grid0.Coords) (v3056 : BitVec 32) : Prop :=
  (∀ a, (k0_off303 i v3056) a + S1x1x64x64.size a ≤ S8x384x64x64.size a)
theorem k0_off303_inb : ∀ (i : grid0.Coords) (v3056 : BitVec 32) (k0_hw127 : k0_chk127 i v3056), ∀ a, (k0_off303 i v3056) a + S1x1x64x64.size a ≤ S8x384x64x64.size a := fun i v3056 k0_hw127 => k0_hw127

def k0_off304 (i : grid0.Coords) (v3077 : BitVec 32) : Fin 4 → Nat :=
  let c0_i32_2416 : BitVec 32 := 0#32
  let v3078 : BitVec 1 := Scalar.cmpi .ne v3077 c0_i32_2416
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2417 : BitVec 32 := 1#32
  let v3079 : BitVec 32 := Scalar.xori v2 c1_i32_2417
  let v3080 : BitVec 32 := Scalar.select v3078 v3079 v2
  let c3_i32 : BitVec 32 := 3#32
  let v3 : BitVec 32 := Scalar.andi v1 c3_i32
  let c96_i32 : BitVec 32 := 96#32
  let v4 : BitVec 32 := Scalar.muli v3 c96_i32
  let c64_i32 : BitVec 32 := 64#32
  let v3039 : BitVec 32 := Scalar.addi v4 c64_i32
  let c1_i32_2418 : BitVec 32 := 1#32
  let v3081 : BitVec 32 := Scalar.addi v3039 c1_i32_2418
  let c0_i32_2423 : BitVec 32 := 0#32
  let c0_i32_2424 : BitVec 32 := 0#32
  ![v3080.toNat, v3081.toNat, 0, 0]

def k0_chk128 (i : grid0.Coords) (v3077 : BitVec 32) : Prop :=
  (∀ a, (k0_off304 i v3077) a + S1x1x64x64.size a ≤ S8x384x64x64.size a)
theorem k0_off304_inb : ∀ (i : grid0.Coords) (v3077 : BitVec 32) (k0_hw128 : k0_chk128 i v3077), ∀ a, (k0_off304 i v3077) a + S1x1x64x64.size a ≤ S8x384x64x64.size a := fun i v3077 k0_hw128 => k0_hw128

def k0_off305 (i : grid0.Coords) (v3098 : BitVec 32) : Fin 4 → Nat :=
  let c0_i32_2432 : BitVec 32 := 0#32
  let v3099 : BitVec 1 := Scalar.cmpi .ne v3098 c0_i32_2432
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2433 : BitVec 32 := 1#32
  let v3100 : BitVec 32 := Scalar.xori v2 c1_i32_2433
  let v3101 : BitVec 32 := Scalar.select v3099 v3100 v2
  let c3_i32 : BitVec 32 := 3#32
  let v3 : BitVec 32 := Scalar.andi v1 c3_i32
  let c96_i32 : BitVec 32 := 96#32
  let v4 : BitVec 32 := Scalar.muli v3 c96_i32
  let c64_i32 : BitVec 32 := 64#32
  let v3039 : BitVec 32 := Scalar.addi v4 c64_i32
  let c2_i32_2434 : BitVec 32 := 2#32
  let v3102 : BitVec 32 := Scalar.addi v3039 c2_i32_2434
  let c0_i32_2439 : BitVec 32 := 0#32
  let c0_i32_2440 : BitVec 32 := 0#32
  ![v3101.toNat, v3102.toNat, 0, 0]

def k0_chk129 (i : grid0.Coords) (v3098 : BitVec 32) : Prop :=
  (∀ a, (k0_off305 i v3098) a + S1x1x64x64.size a ≤ S8x384x64x64.size a)
theorem k0_off305_inb : ∀ (i : grid0.Coords) (v3098 : BitVec 32) (k0_hw129 : k0_chk129 i v3098), ∀ a, (k0_off305 i v3098) a + S1x1x64x64.size a ≤ S8x384x64x64.size a := fun i v3098 k0_hw129 => k0_hw129

def k0_off306 (i : grid0.Coords) (v3119 : BitVec 32) : Fin 4 → Nat :=
  let c0_i32_2448 : BitVec 32 := 0#32
  let v3120 : BitVec 1 := Scalar.cmpi .ne v3119 c0_i32_2448
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2449 : BitVec 32 := 1#32
  let v3121 : BitVec 32 := Scalar.xori v2 c1_i32_2449
  let v3122 : BitVec 32 := Scalar.select v3120 v3121 v2
  let c3_i32 : BitVec 32 := 3#32
  let v3 : BitVec 32 := Scalar.andi v1 c3_i32
  let c96_i32 : BitVec 32 := 96#32
  let v4 : BitVec 32 := Scalar.muli v3 c96_i32
  let c64_i32 : BitVec 32 := 64#32
  let v3039 : BitVec 32 := Scalar.addi v4 c64_i32
  let c3_i32_2450 : BitVec 32 := 3#32
  let v3123 : BitVec 32 := Scalar.addi v3039 c3_i32_2450
  let c0_i32_2455 : BitVec 32 := 0#32
  let c0_i32_2456 : BitVec 32 := 0#32
  ![v3122.toNat, v3123.toNat, 0, 0]

def k0_chk130 (i : grid0.Coords) (v3119 : BitVec 32) : Prop :=
  (∀ a, (k0_off306 i v3119) a + S1x1x64x64.size a ≤ S8x384x64x64.size a)
theorem k0_off306_inb : ∀ (i : grid0.Coords) (v3119 : BitVec 32) (k0_hw130 : k0_chk130 i v3119), ∀ a, (k0_off306 i v3119) a + S1x1x64x64.size a ≤ S8x384x64x64.size a := fun i v3119 k0_hw130 => k0_hw130

def k0_chk131 (v3181 : IVec S16 32) : Prop :=
  (∀ a x, ((![v3181] : Fin 1 → IVec S16 32) a x).toNat < S1536.size a)
theorem k0_idx63_inb : ∀ (v3181 : IVec S16 32) (k0_hw131 : k0_chk131 v3181), ∀ a x, ((![v3181] : Fin 1 → IVec S16 32) a x).toNat < S1536.size a := fun v3181 k0_hw131 => k0_hw131

def k0_chk132 (v3178 : IVec S16 32) : Prop :=
  (∀ a x, ((![v3178] : Fin 1 → IVec S16 32) a x).toNat < S384.size a)
theorem k0_idx64_inb : ∀ (v3178 : IVec S16 32) (k0_hw132 : k0_chk132 v3178), ∀ a x, ((![v3178] : Fin 1 → IVec S16 32) a x).toNat < S384.size a := fun v3178 k0_hw132 => k0_hw132
@[reducible] def k0_t57_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off307 (k0_t57 : Fin k0_t57_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t57
  let v4882 : Index := Scalar.indexCast arg11
  let c0 : Index := 0#32
  ![8, v4882.toNat, 0]
def k0_off308 (k0_t57 : Fin k0_t57_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t57
  let v4885 : Index := Scalar.indexCast arg11
  let c16 : Index := 16#32
  ![8, v4885.toNat, 16]
def k0_off309 (k0_t57 : Fin k0_t57_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t57
  let v4888 : Index := Scalar.indexCast arg11
  let c32 : Index := 32#32
  ![8, v4888.toNat, 32]
def k0_off310 (k0_t57 : Fin k0_t57_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t57
  let v4891 : Index := Scalar.indexCast arg11
  let c48 : Index := 48#32
  ![8, v4891.toNat, 48]
@[reducible] def k0_t58_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off311 (k0_t58 : Fin k0_t58_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t58
  let v4882 : Index := Scalar.indexCast arg11
  let c0 : Index := 0#32
  ![9, v4882.toNat, 0]
def k0_off312 (k0_t58 : Fin k0_t58_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t58
  let v4885 : Index := Scalar.indexCast arg11
  let c16 : Index := 16#32
  ![9, v4885.toNat, 16]
def k0_off313 (k0_t58 : Fin k0_t58_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t58
  let v4888 : Index := Scalar.indexCast arg11
  let c32 : Index := 32#32
  ![9, v4888.toNat, 32]
def k0_off314 (k0_t58 : Fin k0_t58_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t58
  let v4891 : Index := Scalar.indexCast arg11
  let c48 : Index := 48#32
  ![9, v4891.toNat, 48]
@[reducible] def k0_t59_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off315 (k0_t59 : Fin k0_t59_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t59
  let v4882 : Index := Scalar.indexCast arg11
  let c0 : Index := 0#32
  ![10, v4882.toNat, 0]
def k0_off316 (k0_t59 : Fin k0_t59_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t59
  let v4885 : Index := Scalar.indexCast arg11
  let c16 : Index := 16#32
  ![10, v4885.toNat, 16]
def k0_off317 (k0_t59 : Fin k0_t59_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t59
  let v4888 : Index := Scalar.indexCast arg11
  let c32 : Index := 32#32
  ![10, v4888.toNat, 32]
def k0_off318 (k0_t59 : Fin k0_t59_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t59
  let v4891 : Index := Scalar.indexCast arg11
  let c48 : Index := 48#32
  ![10, v4891.toNat, 48]
@[reducible] def k0_t60_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off319 (k0_t60 : Fin k0_t60_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t60
  let v4882 : Index := Scalar.indexCast arg11
  let c0 : Index := 0#32
  ![11, v4882.toNat, 0]
def k0_off320 (k0_t60 : Fin k0_t60_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t60
  let v4885 : Index := Scalar.indexCast arg11
  let c16 : Index := 16#32
  ![11, v4885.toNat, 16]
def k0_off321 (k0_t60 : Fin k0_t60_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t60
  let v4888 : Index := Scalar.indexCast arg11
  let c32 : Index := 32#32
  ![11, v4888.toNat, 32]
def k0_off322 (k0_t60 : Fin k0_t60_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t60
  let v4891 : Index := Scalar.indexCast arg11
  let c48 : Index := 48#32
  ![11, v4891.toNat, 48]
def k0_off323 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c56_i32_2532 : BitVec 32 := 56#32
  let v3224 : BitVec 32 := Scalar.addi v4 c56_i32_2532
  let c0_i32_2537 : BitVec 32 := 0#32
  let c0_i32_2538 : BitVec 32 := 0#32
  ![v2.toNat, v3224.toNat, 0, 0]

def k0_chk133 (v3250 : IVec S16 32) : Prop :=
  (∀ a x, ((![v3250] : Fin 1 → IVec S16 32) a x).toNat < S1536.size a)
theorem k0_idx65_inb : ∀ (v3250 : IVec S16 32) (k0_hw133 : k0_chk133 v3250), ∀ a x, ((![v3250] : Fin 1 → IVec S16 32) a x).toNat < S1536.size a := fun v3250 k0_hw133 => k0_hw133

def k0_chk134 (v3247 : IVec S16 32) : Prop :=
  (∀ a x, ((![v3247] : Fin 1 → IVec S16 32) a x).toNat < S384.size a)
theorem k0_idx66_inb : ∀ (v3247 : IVec S16 32) (k0_hw134 : k0_chk134 v3247), ∀ a x, ((![v3247] : Fin 1 → IVec S16 32) a x).toNat < S384.size a := fun v3247 k0_hw134 => k0_hw134
def k0_off324 (i : grid0.Coords) (v3259 : BitVec 32) : Fin 4 → Nat :=
  let c0_i32_2562 : BitVec 32 := 0#32
  let v3260 : BitVec 1 := Scalar.cmpi .ne v3259 c0_i32_2562
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2563 : BitVec 32 := 1#32
  let v3261 : BitVec 32 := Scalar.xori v2 c1_i32_2563
  let v3262 : BitVec 32 := Scalar.select v3260 v3261 v2
  let c3_i32 : BitVec 32 := 3#32
  let v3 : BitVec 32 := Scalar.andi v1 c3_i32
  let c96_i32 : BitVec 32 := 96#32
  let v4 : BitVec 32 := Scalar.muli v3 c96_i32
  let c68_i32 : BitVec 32 := 68#32
  let v3242 : BitVec 32 := Scalar.addi v4 c68_i32
  let c0_i32_2564 : BitVec 32 := 0#32
  let v3263 : BitVec 32 := Scalar.addi v3242 c0_i32_2564
  let c0_i32_2569 : BitVec 32 := 0#32
  let c0_i32_2570 : BitVec 32 := 0#32
  ![v3262.toNat, v3263.toNat, 0, 0]

def k0_chk135 (i : grid0.Coords) (v3259 : BitVec 32) : Prop :=
  (∀ a, (k0_off324 i v3259) a + S1x1x64x64.size a ≤ S8x384x64x64.size a)
theorem k0_off324_inb : ∀ (i : grid0.Coords) (v3259 : BitVec 32) (k0_hw135 : k0_chk135 i v3259), ∀ a, (k0_off324 i v3259) a + S1x1x64x64.size a ≤ S8x384x64x64.size a := fun i v3259 k0_hw135 => k0_hw135

def k0_off325 (i : grid0.Coords) (v3280 : BitVec 32) : Fin 4 → Nat :=
  let c0_i32_2578 : BitVec 32 := 0#32
  let v3281 : BitVec 1 := Scalar.cmpi .ne v3280 c0_i32_2578
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2579 : BitVec 32 := 1#32
  let v3282 : BitVec 32 := Scalar.xori v2 c1_i32_2579
  let v3283 : BitVec 32 := Scalar.select v3281 v3282 v2
  let c3_i32 : BitVec 32 := 3#32
  let v3 : BitVec 32 := Scalar.andi v1 c3_i32
  let c96_i32 : BitVec 32 := 96#32
  let v4 : BitVec 32 := Scalar.muli v3 c96_i32
  let c68_i32 : BitVec 32 := 68#32
  let v3242 : BitVec 32 := Scalar.addi v4 c68_i32
  let c1_i32_2580 : BitVec 32 := 1#32
  let v3284 : BitVec 32 := Scalar.addi v3242 c1_i32_2580
  let c0_i32_2585 : BitVec 32 := 0#32
  let c0_i32_2586 : BitVec 32 := 0#32
  ![v3283.toNat, v3284.toNat, 0, 0]

def k0_chk136 (i : grid0.Coords) (v3280 : BitVec 32) : Prop :=
  (∀ a, (k0_off325 i v3280) a + S1x1x64x64.size a ≤ S8x384x64x64.size a)
theorem k0_off325_inb : ∀ (i : grid0.Coords) (v3280 : BitVec 32) (k0_hw136 : k0_chk136 i v3280), ∀ a, (k0_off325 i v3280) a + S1x1x64x64.size a ≤ S8x384x64x64.size a := fun i v3280 k0_hw136 => k0_hw136

def k0_off326 (i : grid0.Coords) (v3301 : BitVec 32) : Fin 4 → Nat :=
  let c0_i32_2594 : BitVec 32 := 0#32
  let v3302 : BitVec 1 := Scalar.cmpi .ne v3301 c0_i32_2594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2595 : BitVec 32 := 1#32
  let v3303 : BitVec 32 := Scalar.xori v2 c1_i32_2595
  let v3304 : BitVec 32 := Scalar.select v3302 v3303 v2
  let c3_i32 : BitVec 32 := 3#32
  let v3 : BitVec 32 := Scalar.andi v1 c3_i32
  let c96_i32 : BitVec 32 := 96#32
  let v4 : BitVec 32 := Scalar.muli v3 c96_i32
  let c68_i32 : BitVec 32 := 68#32
  let v3242 : BitVec 32 := Scalar.addi v4 c68_i32
  let c2_i32_2596 : BitVec 32 := 2#32
  let v3305 : BitVec 32 := Scalar.addi v3242 c2_i32_2596
  let c0_i32_2601 : BitVec 32 := 0#32
  let c0_i32_2602 : BitVec 32 := 0#32
  ![v3304.toNat, v3305.toNat, 0, 0]

def k0_chk137 (i : grid0.Coords) (v3301 : BitVec 32) : Prop :=
  (∀ a, (k0_off326 i v3301) a + S1x1x64x64.size a ≤ S8x384x64x64.size a)
theorem k0_off326_inb : ∀ (i : grid0.Coords) (v3301 : BitVec 32) (k0_hw137 : k0_chk137 i v3301), ∀ a, (k0_off326 i v3301) a + S1x1x64x64.size a ≤ S8x384x64x64.size a := fun i v3301 k0_hw137 => k0_hw137

def k0_off327 (i : grid0.Coords) (v3322 : BitVec 32) : Fin 4 → Nat :=
  let c0_i32_2610 : BitVec 32 := 0#32
  let v3323 : BitVec 1 := Scalar.cmpi .ne v3322 c0_i32_2610
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2611 : BitVec 32 := 1#32
  let v3324 : BitVec 32 := Scalar.xori v2 c1_i32_2611
  let v3325 : BitVec 32 := Scalar.select v3323 v3324 v2
  let c3_i32 : BitVec 32 := 3#32
  let v3 : BitVec 32 := Scalar.andi v1 c3_i32
  let c96_i32 : BitVec 32 := 96#32
  let v4 : BitVec 32 := Scalar.muli v3 c96_i32
  let c68_i32 : BitVec 32 := 68#32
  let v3242 : BitVec 32 := Scalar.addi v4 c68_i32
  let c3_i32_2612 : BitVec 32 := 3#32
  let v3326 : BitVec 32 := Scalar.addi v3242 c3_i32_2612
  let c0_i32_2617 : BitVec 32 := 0#32
  let c0_i32_2618 : BitVec 32 := 0#32
  ![v3325.toNat, v3326.toNat, 0, 0]

def k0_chk138 (i : grid0.Coords) (v3322 : BitVec 32) : Prop :=
  (∀ a, (k0_off327 i v3322) a + S1x1x64x64.size a ≤ S8x384x64x64.size a)
theorem k0_off327_inb : ∀ (i : grid0.Coords) (v3322 : BitVec 32) (k0_hw138 : k0_chk138 i v3322), ∀ a, (k0_off327 i v3322) a + S1x1x64x64.size a ≤ S8x384x64x64.size a := fun i v3322 k0_hw138 => k0_hw138

def k0_chk139 (v3384 : IVec S16 32) : Prop :=
  (∀ a x, ((![v3384] : Fin 1 → IVec S16 32) a x).toNat < S1536.size a)
theorem k0_idx67_inb : ∀ (v3384 : IVec S16 32) (k0_hw139 : k0_chk139 v3384), ∀ a x, ((![v3384] : Fin 1 → IVec S16 32) a x).toNat < S1536.size a := fun v3384 k0_hw139 => k0_hw139

def k0_chk140 (v3381 : IVec S16 32) : Prop :=
  (∀ a x, ((![v3381] : Fin 1 → IVec S16 32) a x).toNat < S384.size a)
theorem k0_idx68_inb : ∀ (v3381 : IVec S16 32) (k0_hw140 : k0_chk140 v3381), ∀ a x, ((![v3381] : Fin 1 → IVec S16 32) a x).toNat < S384.size a := fun v3381 k0_hw140 => k0_hw140
@[reducible] def k0_t61_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off328 (k0_t61 : Fin k0_t61_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t61
  let v4882 : Index := Scalar.indexCast arg11
  let c0 : Index := 0#32
  ![0, v4882.toNat, 0]
def k0_off329 (k0_t61 : Fin k0_t61_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t61
  let v4885 : Index := Scalar.indexCast arg11
  let c16 : Index := 16#32
  ![0, v4885.toNat, 16]
def k0_off330 (k0_t61 : Fin k0_t61_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t61
  let v4888 : Index := Scalar.indexCast arg11
  let c32 : Index := 32#32
  ![0, v4888.toNat, 32]
def k0_off331 (k0_t61 : Fin k0_t61_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t61
  let v4891 : Index := Scalar.indexCast arg11
  let c48 : Index := 48#32
  ![0, v4891.toNat, 48]
@[reducible] def k0_t62_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off332 (k0_t62 : Fin k0_t62_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t62
  let v4882 : Index := Scalar.indexCast arg11
  let c0 : Index := 0#32
  ![1, v4882.toNat, 0]
def k0_off333 (k0_t62 : Fin k0_t62_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t62
  let v4885 : Index := Scalar.indexCast arg11
  let c16 : Index := 16#32
  ![1, v4885.toNat, 16]
def k0_off334 (k0_t62 : Fin k0_t62_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t62
  let v4888 : Index := Scalar.indexCast arg11
  let c32 : Index := 32#32
  ![1, v4888.toNat, 32]
def k0_off335 (k0_t62 : Fin k0_t62_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t62
  let v4891 : Index := Scalar.indexCast arg11
  let c48 : Index := 48#32
  ![1, v4891.toNat, 48]
@[reducible] def k0_t63_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off336 (k0_t63 : Fin k0_t63_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t63
  let v4882 : Index := Scalar.indexCast arg11
  let c0 : Index := 0#32
  ![2, v4882.toNat, 0]
def k0_off337 (k0_t63 : Fin k0_t63_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t63
  let v4885 : Index := Scalar.indexCast arg11
  let c16 : Index := 16#32
  ![2, v4885.toNat, 16]
def k0_off338 (k0_t63 : Fin k0_t63_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t63
  let v4888 : Index := Scalar.indexCast arg11
  let c32 : Index := 32#32
  ![2, v4888.toNat, 32]
def k0_off339 (k0_t63 : Fin k0_t63_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t63
  let v4891 : Index := Scalar.indexCast arg11
  let c48 : Index := 48#32
  ![2, v4891.toNat, 48]
@[reducible] def k0_t64_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off340 (k0_t64 : Fin k0_t64_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t64
  let v4882 : Index := Scalar.indexCast arg11
  let c0 : Index := 0#32
  ![3, v4882.toNat, 0]
def k0_off341 (k0_t64 : Fin k0_t64_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t64
  let v4885 : Index := Scalar.indexCast arg11
  let c16 : Index := 16#32
  ![3, v4885.toNat, 16]
def k0_off342 (k0_t64 : Fin k0_t64_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t64
  let v4888 : Index := Scalar.indexCast arg11
  let c32 : Index := 32#32
  ![3, v4888.toNat, 32]
def k0_off343 (k0_t64 : Fin k0_t64_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t64
  let v4891 : Index := Scalar.indexCast arg11
  let c48 : Index := 48#32
  ![3, v4891.toNat, 48]
def k0_off344 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c60_i32_2694 : BitVec 32 := 60#32
  let v3427 : BitVec 32 := Scalar.addi v4 c60_i32_2694
  let c0_i32_2699 : BitVec 32 := 0#32
  let c0_i32_2700 : BitVec 32 := 0#32
  ![v2.toNat, v3427.toNat, 0, 0]

def k0_chk141 (v3453 : IVec S16 32) : Prop :=
  (∀ a x, ((![v3453] : Fin 1 → IVec S16 32) a x).toNat < S1536.size a)
theorem k0_idx69_inb : ∀ (v3453 : IVec S16 32) (k0_hw141 : k0_chk141 v3453), ∀ a x, ((![v3453] : Fin 1 → IVec S16 32) a x).toNat < S1536.size a := fun v3453 k0_hw141 => k0_hw141

def k0_chk142 (v3450 : IVec S16 32) : Prop :=
  (∀ a x, ((![v3450] : Fin 1 → IVec S16 32) a x).toNat < S384.size a)
theorem k0_idx70_inb : ∀ (v3450 : IVec S16 32) (k0_hw142 : k0_chk142 v3450), ∀ a x, ((![v3450] : Fin 1 → IVec S16 32) a x).toNat < S384.size a := fun v3450 k0_hw142 => k0_hw142
def k0_off345 (i : grid0.Coords) (v3462 : BitVec 32) : Fin 4 → Nat :=
  let c0_i32_2724 : BitVec 32 := 0#32
  let v3463 : BitVec 1 := Scalar.cmpi .ne v3462 c0_i32_2724
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2725 : BitVec 32 := 1#32
  let v3464 : BitVec 32 := Scalar.xori v2 c1_i32_2725
  let v3465 : BitVec 32 := Scalar.select v3463 v3464 v2
  let c3_i32 : BitVec 32 := 3#32
  let v3 : BitVec 32 := Scalar.andi v1 c3_i32
  let c96_i32 : BitVec 32 := 96#32
  let v4 : BitVec 32 := Scalar.muli v3 c96_i32
  let c72_i32 : BitVec 32 := 72#32
  let v3445 : BitVec 32 := Scalar.addi v4 c72_i32
  let c0_i32_2726 : BitVec 32 := 0#32
  let v3466 : BitVec 32 := Scalar.addi v3445 c0_i32_2726
  let c0_i32_2731 : BitVec 32 := 0#32
  let c0_i32_2732 : BitVec 32 := 0#32
  ![v3465.toNat, v3466.toNat, 0, 0]

def k0_chk143 (i : grid0.Coords) (v3462 : BitVec 32) : Prop :=
  (∀ a, (k0_off345 i v3462) a + S1x1x64x64.size a ≤ S8x384x64x64.size a)
theorem k0_off345_inb : ∀ (i : grid0.Coords) (v3462 : BitVec 32) (k0_hw143 : k0_chk143 i v3462), ∀ a, (k0_off345 i v3462) a + S1x1x64x64.size a ≤ S8x384x64x64.size a := fun i v3462 k0_hw143 => k0_hw143

def k0_off346 (i : grid0.Coords) (v3483 : BitVec 32) : Fin 4 → Nat :=
  let c0_i32_2740 : BitVec 32 := 0#32
  let v3484 : BitVec 1 := Scalar.cmpi .ne v3483 c0_i32_2740
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2741 : BitVec 32 := 1#32
  let v3485 : BitVec 32 := Scalar.xori v2 c1_i32_2741
  let v3486 : BitVec 32 := Scalar.select v3484 v3485 v2
  let c3_i32 : BitVec 32 := 3#32
  let v3 : BitVec 32 := Scalar.andi v1 c3_i32
  let c96_i32 : BitVec 32 := 96#32
  let v4 : BitVec 32 := Scalar.muli v3 c96_i32
  let c72_i32 : BitVec 32 := 72#32
  let v3445 : BitVec 32 := Scalar.addi v4 c72_i32
  let c1_i32_2742 : BitVec 32 := 1#32
  let v3487 : BitVec 32 := Scalar.addi v3445 c1_i32_2742
  let c0_i32_2747 : BitVec 32 := 0#32
  let c0_i32_2748 : BitVec 32 := 0#32
  ![v3486.toNat, v3487.toNat, 0, 0]

def k0_chk144 (i : grid0.Coords) (v3483 : BitVec 32) : Prop :=
  (∀ a, (k0_off346 i v3483) a + S1x1x64x64.size a ≤ S8x384x64x64.size a)
theorem k0_off346_inb : ∀ (i : grid0.Coords) (v3483 : BitVec 32) (k0_hw144 : k0_chk144 i v3483), ∀ a, (k0_off346 i v3483) a + S1x1x64x64.size a ≤ S8x384x64x64.size a := fun i v3483 k0_hw144 => k0_hw144

def k0_off347 (i : grid0.Coords) (v3504 : BitVec 32) : Fin 4 → Nat :=
  let c0_i32_2756 : BitVec 32 := 0#32
  let v3505 : BitVec 1 := Scalar.cmpi .ne v3504 c0_i32_2756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2757 : BitVec 32 := 1#32
  let v3506 : BitVec 32 := Scalar.xori v2 c1_i32_2757
  let v3507 : BitVec 32 := Scalar.select v3505 v3506 v2
  let c3_i32 : BitVec 32 := 3#32
  let v3 : BitVec 32 := Scalar.andi v1 c3_i32
  let c96_i32 : BitVec 32 := 96#32
  let v4 : BitVec 32 := Scalar.muli v3 c96_i32
  let c72_i32 : BitVec 32 := 72#32
  let v3445 : BitVec 32 := Scalar.addi v4 c72_i32
  let c2_i32_2758 : BitVec 32 := 2#32
  let v3508 : BitVec 32 := Scalar.addi v3445 c2_i32_2758
  let c0_i32_2763 : BitVec 32 := 0#32
  let c0_i32_2764 : BitVec 32 := 0#32
  ![v3507.toNat, v3508.toNat, 0, 0]

def k0_chk145 (i : grid0.Coords) (v3504 : BitVec 32) : Prop :=
  (∀ a, (k0_off347 i v3504) a + S1x1x64x64.size a ≤ S8x384x64x64.size a)
theorem k0_off347_inb : ∀ (i : grid0.Coords) (v3504 : BitVec 32) (k0_hw145 : k0_chk145 i v3504), ∀ a, (k0_off347 i v3504) a + S1x1x64x64.size a ≤ S8x384x64x64.size a := fun i v3504 k0_hw145 => k0_hw145

def k0_off348 (i : grid0.Coords) (v3525 : BitVec 32) : Fin 4 → Nat :=
  let c0_i32_2772 : BitVec 32 := 0#32
  let v3526 : BitVec 1 := Scalar.cmpi .ne v3525 c0_i32_2772
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2773 : BitVec 32 := 1#32
  let v3527 : BitVec 32 := Scalar.xori v2 c1_i32_2773
  let v3528 : BitVec 32 := Scalar.select v3526 v3527 v2
  let c3_i32 : BitVec 32 := 3#32
  let v3 : BitVec 32 := Scalar.andi v1 c3_i32
  let c96_i32 : BitVec 32 := 96#32
  let v4 : BitVec 32 := Scalar.muli v3 c96_i32
  let c72_i32 : BitVec 32 := 72#32
  let v3445 : BitVec 32 := Scalar.addi v4 c72_i32
  let c3_i32_2774 : BitVec 32 := 3#32
  let v3529 : BitVec 32 := Scalar.addi v3445 c3_i32_2774
  let c0_i32_2779 : BitVec 32 := 0#32
  let c0_i32_2780 : BitVec 32 := 0#32
  ![v3528.toNat, v3529.toNat, 0, 0]

def k0_chk146 (i : grid0.Coords) (v3525 : BitVec 32) : Prop :=
  (∀ a, (k0_off348 i v3525) a + S1x1x64x64.size a ≤ S8x384x64x64.size a)
theorem k0_off348_inb : ∀ (i : grid0.Coords) (v3525 : BitVec 32) (k0_hw146 : k0_chk146 i v3525), ∀ a, (k0_off348 i v3525) a + S1x1x64x64.size a ≤ S8x384x64x64.size a := fun i v3525 k0_hw146 => k0_hw146

def k0_chk147 (v3587 : IVec S16 32) : Prop :=
  (∀ a x, ((![v3587] : Fin 1 → IVec S16 32) a x).toNat < S1536.size a)
theorem k0_idx71_inb : ∀ (v3587 : IVec S16 32) (k0_hw147 : k0_chk147 v3587), ∀ a x, ((![v3587] : Fin 1 → IVec S16 32) a x).toNat < S1536.size a := fun v3587 k0_hw147 => k0_hw147

def k0_chk148 (v3584 : IVec S16 32) : Prop :=
  (∀ a x, ((![v3584] : Fin 1 → IVec S16 32) a x).toNat < S384.size a)
theorem k0_idx72_inb : ∀ (v3584 : IVec S16 32) (k0_hw148 : k0_chk148 v3584), ∀ a x, ((![v3584] : Fin 1 → IVec S16 32) a x).toNat < S384.size a := fun v3584 k0_hw148 => k0_hw148
@[reducible] def k0_t65_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off349 (k0_t65 : Fin k0_t65_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t65
  let v4882 : Index := Scalar.indexCast arg11
  let c0 : Index := 0#32
  ![4, v4882.toNat, 0]
def k0_off350 (k0_t65 : Fin k0_t65_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t65
  let v4885 : Index := Scalar.indexCast arg11
  let c16 : Index := 16#32
  ![4, v4885.toNat, 16]
def k0_off351 (k0_t65 : Fin k0_t65_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t65
  let v4888 : Index := Scalar.indexCast arg11
  let c32 : Index := 32#32
  ![4, v4888.toNat, 32]
def k0_off352 (k0_t65 : Fin k0_t65_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t65
  let v4891 : Index := Scalar.indexCast arg11
  let c48 : Index := 48#32
  ![4, v4891.toNat, 48]
@[reducible] def k0_t66_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off353 (k0_t66 : Fin k0_t66_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t66
  let v4882 : Index := Scalar.indexCast arg11
  let c0 : Index := 0#32
  ![5, v4882.toNat, 0]
def k0_off354 (k0_t66 : Fin k0_t66_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t66
  let v4885 : Index := Scalar.indexCast arg11
  let c16 : Index := 16#32
  ![5, v4885.toNat, 16]
def k0_off355 (k0_t66 : Fin k0_t66_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t66
  let v4888 : Index := Scalar.indexCast arg11
  let c32 : Index := 32#32
  ![5, v4888.toNat, 32]
def k0_off356 (k0_t66 : Fin k0_t66_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t66
  let v4891 : Index := Scalar.indexCast arg11
  let c48 : Index := 48#32
  ![5, v4891.toNat, 48]
@[reducible] def k0_t67_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off357 (k0_t67 : Fin k0_t67_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t67
  let v4882 : Index := Scalar.indexCast arg11
  let c0 : Index := 0#32
  ![6, v4882.toNat, 0]
def k0_off358 (k0_t67 : Fin k0_t67_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t67
  let v4885 : Index := Scalar.indexCast arg11
  let c16 : Index := 16#32
  ![6, v4885.toNat, 16]
def k0_off359 (k0_t67 : Fin k0_t67_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t67
  let v4888 : Index := Scalar.indexCast arg11
  let c32 : Index := 32#32
  ![6, v4888.toNat, 32]
def k0_off360 (k0_t67 : Fin k0_t67_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t67
  let v4891 : Index := Scalar.indexCast arg11
  let c48 : Index := 48#32
  ![6, v4891.toNat, 48]
@[reducible] def k0_t68_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off361 (k0_t68 : Fin k0_t68_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t68
  let v4882 : Index := Scalar.indexCast arg11
  let c0 : Index := 0#32
  ![7, v4882.toNat, 0]
def k0_off362 (k0_t68 : Fin k0_t68_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t68
  let v4885 : Index := Scalar.indexCast arg11
  let c16 : Index := 16#32
  ![7, v4885.toNat, 16]
def k0_off363 (k0_t68 : Fin k0_t68_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t68
  let v4888 : Index := Scalar.indexCast arg11
  let c32 : Index := 32#32
  ![7, v4888.toNat, 32]
def k0_off364 (k0_t68 : Fin k0_t68_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t68
  let v4891 : Index := Scalar.indexCast arg11
  let c48 : Index := 48#32
  ![7, v4891.toNat, 48]
def k0_off365 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c64_i32_2856 : BitVec 32 := 64#32
  let v3630 : BitVec 32 := Scalar.addi v4 c64_i32_2856
  let c0_i32_2861 : BitVec 32 := 0#32
  let c0_i32_2862 : BitVec 32 := 0#32
  ![v2.toNat, v3630.toNat, 0, 0]

def k0_chk149 (v3656 : IVec S16 32) : Prop :=
  (∀ a x, ((![v3656] : Fin 1 → IVec S16 32) a x).toNat < S1536.size a)
theorem k0_idx73_inb : ∀ (v3656 : IVec S16 32) (k0_hw149 : k0_chk149 v3656), ∀ a x, ((![v3656] : Fin 1 → IVec S16 32) a x).toNat < S1536.size a := fun v3656 k0_hw149 => k0_hw149

def k0_chk150 (v3653 : IVec S16 32) : Prop :=
  (∀ a x, ((![v3653] : Fin 1 → IVec S16 32) a x).toNat < S384.size a)
theorem k0_idx74_inb : ∀ (v3653 : IVec S16 32) (k0_hw150 : k0_chk150 v3653), ∀ a x, ((![v3653] : Fin 1 → IVec S16 32) a x).toNat < S384.size a := fun v3653 k0_hw150 => k0_hw150
def k0_off366 (i : grid0.Coords) (v3665 : BitVec 32) : Fin 4 → Nat :=
  let c0_i32_2886 : BitVec 32 := 0#32
  let v3666 : BitVec 1 := Scalar.cmpi .ne v3665 c0_i32_2886
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2887 : BitVec 32 := 1#32
  let v3667 : BitVec 32 := Scalar.xori v2 c1_i32_2887
  let v3668 : BitVec 32 := Scalar.select v3666 v3667 v2
  let c3_i32 : BitVec 32 := 3#32
  let v3 : BitVec 32 := Scalar.andi v1 c3_i32
  let c96_i32 : BitVec 32 := 96#32
  let v4 : BitVec 32 := Scalar.muli v3 c96_i32
  let c76_i32 : BitVec 32 := 76#32
  let v3648 : BitVec 32 := Scalar.addi v4 c76_i32
  let c0_i32_2888 : BitVec 32 := 0#32
  let v3669 : BitVec 32 := Scalar.addi v3648 c0_i32_2888
  let c0_i32_2893 : BitVec 32 := 0#32
  let c0_i32_2894 : BitVec 32 := 0#32
  ![v3668.toNat, v3669.toNat, 0, 0]

def k0_chk151 (i : grid0.Coords) (v3665 : BitVec 32) : Prop :=
  (∀ a, (k0_off366 i v3665) a + S1x1x64x64.size a ≤ S8x384x64x64.size a)
theorem k0_off366_inb : ∀ (i : grid0.Coords) (v3665 : BitVec 32) (k0_hw151 : k0_chk151 i v3665), ∀ a, (k0_off366 i v3665) a + S1x1x64x64.size a ≤ S8x384x64x64.size a := fun i v3665 k0_hw151 => k0_hw151

def k0_off367 (i : grid0.Coords) (v3686 : BitVec 32) : Fin 4 → Nat :=
  let c0_i32_2902 : BitVec 32 := 0#32
  let v3687 : BitVec 1 := Scalar.cmpi .ne v3686 c0_i32_2902
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2903 : BitVec 32 := 1#32
  let v3688 : BitVec 32 := Scalar.xori v2 c1_i32_2903
  let v3689 : BitVec 32 := Scalar.select v3687 v3688 v2
  let c3_i32 : BitVec 32 := 3#32
  let v3 : BitVec 32 := Scalar.andi v1 c3_i32
  let c96_i32 : BitVec 32 := 96#32
  let v4 : BitVec 32 := Scalar.muli v3 c96_i32
  let c76_i32 : BitVec 32 := 76#32
  let v3648 : BitVec 32 := Scalar.addi v4 c76_i32
  let c1_i32_2904 : BitVec 32 := 1#32
  let v3690 : BitVec 32 := Scalar.addi v3648 c1_i32_2904
  let c0_i32_2909 : BitVec 32 := 0#32
  let c0_i32_2910 : BitVec 32 := 0#32
  ![v3689.toNat, v3690.toNat, 0, 0]

def k0_chk152 (i : grid0.Coords) (v3686 : BitVec 32) : Prop :=
  (∀ a, (k0_off367 i v3686) a + S1x1x64x64.size a ≤ S8x384x64x64.size a)
theorem k0_off367_inb : ∀ (i : grid0.Coords) (v3686 : BitVec 32) (k0_hw152 : k0_chk152 i v3686), ∀ a, (k0_off367 i v3686) a + S1x1x64x64.size a ≤ S8x384x64x64.size a := fun i v3686 k0_hw152 => k0_hw152

def k0_off368 (i : grid0.Coords) (v3707 : BitVec 32) : Fin 4 → Nat :=
  let c0_i32_2918 : BitVec 32 := 0#32
  let v3708 : BitVec 1 := Scalar.cmpi .ne v3707 c0_i32_2918
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2919 : BitVec 32 := 1#32
  let v3709 : BitVec 32 := Scalar.xori v2 c1_i32_2919
  let v3710 : BitVec 32 := Scalar.select v3708 v3709 v2
  let c3_i32 : BitVec 32 := 3#32
  let v3 : BitVec 32 := Scalar.andi v1 c3_i32
  let c96_i32 : BitVec 32 := 96#32
  let v4 : BitVec 32 := Scalar.muli v3 c96_i32
  let c76_i32 : BitVec 32 := 76#32
  let v3648 : BitVec 32 := Scalar.addi v4 c76_i32
  let c2_i32_2920 : BitVec 32 := 2#32
  let v3711 : BitVec 32 := Scalar.addi v3648 c2_i32_2920
  let c0_i32_2925 : BitVec 32 := 0#32
  let c0_i32_2926 : BitVec 32 := 0#32
  ![v3710.toNat, v3711.toNat, 0, 0]

def k0_chk153 (i : grid0.Coords) (v3707 : BitVec 32) : Prop :=
  (∀ a, (k0_off368 i v3707) a + S1x1x64x64.size a ≤ S8x384x64x64.size a)
theorem k0_off368_inb : ∀ (i : grid0.Coords) (v3707 : BitVec 32) (k0_hw153 : k0_chk153 i v3707), ∀ a, (k0_off368 i v3707) a + S1x1x64x64.size a ≤ S8x384x64x64.size a := fun i v3707 k0_hw153 => k0_hw153

def k0_off369 (i : grid0.Coords) (v3728 : BitVec 32) : Fin 4 → Nat :=
  let c0_i32_2934 : BitVec 32 := 0#32
  let v3729 : BitVec 1 := Scalar.cmpi .ne v3728 c0_i32_2934
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_2935 : BitVec 32 := 1#32
  let v3730 : BitVec 32 := Scalar.xori v2 c1_i32_2935
  let v3731 : BitVec 32 := Scalar.select v3729 v3730 v2
  let c3_i32 : BitVec 32 := 3#32
  let v3 : BitVec 32 := Scalar.andi v1 c3_i32
  let c96_i32 : BitVec 32 := 96#32
  let v4 : BitVec 32 := Scalar.muli v3 c96_i32
  let c76_i32 : BitVec 32 := 76#32
  let v3648 : BitVec 32 := Scalar.addi v4 c76_i32
  let c3_i32_2936 : BitVec 32 := 3#32
  let v3732 : BitVec 32 := Scalar.addi v3648 c3_i32_2936
  let c0_i32_2941 : BitVec 32 := 0#32
  let c0_i32_2942 : BitVec 32 := 0#32
  ![v3731.toNat, v3732.toNat, 0, 0]

def k0_chk154 (i : grid0.Coords) (v3728 : BitVec 32) : Prop :=
  (∀ a, (k0_off369 i v3728) a + S1x1x64x64.size a ≤ S8x384x64x64.size a)
theorem k0_off369_inb : ∀ (i : grid0.Coords) (v3728 : BitVec 32) (k0_hw154 : k0_chk154 i v3728), ∀ a, (k0_off369 i v3728) a + S1x1x64x64.size a ≤ S8x384x64x64.size a := fun i v3728 k0_hw154 => k0_hw154

def k0_chk155 (v3790 : IVec S16 32) : Prop :=
  (∀ a x, ((![v3790] : Fin 1 → IVec S16 32) a x).toNat < S1536.size a)
theorem k0_idx75_inb : ∀ (v3790 : IVec S16 32) (k0_hw155 : k0_chk155 v3790), ∀ a x, ((![v3790] : Fin 1 → IVec S16 32) a x).toNat < S1536.size a := fun v3790 k0_hw155 => k0_hw155

def k0_chk156 (v3787 : IVec S16 32) : Prop :=
  (∀ a x, ((![v3787] : Fin 1 → IVec S16 32) a x).toNat < S384.size a)
theorem k0_idx76_inb : ∀ (v3787 : IVec S16 32) (k0_hw156 : k0_chk156 v3787), ∀ a x, ((![v3787] : Fin 1 → IVec S16 32) a x).toNat < S384.size a := fun v3787 k0_hw156 => k0_hw156
@[reducible] def k0_t69_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off370 (k0_t69 : Fin k0_t69_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t69
  let v4882 : Index := Scalar.indexCast arg11
  let c0 : Index := 0#32
  ![8, v4882.toNat, 0]
def k0_off371 (k0_t69 : Fin k0_t69_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t69
  let v4885 : Index := Scalar.indexCast arg11
  let c16 : Index := 16#32
  ![8, v4885.toNat, 16]
def k0_off372 (k0_t69 : Fin k0_t69_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t69
  let v4888 : Index := Scalar.indexCast arg11
  let c32 : Index := 32#32
  ![8, v4888.toNat, 32]
def k0_off373 (k0_t69 : Fin k0_t69_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t69
  let v4891 : Index := Scalar.indexCast arg11
  let c48 : Index := 48#32
  ![8, v4891.toNat, 48]
@[reducible] def k0_t70_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off374 (k0_t70 : Fin k0_t70_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t70
  let v4882 : Index := Scalar.indexCast arg11
  let c0 : Index := 0#32
  ![9, v4882.toNat, 0]
def k0_off375 (k0_t70 : Fin k0_t70_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t70
  let v4885 : Index := Scalar.indexCast arg11
  let c16 : Index := 16#32
  ![9, v4885.toNat, 16]
def k0_off376 (k0_t70 : Fin k0_t70_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t70
  let v4888 : Index := Scalar.indexCast arg11
  let c32 : Index := 32#32
  ![9, v4888.toNat, 32]
def k0_off377 (k0_t70 : Fin k0_t70_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t70
  let v4891 : Index := Scalar.indexCast arg11
  let c48 : Index := 48#32
  ![9, v4891.toNat, 48]
@[reducible] def k0_t71_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off378 (k0_t71 : Fin k0_t71_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t71
  let v4882 : Index := Scalar.indexCast arg11
  let c0 : Index := 0#32
  ![10, v4882.toNat, 0]
def k0_off379 (k0_t71 : Fin k0_t71_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t71
  let v4885 : Index := Scalar.indexCast arg11
  let c16 : Index := 16#32
  ![10, v4885.toNat, 16]
def k0_off380 (k0_t71 : Fin k0_t71_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t71
  let v4888 : Index := Scalar.indexCast arg11
  let c32 : Index := 32#32
  ![10, v4888.toNat, 32]
def k0_off381 (k0_t71 : Fin k0_t71_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t71
  let v4891 : Index := Scalar.indexCast arg11
  let c48 : Index := 48#32
  ![10, v4891.toNat, 48]
@[reducible] def k0_t72_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off382 (k0_t72 : Fin k0_t72_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t72
  let v4882 : Index := Scalar.indexCast arg11
  let c0 : Index := 0#32
  ![11, v4882.toNat, 0]
def k0_off383 (k0_t72 : Fin k0_t72_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t72
  let v4885 : Index := Scalar.indexCast arg11
  let c16 : Index := 16#32
  ![11, v4885.toNat, 16]
def k0_off384 (k0_t72 : Fin k0_t72_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t72
  let v4888 : Index := Scalar.indexCast arg11
  let c32 : Index := 32#32
  ![11, v4888.toNat, 32]
def k0_off385 (k0_t72 : Fin k0_t72_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t72
  let v4891 : Index := Scalar.indexCast arg11
  let c48 : Index := 48#32
  ![11, v4891.toNat, 48]
def k0_off386 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c68_i32_3018 : BitVec 32 := 68#32
  let v3833 : BitVec 32 := Scalar.addi v4 c68_i32_3018
  let c0_i32_3023 : BitVec 32 := 0#32
  let c0_i32_3024 : BitVec 32 := 0#32
  ![v2.toNat, v3833.toNat, 0, 0]

def k0_chk157 (v3859 : IVec S16 32) : Prop :=
  (∀ a x, ((![v3859] : Fin 1 → IVec S16 32) a x).toNat < S1536.size a)
theorem k0_idx77_inb : ∀ (v3859 : IVec S16 32) (k0_hw157 : k0_chk157 v3859), ∀ a x, ((![v3859] : Fin 1 → IVec S16 32) a x).toNat < S1536.size a := fun v3859 k0_hw157 => k0_hw157

def k0_chk158 (v3856 : IVec S16 32) : Prop :=
  (∀ a x, ((![v3856] : Fin 1 → IVec S16 32) a x).toNat < S384.size a)
theorem k0_idx78_inb : ∀ (v3856 : IVec S16 32) (k0_hw158 : k0_chk158 v3856), ∀ a x, ((![v3856] : Fin 1 → IVec S16 32) a x).toNat < S384.size a := fun v3856 k0_hw158 => k0_hw158
def k0_off387 (i : grid0.Coords) (v3868 : BitVec 32) : Fin 4 → Nat :=
  let c0_i32_3048 : BitVec 32 := 0#32
  let v3869 : BitVec 1 := Scalar.cmpi .ne v3868 c0_i32_3048
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3049 : BitVec 32 := 1#32
  let v3870 : BitVec 32 := Scalar.xori v2 c1_i32_3049
  let v3871 : BitVec 32 := Scalar.select v3869 v3870 v2
  let c3_i32 : BitVec 32 := 3#32
  let v3 : BitVec 32 := Scalar.andi v1 c3_i32
  let c96_i32 : BitVec 32 := 96#32
  let v4 : BitVec 32 := Scalar.muli v3 c96_i32
  let c80_i32 : BitVec 32 := 80#32
  let v3851 : BitVec 32 := Scalar.addi v4 c80_i32
  let c0_i32_3050 : BitVec 32 := 0#32
  let v3872 : BitVec 32 := Scalar.addi v3851 c0_i32_3050
  let c0_i32_3055 : BitVec 32 := 0#32
  let c0_i32_3056 : BitVec 32 := 0#32
  ![v3871.toNat, v3872.toNat, 0, 0]

def k0_chk159 (i : grid0.Coords) (v3868 : BitVec 32) : Prop :=
  (∀ a, (k0_off387 i v3868) a + S1x1x64x64.size a ≤ S8x384x64x64.size a)
theorem k0_off387_inb : ∀ (i : grid0.Coords) (v3868 : BitVec 32) (k0_hw159 : k0_chk159 i v3868), ∀ a, (k0_off387 i v3868) a + S1x1x64x64.size a ≤ S8x384x64x64.size a := fun i v3868 k0_hw159 => k0_hw159

def k0_off388 (i : grid0.Coords) (v3889 : BitVec 32) : Fin 4 → Nat :=
  let c0_i32_3064 : BitVec 32 := 0#32
  let v3890 : BitVec 1 := Scalar.cmpi .ne v3889 c0_i32_3064
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3065 : BitVec 32 := 1#32
  let v3891 : BitVec 32 := Scalar.xori v2 c1_i32_3065
  let v3892 : BitVec 32 := Scalar.select v3890 v3891 v2
  let c3_i32 : BitVec 32 := 3#32
  let v3 : BitVec 32 := Scalar.andi v1 c3_i32
  let c96_i32 : BitVec 32 := 96#32
  let v4 : BitVec 32 := Scalar.muli v3 c96_i32
  let c80_i32 : BitVec 32 := 80#32
  let v3851 : BitVec 32 := Scalar.addi v4 c80_i32
  let c1_i32_3066 : BitVec 32 := 1#32
  let v3893 : BitVec 32 := Scalar.addi v3851 c1_i32_3066
  let c0_i32_3071 : BitVec 32 := 0#32
  let c0_i32_3072 : BitVec 32 := 0#32
  ![v3892.toNat, v3893.toNat, 0, 0]

def k0_chk160 (i : grid0.Coords) (v3889 : BitVec 32) : Prop :=
  (∀ a, (k0_off388 i v3889) a + S1x1x64x64.size a ≤ S8x384x64x64.size a)
theorem k0_off388_inb : ∀ (i : grid0.Coords) (v3889 : BitVec 32) (k0_hw160 : k0_chk160 i v3889), ∀ a, (k0_off388 i v3889) a + S1x1x64x64.size a ≤ S8x384x64x64.size a := fun i v3889 k0_hw160 => k0_hw160

def k0_off389 (i : grid0.Coords) (v3910 : BitVec 32) : Fin 4 → Nat :=
  let c0_i32_3080 : BitVec 32 := 0#32
  let v3911 : BitVec 1 := Scalar.cmpi .ne v3910 c0_i32_3080
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3081 : BitVec 32 := 1#32
  let v3912 : BitVec 32 := Scalar.xori v2 c1_i32_3081
  let v3913 : BitVec 32 := Scalar.select v3911 v3912 v2
  let c3_i32 : BitVec 32 := 3#32
  let v3 : BitVec 32 := Scalar.andi v1 c3_i32
  let c96_i32 : BitVec 32 := 96#32
  let v4 : BitVec 32 := Scalar.muli v3 c96_i32
  let c80_i32 : BitVec 32 := 80#32
  let v3851 : BitVec 32 := Scalar.addi v4 c80_i32
  let c2_i32_3082 : BitVec 32 := 2#32
  let v3914 : BitVec 32 := Scalar.addi v3851 c2_i32_3082
  let c0_i32_3087 : BitVec 32 := 0#32
  let c0_i32_3088 : BitVec 32 := 0#32
  ![v3913.toNat, v3914.toNat, 0, 0]

def k0_chk161 (i : grid0.Coords) (v3910 : BitVec 32) : Prop :=
  (∀ a, (k0_off389 i v3910) a + S1x1x64x64.size a ≤ S8x384x64x64.size a)
theorem k0_off389_inb : ∀ (i : grid0.Coords) (v3910 : BitVec 32) (k0_hw161 : k0_chk161 i v3910), ∀ a, (k0_off389 i v3910) a + S1x1x64x64.size a ≤ S8x384x64x64.size a := fun i v3910 k0_hw161 => k0_hw161

def k0_off390 (i : grid0.Coords) (v3931 : BitVec 32) : Fin 4 → Nat :=
  let c0_i32_3096 : BitVec 32 := 0#32
  let v3932 : BitVec 1 := Scalar.cmpi .ne v3931 c0_i32_3096
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3097 : BitVec 32 := 1#32
  let v3933 : BitVec 32 := Scalar.xori v2 c1_i32_3097
  let v3934 : BitVec 32 := Scalar.select v3932 v3933 v2
  let c3_i32 : BitVec 32 := 3#32
  let v3 : BitVec 32 := Scalar.andi v1 c3_i32
  let c96_i32 : BitVec 32 := 96#32
  let v4 : BitVec 32 := Scalar.muli v3 c96_i32
  let c80_i32 : BitVec 32 := 80#32
  let v3851 : BitVec 32 := Scalar.addi v4 c80_i32
  let c3_i32_3098 : BitVec 32 := 3#32
  let v3935 : BitVec 32 := Scalar.addi v3851 c3_i32_3098
  let c0_i32_3103 : BitVec 32 := 0#32
  let c0_i32_3104 : BitVec 32 := 0#32
  ![v3934.toNat, v3935.toNat, 0, 0]

def k0_chk162 (i : grid0.Coords) (v3931 : BitVec 32) : Prop :=
  (∀ a, (k0_off390 i v3931) a + S1x1x64x64.size a ≤ S8x384x64x64.size a)
theorem k0_off390_inb : ∀ (i : grid0.Coords) (v3931 : BitVec 32) (k0_hw162 : k0_chk162 i v3931), ∀ a, (k0_off390 i v3931) a + S1x1x64x64.size a ≤ S8x384x64x64.size a := fun i v3931 k0_hw162 => k0_hw162

def k0_chk163 (v3993 : IVec S16 32) : Prop :=
  (∀ a x, ((![v3993] : Fin 1 → IVec S16 32) a x).toNat < S1536.size a)
theorem k0_idx79_inb : ∀ (v3993 : IVec S16 32) (k0_hw163 : k0_chk163 v3993), ∀ a x, ((![v3993] : Fin 1 → IVec S16 32) a x).toNat < S1536.size a := fun v3993 k0_hw163 => k0_hw163

def k0_chk164 (v3990 : IVec S16 32) : Prop :=
  (∀ a x, ((![v3990] : Fin 1 → IVec S16 32) a x).toNat < S384.size a)
theorem k0_idx80_inb : ∀ (v3990 : IVec S16 32) (k0_hw164 : k0_chk164 v3990), ∀ a x, ((![v3990] : Fin 1 → IVec S16 32) a x).toNat < S384.size a := fun v3990 k0_hw164 => k0_hw164
@[reducible] def k0_t73_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off391 (k0_t73 : Fin k0_t73_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t73
  let v4882 : Index := Scalar.indexCast arg11
  let c0 : Index := 0#32
  ![0, v4882.toNat, 0]
def k0_off392 (k0_t73 : Fin k0_t73_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t73
  let v4885 : Index := Scalar.indexCast arg11
  let c16 : Index := 16#32
  ![0, v4885.toNat, 16]
def k0_off393 (k0_t73 : Fin k0_t73_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t73
  let v4888 : Index := Scalar.indexCast arg11
  let c32 : Index := 32#32
  ![0, v4888.toNat, 32]
def k0_off394 (k0_t73 : Fin k0_t73_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t73
  let v4891 : Index := Scalar.indexCast arg11
  let c48 : Index := 48#32
  ![0, v4891.toNat, 48]
@[reducible] def k0_t74_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off395 (k0_t74 : Fin k0_t74_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t74
  let v4882 : Index := Scalar.indexCast arg11
  let c0 : Index := 0#32
  ![1, v4882.toNat, 0]
def k0_off396 (k0_t74 : Fin k0_t74_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t74
  let v4885 : Index := Scalar.indexCast arg11
  let c16 : Index := 16#32
  ![1, v4885.toNat, 16]
def k0_off397 (k0_t74 : Fin k0_t74_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t74
  let v4888 : Index := Scalar.indexCast arg11
  let c32 : Index := 32#32
  ![1, v4888.toNat, 32]
def k0_off398 (k0_t74 : Fin k0_t74_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t74
  let v4891 : Index := Scalar.indexCast arg11
  let c48 : Index := 48#32
  ![1, v4891.toNat, 48]
@[reducible] def k0_t75_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off399 (k0_t75 : Fin k0_t75_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t75
  let v4882 : Index := Scalar.indexCast arg11
  let c0 : Index := 0#32
  ![2, v4882.toNat, 0]
def k0_off400 (k0_t75 : Fin k0_t75_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t75
  let v4885 : Index := Scalar.indexCast arg11
  let c16 : Index := 16#32
  ![2, v4885.toNat, 16]
def k0_off401 (k0_t75 : Fin k0_t75_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t75
  let v4888 : Index := Scalar.indexCast arg11
  let c32 : Index := 32#32
  ![2, v4888.toNat, 32]
def k0_off402 (k0_t75 : Fin k0_t75_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t75
  let v4891 : Index := Scalar.indexCast arg11
  let c48 : Index := 48#32
  ![2, v4891.toNat, 48]
@[reducible] def k0_t76_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off403 (k0_t76 : Fin k0_t76_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t76
  let v4882 : Index := Scalar.indexCast arg11
  let c0 : Index := 0#32
  ![3, v4882.toNat, 0]
def k0_off404 (k0_t76 : Fin k0_t76_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t76
  let v4885 : Index := Scalar.indexCast arg11
  let c16 : Index := 16#32
  ![3, v4885.toNat, 16]
def k0_off405 (k0_t76 : Fin k0_t76_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t76
  let v4888 : Index := Scalar.indexCast arg11
  let c32 : Index := 32#32
  ![3, v4888.toNat, 32]
def k0_off406 (k0_t76 : Fin k0_t76_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t76
  let v4891 : Index := Scalar.indexCast arg11
  let c48 : Index := 48#32
  ![3, v4891.toNat, 48]
def k0_off407 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c72_i32_3180 : BitVec 32 := 72#32
  let v4036 : BitVec 32 := Scalar.addi v4 c72_i32_3180
  let c0_i32_3185 : BitVec 32 := 0#32
  let c0_i32_3186 : BitVec 32 := 0#32
  ![v2.toNat, v4036.toNat, 0, 0]

def k0_chk165 (v4062 : IVec S16 32) : Prop :=
  (∀ a x, ((![v4062] : Fin 1 → IVec S16 32) a x).toNat < S1536.size a)
theorem k0_idx81_inb : ∀ (v4062 : IVec S16 32) (k0_hw165 : k0_chk165 v4062), ∀ a x, ((![v4062] : Fin 1 → IVec S16 32) a x).toNat < S1536.size a := fun v4062 k0_hw165 => k0_hw165

def k0_chk166 (v4059 : IVec S16 32) : Prop :=
  (∀ a x, ((![v4059] : Fin 1 → IVec S16 32) a x).toNat < S384.size a)
theorem k0_idx82_inb : ∀ (v4059 : IVec S16 32) (k0_hw166 : k0_chk166 v4059), ∀ a x, ((![v4059] : Fin 1 → IVec S16 32) a x).toNat < S384.size a := fun v4059 k0_hw166 => k0_hw166
def k0_off408 (i : grid0.Coords) (v4071 : BitVec 32) : Fin 4 → Nat :=
  let c0_i32_3210 : BitVec 32 := 0#32
  let v4072 : BitVec 1 := Scalar.cmpi .ne v4071 c0_i32_3210
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3211 : BitVec 32 := 1#32
  let v4073 : BitVec 32 := Scalar.xori v2 c1_i32_3211
  let v4074 : BitVec 32 := Scalar.select v4072 v4073 v2
  let c3_i32 : BitVec 32 := 3#32
  let v3 : BitVec 32 := Scalar.andi v1 c3_i32
  let c96_i32 : BitVec 32 := 96#32
  let v4 : BitVec 32 := Scalar.muli v3 c96_i32
  let c84_i32 : BitVec 32 := 84#32
  let v4054 : BitVec 32 := Scalar.addi v4 c84_i32
  let c0_i32_3212 : BitVec 32 := 0#32
  let v4075 : BitVec 32 := Scalar.addi v4054 c0_i32_3212
  let c0_i32_3217 : BitVec 32 := 0#32
  let c0_i32_3218 : BitVec 32 := 0#32
  ![v4074.toNat, v4075.toNat, 0, 0]

def k0_chk167 (i : grid0.Coords) (v4071 : BitVec 32) : Prop :=
  (∀ a, (k0_off408 i v4071) a + S1x1x64x64.size a ≤ S8x384x64x64.size a)
theorem k0_off408_inb : ∀ (i : grid0.Coords) (v4071 : BitVec 32) (k0_hw167 : k0_chk167 i v4071), ∀ a, (k0_off408 i v4071) a + S1x1x64x64.size a ≤ S8x384x64x64.size a := fun i v4071 k0_hw167 => k0_hw167

def k0_off409 (i : grid0.Coords) (v4092 : BitVec 32) : Fin 4 → Nat :=
  let c0_i32_3226 : BitVec 32 := 0#32
  let v4093 : BitVec 1 := Scalar.cmpi .ne v4092 c0_i32_3226
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3227 : BitVec 32 := 1#32
  let v4094 : BitVec 32 := Scalar.xori v2 c1_i32_3227
  let v4095 : BitVec 32 := Scalar.select v4093 v4094 v2
  let c3_i32 : BitVec 32 := 3#32
  let v3 : BitVec 32 := Scalar.andi v1 c3_i32
  let c96_i32 : BitVec 32 := 96#32
  let v4 : BitVec 32 := Scalar.muli v3 c96_i32
  let c84_i32 : BitVec 32 := 84#32
  let v4054 : BitVec 32 := Scalar.addi v4 c84_i32
  let c1_i32_3228 : BitVec 32 := 1#32
  let v4096 : BitVec 32 := Scalar.addi v4054 c1_i32_3228
  let c0_i32_3233 : BitVec 32 := 0#32
  let c0_i32_3234 : BitVec 32 := 0#32
  ![v4095.toNat, v4096.toNat, 0, 0]

def k0_chk168 (i : grid0.Coords) (v4092 : BitVec 32) : Prop :=
  (∀ a, (k0_off409 i v4092) a + S1x1x64x64.size a ≤ S8x384x64x64.size a)
theorem k0_off409_inb : ∀ (i : grid0.Coords) (v4092 : BitVec 32) (k0_hw168 : k0_chk168 i v4092), ∀ a, (k0_off409 i v4092) a + S1x1x64x64.size a ≤ S8x384x64x64.size a := fun i v4092 k0_hw168 => k0_hw168

def k0_off410 (i : grid0.Coords) (v4113 : BitVec 32) : Fin 4 → Nat :=
  let c0_i32_3242 : BitVec 32 := 0#32
  let v4114 : BitVec 1 := Scalar.cmpi .ne v4113 c0_i32_3242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3243 : BitVec 32 := 1#32
  let v4115 : BitVec 32 := Scalar.xori v2 c1_i32_3243
  let v4116 : BitVec 32 := Scalar.select v4114 v4115 v2
  let c3_i32 : BitVec 32 := 3#32
  let v3 : BitVec 32 := Scalar.andi v1 c3_i32
  let c96_i32 : BitVec 32 := 96#32
  let v4 : BitVec 32 := Scalar.muli v3 c96_i32
  let c84_i32 : BitVec 32 := 84#32
  let v4054 : BitVec 32 := Scalar.addi v4 c84_i32
  let c2_i32_3244 : BitVec 32 := 2#32
  let v4117 : BitVec 32 := Scalar.addi v4054 c2_i32_3244
  let c0_i32_3249 : BitVec 32 := 0#32
  let c0_i32_3250 : BitVec 32 := 0#32
  ![v4116.toNat, v4117.toNat, 0, 0]

def k0_chk169 (i : grid0.Coords) (v4113 : BitVec 32) : Prop :=
  (∀ a, (k0_off410 i v4113) a + S1x1x64x64.size a ≤ S8x384x64x64.size a)
theorem k0_off410_inb : ∀ (i : grid0.Coords) (v4113 : BitVec 32) (k0_hw169 : k0_chk169 i v4113), ∀ a, (k0_off410 i v4113) a + S1x1x64x64.size a ≤ S8x384x64x64.size a := fun i v4113 k0_hw169 => k0_hw169

def k0_off411 (i : grid0.Coords) (v4134 : BitVec 32) : Fin 4 → Nat :=
  let c0_i32_3258 : BitVec 32 := 0#32
  let v4135 : BitVec 1 := Scalar.cmpi .ne v4134 c0_i32_3258
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3259 : BitVec 32 := 1#32
  let v4136 : BitVec 32 := Scalar.xori v2 c1_i32_3259
  let v4137 : BitVec 32 := Scalar.select v4135 v4136 v2
  let c3_i32 : BitVec 32 := 3#32
  let v3 : BitVec 32 := Scalar.andi v1 c3_i32
  let c96_i32 : BitVec 32 := 96#32
  let v4 : BitVec 32 := Scalar.muli v3 c96_i32
  let c84_i32 : BitVec 32 := 84#32
  let v4054 : BitVec 32 := Scalar.addi v4 c84_i32
  let c3_i32_3260 : BitVec 32 := 3#32
  let v4138 : BitVec 32 := Scalar.addi v4054 c3_i32_3260
  let c0_i32_3265 : BitVec 32 := 0#32
  let c0_i32_3266 : BitVec 32 := 0#32
  ![v4137.toNat, v4138.toNat, 0, 0]

def k0_chk170 (i : grid0.Coords) (v4134 : BitVec 32) : Prop :=
  (∀ a, (k0_off411 i v4134) a + S1x1x64x64.size a ≤ S8x384x64x64.size a)
theorem k0_off411_inb : ∀ (i : grid0.Coords) (v4134 : BitVec 32) (k0_hw170 : k0_chk170 i v4134), ∀ a, (k0_off411 i v4134) a + S1x1x64x64.size a ≤ S8x384x64x64.size a := fun i v4134 k0_hw170 => k0_hw170

def k0_chk171 (v4196 : IVec S16 32) : Prop :=
  (∀ a x, ((![v4196] : Fin 1 → IVec S16 32) a x).toNat < S1536.size a)
theorem k0_idx83_inb : ∀ (v4196 : IVec S16 32) (k0_hw171 : k0_chk171 v4196), ∀ a x, ((![v4196] : Fin 1 → IVec S16 32) a x).toNat < S1536.size a := fun v4196 k0_hw171 => k0_hw171

def k0_chk172 (v4193 : IVec S16 32) : Prop :=
  (∀ a x, ((![v4193] : Fin 1 → IVec S16 32) a x).toNat < S384.size a)
theorem k0_idx84_inb : ∀ (v4193 : IVec S16 32) (k0_hw172 : k0_chk172 v4193), ∀ a x, ((![v4193] : Fin 1 → IVec S16 32) a x).toNat < S384.size a := fun v4193 k0_hw172 => k0_hw172
@[reducible] def k0_t77_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off412 (k0_t77 : Fin k0_t77_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t77
  let v4882 : Index := Scalar.indexCast arg11
  let c0 : Index := 0#32
  ![4, v4882.toNat, 0]
def k0_off413 (k0_t77 : Fin k0_t77_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t77
  let v4885 : Index := Scalar.indexCast arg11
  let c16 : Index := 16#32
  ![4, v4885.toNat, 16]
def k0_off414 (k0_t77 : Fin k0_t77_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t77
  let v4888 : Index := Scalar.indexCast arg11
  let c32 : Index := 32#32
  ![4, v4888.toNat, 32]
def k0_off415 (k0_t77 : Fin k0_t77_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t77
  let v4891 : Index := Scalar.indexCast arg11
  let c48 : Index := 48#32
  ![4, v4891.toNat, 48]
@[reducible] def k0_t78_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off416 (k0_t78 : Fin k0_t78_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t78
  let v4882 : Index := Scalar.indexCast arg11
  let c0 : Index := 0#32
  ![5, v4882.toNat, 0]
def k0_off417 (k0_t78 : Fin k0_t78_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t78
  let v4885 : Index := Scalar.indexCast arg11
  let c16 : Index := 16#32
  ![5, v4885.toNat, 16]
def k0_off418 (k0_t78 : Fin k0_t78_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t78
  let v4888 : Index := Scalar.indexCast arg11
  let c32 : Index := 32#32
  ![5, v4888.toNat, 32]
def k0_off419 (k0_t78 : Fin k0_t78_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t78
  let v4891 : Index := Scalar.indexCast arg11
  let c48 : Index := 48#32
  ![5, v4891.toNat, 48]
@[reducible] def k0_t79_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off420 (k0_t79 : Fin k0_t79_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t79
  let v4882 : Index := Scalar.indexCast arg11
  let c0 : Index := 0#32
  ![6, v4882.toNat, 0]
def k0_off421 (k0_t79 : Fin k0_t79_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t79
  let v4885 : Index := Scalar.indexCast arg11
  let c16 : Index := 16#32
  ![6, v4885.toNat, 16]
def k0_off422 (k0_t79 : Fin k0_t79_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t79
  let v4888 : Index := Scalar.indexCast arg11
  let c32 : Index := 32#32
  ![6, v4888.toNat, 32]
def k0_off423 (k0_t79 : Fin k0_t79_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t79
  let v4891 : Index := Scalar.indexCast arg11
  let c48 : Index := 48#32
  ![6, v4891.toNat, 48]
@[reducible] def k0_t80_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off424 (k0_t80 : Fin k0_t80_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t80
  let v4882 : Index := Scalar.indexCast arg11
  let c0 : Index := 0#32
  ![7, v4882.toNat, 0]
def k0_off425 (k0_t80 : Fin k0_t80_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t80
  let v4885 : Index := Scalar.indexCast arg11
  let c16 : Index := 16#32
  ![7, v4885.toNat, 16]
def k0_off426 (k0_t80 : Fin k0_t80_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t80
  let v4888 : Index := Scalar.indexCast arg11
  let c32 : Index := 32#32
  ![7, v4888.toNat, 32]
def k0_off427 (k0_t80 : Fin k0_t80_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t80
  let v4891 : Index := Scalar.indexCast arg11
  let c48 : Index := 48#32
  ![7, v4891.toNat, 48]
def k0_off428 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c76_i32_3342 : BitVec 32 := 76#32
  let v4239 : BitVec 32 := Scalar.addi v4 c76_i32_3342
  let c0_i32_3347 : BitVec 32 := 0#32
  let c0_i32_3348 : BitVec 32 := 0#32
  ![v2.toNat, v4239.toNat, 0, 0]

def k0_chk173 (v4265 : IVec S16 32) : Prop :=
  (∀ a x, ((![v4265] : Fin 1 → IVec S16 32) a x).toNat < S1536.size a)
theorem k0_idx85_inb : ∀ (v4265 : IVec S16 32) (k0_hw173 : k0_chk173 v4265), ∀ a x, ((![v4265] : Fin 1 → IVec S16 32) a x).toNat < S1536.size a := fun v4265 k0_hw173 => k0_hw173

def k0_chk174 (v4262 : IVec S16 32) : Prop :=
  (∀ a x, ((![v4262] : Fin 1 → IVec S16 32) a x).toNat < S384.size a)
theorem k0_idx86_inb : ∀ (v4262 : IVec S16 32) (k0_hw174 : k0_chk174 v4262), ∀ a x, ((![v4262] : Fin 1 → IVec S16 32) a x).toNat < S384.size a := fun v4262 k0_hw174 => k0_hw174
def k0_off429 (i : grid0.Coords) (v4274 : BitVec 32) : Fin 4 → Nat :=
  let c0_i32_3372 : BitVec 32 := 0#32
  let v4275 : BitVec 1 := Scalar.cmpi .ne v4274 c0_i32_3372
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3373 : BitVec 32 := 1#32
  let v4276 : BitVec 32 := Scalar.xori v2 c1_i32_3373
  let v4277 : BitVec 32 := Scalar.select v4275 v4276 v2
  let c3_i32 : BitVec 32 := 3#32
  let v3 : BitVec 32 := Scalar.andi v1 c3_i32
  let c96_i32 : BitVec 32 := 96#32
  let v4 : BitVec 32 := Scalar.muli v3 c96_i32
  let c88_i32 : BitVec 32 := 88#32
  let v4257 : BitVec 32 := Scalar.addi v4 c88_i32
  let c0_i32_3374 : BitVec 32 := 0#32
  let v4278 : BitVec 32 := Scalar.addi v4257 c0_i32_3374
  let c0_i32_3379 : BitVec 32 := 0#32
  let c0_i32_3380 : BitVec 32 := 0#32
  ![v4277.toNat, v4278.toNat, 0, 0]

def k0_chk175 (i : grid0.Coords) (v4274 : BitVec 32) : Prop :=
  (∀ a, (k0_off429 i v4274) a + S1x1x64x64.size a ≤ S8x384x64x64.size a)
theorem k0_off429_inb : ∀ (i : grid0.Coords) (v4274 : BitVec 32) (k0_hw175 : k0_chk175 i v4274), ∀ a, (k0_off429 i v4274) a + S1x1x64x64.size a ≤ S8x384x64x64.size a := fun i v4274 k0_hw175 => k0_hw175

def k0_off430 (i : grid0.Coords) (v4295 : BitVec 32) : Fin 4 → Nat :=
  let c0_i32_3388 : BitVec 32 := 0#32
  let v4296 : BitVec 1 := Scalar.cmpi .ne v4295 c0_i32_3388
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3389 : BitVec 32 := 1#32
  let v4297 : BitVec 32 := Scalar.xori v2 c1_i32_3389
  let v4298 : BitVec 32 := Scalar.select v4296 v4297 v2
  let c3_i32 : BitVec 32 := 3#32
  let v3 : BitVec 32 := Scalar.andi v1 c3_i32
  let c96_i32 : BitVec 32 := 96#32
  let v4 : BitVec 32 := Scalar.muli v3 c96_i32
  let c88_i32 : BitVec 32 := 88#32
  let v4257 : BitVec 32 := Scalar.addi v4 c88_i32
  let c1_i32_3390 : BitVec 32 := 1#32
  let v4299 : BitVec 32 := Scalar.addi v4257 c1_i32_3390
  let c0_i32_3395 : BitVec 32 := 0#32
  let c0_i32_3396 : BitVec 32 := 0#32
  ![v4298.toNat, v4299.toNat, 0, 0]

def k0_chk176 (i : grid0.Coords) (v4295 : BitVec 32) : Prop :=
  (∀ a, (k0_off430 i v4295) a + S1x1x64x64.size a ≤ S8x384x64x64.size a)
theorem k0_off430_inb : ∀ (i : grid0.Coords) (v4295 : BitVec 32) (k0_hw176 : k0_chk176 i v4295), ∀ a, (k0_off430 i v4295) a + S1x1x64x64.size a ≤ S8x384x64x64.size a := fun i v4295 k0_hw176 => k0_hw176

def k0_off431 (i : grid0.Coords) (v4316 : BitVec 32) : Fin 4 → Nat :=
  let c0_i32_3404 : BitVec 32 := 0#32
  let v4317 : BitVec 1 := Scalar.cmpi .ne v4316 c0_i32_3404
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3405 : BitVec 32 := 1#32
  let v4318 : BitVec 32 := Scalar.xori v2 c1_i32_3405
  let v4319 : BitVec 32 := Scalar.select v4317 v4318 v2
  let c3_i32 : BitVec 32 := 3#32
  let v3 : BitVec 32 := Scalar.andi v1 c3_i32
  let c96_i32 : BitVec 32 := 96#32
  let v4 : BitVec 32 := Scalar.muli v3 c96_i32
  let c88_i32 : BitVec 32 := 88#32
  let v4257 : BitVec 32 := Scalar.addi v4 c88_i32
  let c2_i32_3406 : BitVec 32 := 2#32
  let v4320 : BitVec 32 := Scalar.addi v4257 c2_i32_3406
  let c0_i32_3411 : BitVec 32 := 0#32
  let c0_i32_3412 : BitVec 32 := 0#32
  ![v4319.toNat, v4320.toNat, 0, 0]

def k0_chk177 (i : grid0.Coords) (v4316 : BitVec 32) : Prop :=
  (∀ a, (k0_off431 i v4316) a + S1x1x64x64.size a ≤ S8x384x64x64.size a)
theorem k0_off431_inb : ∀ (i : grid0.Coords) (v4316 : BitVec 32) (k0_hw177 : k0_chk177 i v4316), ∀ a, (k0_off431 i v4316) a + S1x1x64x64.size a ≤ S8x384x64x64.size a := fun i v4316 k0_hw177 => k0_hw177

def k0_off432 (i : grid0.Coords) (v4337 : BitVec 32) : Fin 4 → Nat :=
  let c0_i32_3420 : BitVec 32 := 0#32
  let v4338 : BitVec 1 := Scalar.cmpi .ne v4337 c0_i32_3420
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3421 : BitVec 32 := 1#32
  let v4339 : BitVec 32 := Scalar.xori v2 c1_i32_3421
  let v4340 : BitVec 32 := Scalar.select v4338 v4339 v2
  let c3_i32 : BitVec 32 := 3#32
  let v3 : BitVec 32 := Scalar.andi v1 c3_i32
  let c96_i32 : BitVec 32 := 96#32
  let v4 : BitVec 32 := Scalar.muli v3 c96_i32
  let c88_i32 : BitVec 32 := 88#32
  let v4257 : BitVec 32 := Scalar.addi v4 c88_i32
  let c3_i32_3422 : BitVec 32 := 3#32
  let v4341 : BitVec 32 := Scalar.addi v4257 c3_i32_3422
  let c0_i32_3427 : BitVec 32 := 0#32
  let c0_i32_3428 : BitVec 32 := 0#32
  ![v4340.toNat, v4341.toNat, 0, 0]

def k0_chk178 (i : grid0.Coords) (v4337 : BitVec 32) : Prop :=
  (∀ a, (k0_off432 i v4337) a + S1x1x64x64.size a ≤ S8x384x64x64.size a)
theorem k0_off432_inb : ∀ (i : grid0.Coords) (v4337 : BitVec 32) (k0_hw178 : k0_chk178 i v4337), ∀ a, (k0_off432 i v4337) a + S1x1x64x64.size a ≤ S8x384x64x64.size a := fun i v4337 k0_hw178 => k0_hw178

def k0_chk179 (v4399 : IVec S16 32) : Prop :=
  (∀ a x, ((![v4399] : Fin 1 → IVec S16 32) a x).toNat < S1536.size a)
theorem k0_idx87_inb : ∀ (v4399 : IVec S16 32) (k0_hw179 : k0_chk179 v4399), ∀ a x, ((![v4399] : Fin 1 → IVec S16 32) a x).toNat < S1536.size a := fun v4399 k0_hw179 => k0_hw179

def k0_chk180 (v4396 : IVec S16 32) : Prop :=
  (∀ a x, ((![v4396] : Fin 1 → IVec S16 32) a x).toNat < S384.size a)
theorem k0_idx88_inb : ∀ (v4396 : IVec S16 32) (k0_hw180 : k0_chk180 v4396), ∀ a x, ((![v4396] : Fin 1 → IVec S16 32) a x).toNat < S384.size a := fun v4396 k0_hw180 => k0_hw180
@[reducible] def k0_t81_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off433 (k0_t81 : Fin k0_t81_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t81
  let v4882 : Index := Scalar.indexCast arg11
  let c0 : Index := 0#32
  ![8, v4882.toNat, 0]
def k0_off434 (k0_t81 : Fin k0_t81_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t81
  let v4885 : Index := Scalar.indexCast arg11
  let c16 : Index := 16#32
  ![8, v4885.toNat, 16]
def k0_off435 (k0_t81 : Fin k0_t81_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t81
  let v4888 : Index := Scalar.indexCast arg11
  let c32 : Index := 32#32
  ![8, v4888.toNat, 32]
def k0_off436 (k0_t81 : Fin k0_t81_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t81
  let v4891 : Index := Scalar.indexCast arg11
  let c48 : Index := 48#32
  ![8, v4891.toNat, 48]
@[reducible] def k0_t82_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off437 (k0_t82 : Fin k0_t82_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t82
  let v4882 : Index := Scalar.indexCast arg11
  let c0 : Index := 0#32
  ![9, v4882.toNat, 0]
def k0_off438 (k0_t82 : Fin k0_t82_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t82
  let v4885 : Index := Scalar.indexCast arg11
  let c16 : Index := 16#32
  ![9, v4885.toNat, 16]
def k0_off439 (k0_t82 : Fin k0_t82_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t82
  let v4888 : Index := Scalar.indexCast arg11
  let c32 : Index := 32#32
  ![9, v4888.toNat, 32]
def k0_off440 (k0_t82 : Fin k0_t82_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t82
  let v4891 : Index := Scalar.indexCast arg11
  let c48 : Index := 48#32
  ![9, v4891.toNat, 48]
@[reducible] def k0_t83_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off441 (k0_t83 : Fin k0_t83_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t83
  let v4882 : Index := Scalar.indexCast arg11
  let c0 : Index := 0#32
  ![10, v4882.toNat, 0]
def k0_off442 (k0_t83 : Fin k0_t83_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t83
  let v4885 : Index := Scalar.indexCast arg11
  let c16 : Index := 16#32
  ![10, v4885.toNat, 16]
def k0_off443 (k0_t83 : Fin k0_t83_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t83
  let v4888 : Index := Scalar.indexCast arg11
  let c32 : Index := 32#32
  ![10, v4888.toNat, 32]
def k0_off444 (k0_t83 : Fin k0_t83_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t83
  let v4891 : Index := Scalar.indexCast arg11
  let c48 : Index := 48#32
  ![10, v4891.toNat, 48]
@[reducible] def k0_t84_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off445 (k0_t84 : Fin k0_t84_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t84
  let v4882 : Index := Scalar.indexCast arg11
  let c0 : Index := 0#32
  ![11, v4882.toNat, 0]
def k0_off446 (k0_t84 : Fin k0_t84_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t84
  let v4885 : Index := Scalar.indexCast arg11
  let c16 : Index := 16#32
  ![11, v4885.toNat, 16]
def k0_off447 (k0_t84 : Fin k0_t84_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t84
  let v4888 : Index := Scalar.indexCast arg11
  let c32 : Index := 32#32
  ![11, v4888.toNat, 32]
def k0_off448 (k0_t84 : Fin k0_t84_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t84
  let v4891 : Index := Scalar.indexCast arg11
  let c48 : Index := 48#32
  ![11, v4891.toNat, 48]
def k0_off449 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c80_i32_3504 : BitVec 32 := 80#32
  let v4442 : BitVec 32 := Scalar.addi v4 c80_i32_3504
  let c0_i32_3509 : BitVec 32 := 0#32
  let c0_i32_3510 : BitVec 32 := 0#32
  ![v2.toNat, v4442.toNat, 0, 0]

def k0_chk181 (v4468 : IVec S16 32) : Prop :=
  (∀ a x, ((![v4468] : Fin 1 → IVec S16 32) a x).toNat < S1536.size a)
theorem k0_idx89_inb : ∀ (v4468 : IVec S16 32) (k0_hw181 : k0_chk181 v4468), ∀ a x, ((![v4468] : Fin 1 → IVec S16 32) a x).toNat < S1536.size a := fun v4468 k0_hw181 => k0_hw181

def k0_chk182 (v4465 : IVec S16 32) : Prop :=
  (∀ a x, ((![v4465] : Fin 1 → IVec S16 32) a x).toNat < S384.size a)
theorem k0_idx90_inb : ∀ (v4465 : IVec S16 32) (k0_hw182 : k0_chk182 v4465), ∀ a x, ((![v4465] : Fin 1 → IVec S16 32) a x).toNat < S384.size a := fun v4465 k0_hw182 => k0_hw182
def k0_off450 (i : grid0.Coords) (v4477 : BitVec 32) : Fin 4 → Nat :=
  let c0_i32_3534 : BitVec 32 := 0#32
  let v4478 : BitVec 1 := Scalar.cmpi .ne v4477 c0_i32_3534
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3535 : BitVec 32 := 1#32
  let v4479 : BitVec 32 := Scalar.xori v2 c1_i32_3535
  let v4480 : BitVec 32 := Scalar.select v4478 v4479 v2
  let c3_i32 : BitVec 32 := 3#32
  let v3 : BitVec 32 := Scalar.andi v1 c3_i32
  let c96_i32 : BitVec 32 := 96#32
  let v4 : BitVec 32 := Scalar.muli v3 c96_i32
  let c92_i32 : BitVec 32 := 92#32
  let v4460 : BitVec 32 := Scalar.addi v4 c92_i32
  let c0_i32_3536 : BitVec 32 := 0#32
  let v4481 : BitVec 32 := Scalar.addi v4460 c0_i32_3536
  let c0_i32_3541 : BitVec 32 := 0#32
  let c0_i32_3542 : BitVec 32 := 0#32
  ![v4480.toNat, v4481.toNat, 0, 0]

def k0_chk183 (i : grid0.Coords) (v4477 : BitVec 32) : Prop :=
  (∀ a, (k0_off450 i v4477) a + S1x1x64x64.size a ≤ S8x384x64x64.size a)
theorem k0_off450_inb : ∀ (i : grid0.Coords) (v4477 : BitVec 32) (k0_hw183 : k0_chk183 i v4477), ∀ a, (k0_off450 i v4477) a + S1x1x64x64.size a ≤ S8x384x64x64.size a := fun i v4477 k0_hw183 => k0_hw183

def k0_off451 (i : grid0.Coords) (v4498 : BitVec 32) : Fin 4 → Nat :=
  let c0_i32_3550 : BitVec 32 := 0#32
  let v4499 : BitVec 1 := Scalar.cmpi .ne v4498 c0_i32_3550
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3551 : BitVec 32 := 1#32
  let v4500 : BitVec 32 := Scalar.xori v2 c1_i32_3551
  let v4501 : BitVec 32 := Scalar.select v4499 v4500 v2
  let c3_i32 : BitVec 32 := 3#32
  let v3 : BitVec 32 := Scalar.andi v1 c3_i32
  let c96_i32 : BitVec 32 := 96#32
  let v4 : BitVec 32 := Scalar.muli v3 c96_i32
  let c92_i32 : BitVec 32 := 92#32
  let v4460 : BitVec 32 := Scalar.addi v4 c92_i32
  let c1_i32_3552 : BitVec 32 := 1#32
  let v4502 : BitVec 32 := Scalar.addi v4460 c1_i32_3552
  let c0_i32_3557 : BitVec 32 := 0#32
  let c0_i32_3558 : BitVec 32 := 0#32
  ![v4501.toNat, v4502.toNat, 0, 0]

def k0_chk184 (i : grid0.Coords) (v4498 : BitVec 32) : Prop :=
  (∀ a, (k0_off451 i v4498) a + S1x1x64x64.size a ≤ S8x384x64x64.size a)
theorem k0_off451_inb : ∀ (i : grid0.Coords) (v4498 : BitVec 32) (k0_hw184 : k0_chk184 i v4498), ∀ a, (k0_off451 i v4498) a + S1x1x64x64.size a ≤ S8x384x64x64.size a := fun i v4498 k0_hw184 => k0_hw184

def k0_off452 (i : grid0.Coords) (v4519 : BitVec 32) : Fin 4 → Nat :=
  let c0_i32_3566 : BitVec 32 := 0#32
  let v4520 : BitVec 1 := Scalar.cmpi .ne v4519 c0_i32_3566
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3567 : BitVec 32 := 1#32
  let v4521 : BitVec 32 := Scalar.xori v2 c1_i32_3567
  let v4522 : BitVec 32 := Scalar.select v4520 v4521 v2
  let c3_i32 : BitVec 32 := 3#32
  let v3 : BitVec 32 := Scalar.andi v1 c3_i32
  let c96_i32 : BitVec 32 := 96#32
  let v4 : BitVec 32 := Scalar.muli v3 c96_i32
  let c92_i32 : BitVec 32 := 92#32
  let v4460 : BitVec 32 := Scalar.addi v4 c92_i32
  let c2_i32_3568 : BitVec 32 := 2#32
  let v4523 : BitVec 32 := Scalar.addi v4460 c2_i32_3568
  let c0_i32_3573 : BitVec 32 := 0#32
  let c0_i32_3574 : BitVec 32 := 0#32
  ![v4522.toNat, v4523.toNat, 0, 0]

def k0_chk185 (i : grid0.Coords) (v4519 : BitVec 32) : Prop :=
  (∀ a, (k0_off452 i v4519) a + S1x1x64x64.size a ≤ S8x384x64x64.size a)
theorem k0_off452_inb : ∀ (i : grid0.Coords) (v4519 : BitVec 32) (k0_hw185 : k0_chk185 i v4519), ∀ a, (k0_off452 i v4519) a + S1x1x64x64.size a ≤ S8x384x64x64.size a := fun i v4519 k0_hw185 => k0_hw185

def k0_off453 (i : grid0.Coords) (v4540 : BitVec 32) : Fin 4 → Nat :=
  let c0_i32_3582 : BitVec 32 := 0#32
  let v4541 : BitVec 1 := Scalar.cmpi .ne v4540 c0_i32_3582
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c1_i32_3583 : BitVec 32 := 1#32
  let v4542 : BitVec 32 := Scalar.xori v2 c1_i32_3583
  let v4543 : BitVec 32 := Scalar.select v4541 v4542 v2
  let c3_i32 : BitVec 32 := 3#32
  let v3 : BitVec 32 := Scalar.andi v1 c3_i32
  let c96_i32 : BitVec 32 := 96#32
  let v4 : BitVec 32 := Scalar.muli v3 c96_i32
  let c92_i32 : BitVec 32 := 92#32
  let v4460 : BitVec 32 := Scalar.addi v4 c92_i32
  let c3_i32_3584 : BitVec 32 := 3#32
  let v4544 : BitVec 32 := Scalar.addi v4460 c3_i32_3584
  let c0_i32_3589 : BitVec 32 := 0#32
  let c0_i32_3590 : BitVec 32 := 0#32
  ![v4543.toNat, v4544.toNat, 0, 0]

def k0_chk186 (i : grid0.Coords) (v4540 : BitVec 32) : Prop :=
  (∀ a, (k0_off453 i v4540) a + S1x1x64x64.size a ≤ S8x384x64x64.size a)
theorem k0_off453_inb : ∀ (i : grid0.Coords) (v4540 : BitVec 32) (k0_hw186 : k0_chk186 i v4540), ∀ a, (k0_off453 i v4540) a + S1x1x64x64.size a ≤ S8x384x64x64.size a := fun i v4540 k0_hw186 => k0_hw186

def k0_chk187 (v4602 : IVec S16 32) : Prop :=
  (∀ a x, ((![v4602] : Fin 1 → IVec S16 32) a x).toNat < S1536.size a)
theorem k0_idx91_inb : ∀ (v4602 : IVec S16 32) (k0_hw187 : k0_chk187 v4602), ∀ a x, ((![v4602] : Fin 1 → IVec S16 32) a x).toNat < S1536.size a := fun v4602 k0_hw187 => k0_hw187

def k0_chk188 (v4599 : IVec S16 32) : Prop :=
  (∀ a x, ((![v4599] : Fin 1 → IVec S16 32) a x).toNat < S384.size a)
theorem k0_idx92_inb : ∀ (v4599 : IVec S16 32) (k0_hw188 : k0_chk188 v4599), ∀ a x, ((![v4599] : Fin 1 → IVec S16 32) a x).toNat < S384.size a := fun v4599 k0_hw188 => k0_hw188
@[reducible] def k0_t85_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off454 (k0_t85 : Fin k0_t85_loop.trips) : Fin 3 → Nat :=
  let c0_i32_3885 : BitVec 32 := 0#32
  let v4881 : Index := Scalar.indexCast c0_i32_3885
  let c0_i32_3881 : BitVec 32 := 0#32
  let c1_i32_3883 : BitVec 32 := 1#32
  let arg11 : BitVec 32 := Scf.iv c0_i32_3881 c1_i32_3883 k0_t85
  let v4882 : Index := Scalar.indexCast arg11
  let c0 : Index := 0#32
  ![0, v4882.toNat, 0]
def k0_off455 (k0_t85 : Fin k0_t85_loop.trips) : Fin 3 → Nat :=
  let c0_i32_3886 : BitVec 32 := 0#32
  let v4884 : Index := Scalar.indexCast c0_i32_3886
  let c0_i32_3881 : BitVec 32 := 0#32
  let c1_i32_3883 : BitVec 32 := 1#32
  let arg11 : BitVec 32 := Scf.iv c0_i32_3881 c1_i32_3883 k0_t85
  let v4885 : Index := Scalar.indexCast arg11
  let c16 : Index := 16#32
  ![0, v4885.toNat, 16]
def k0_off456 (k0_t85 : Fin k0_t85_loop.trips) : Fin 3 → Nat :=
  let c0_i32_3887 : BitVec 32 := 0#32
  let v4887 : Index := Scalar.indexCast c0_i32_3887
  let c0_i32_3881 : BitVec 32 := 0#32
  let c1_i32_3883 : BitVec 32 := 1#32
  let arg11 : BitVec 32 := Scf.iv c0_i32_3881 c1_i32_3883 k0_t85
  let v4888 : Index := Scalar.indexCast arg11
  let c32 : Index := 32#32
  ![0, v4888.toNat, 32]
def k0_off457 (k0_t85 : Fin k0_t85_loop.trips) : Fin 3 → Nat :=
  let c0_i32_3888 : BitVec 32 := 0#32
  let v4890 : Index := Scalar.indexCast c0_i32_3888
  let c0_i32_3881 : BitVec 32 := 0#32
  let c1_i32_3883 : BitVec 32 := 1#32
  let arg11 : BitVec 32 := Scf.iv c0_i32_3881 c1_i32_3883 k0_t85
  let v4891 : Index := Scalar.indexCast arg11
  let c48 : Index := 48#32
  ![0, v4891.toNat, 48]
@[reducible] def k0_t86_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off458 (k0_t86 : Fin k0_t86_loop.trips) : Fin 3 → Nat :=
  let c1_i32_3885 : BitVec 32 := 1#32
  let v4881 : Index := Scalar.indexCast c1_i32_3885
  let c0_i32_3881 : BitVec 32 := 0#32
  let c1_i32_3883 : BitVec 32 := 1#32
  let arg11 : BitVec 32 := Scf.iv c0_i32_3881 c1_i32_3883 k0_t86
  let v4882 : Index := Scalar.indexCast arg11
  let c0 : Index := 0#32
  ![1, v4882.toNat, 0]
def k0_off459 (k0_t86 : Fin k0_t86_loop.trips) : Fin 3 → Nat :=
  let c1_i32_3886 : BitVec 32 := 1#32
  let v4884 : Index := Scalar.indexCast c1_i32_3886
  let c0_i32_3881 : BitVec 32 := 0#32
  let c1_i32_3883 : BitVec 32 := 1#32
  let arg11 : BitVec 32 := Scf.iv c0_i32_3881 c1_i32_3883 k0_t86
  let v4885 : Index := Scalar.indexCast arg11
  let c16 : Index := 16#32
  ![1, v4885.toNat, 16]
def k0_off460 (k0_t86 : Fin k0_t86_loop.trips) : Fin 3 → Nat :=
  let c1_i32_3887 : BitVec 32 := 1#32
  let v4887 : Index := Scalar.indexCast c1_i32_3887
  let c0_i32_3881 : BitVec 32 := 0#32
  let c1_i32_3883 : BitVec 32 := 1#32
  let arg11 : BitVec 32 := Scf.iv c0_i32_3881 c1_i32_3883 k0_t86
  let v4888 : Index := Scalar.indexCast arg11
  let c32 : Index := 32#32
  ![1, v4888.toNat, 32]
def k0_off461 (k0_t86 : Fin k0_t86_loop.trips) : Fin 3 → Nat :=
  let c1_i32_3888 : BitVec 32 := 1#32
  let v4890 : Index := Scalar.indexCast c1_i32_3888
  let c0_i32_3881 : BitVec 32 := 0#32
  let c1_i32_3883 : BitVec 32 := 1#32
  let arg11 : BitVec 32 := Scf.iv c0_i32_3881 c1_i32_3883 k0_t86
  let v4891 : Index := Scalar.indexCast arg11
  let c48 : Index := 48#32
  ![1, v4891.toNat, 48]
@[reducible] def k0_t87_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off462 (k0_t87 : Fin k0_t87_loop.trips) : Fin 3 → Nat :=
  let c2_i32_3885 : BitVec 32 := 2#32
  let v4881 : Index := Scalar.indexCast c2_i32_3885
  let c0_i32_3881 : BitVec 32 := 0#32
  let c1_i32_3883 : BitVec 32 := 1#32
  let arg11 : BitVec 32 := Scf.iv c0_i32_3881 c1_i32_3883 k0_t87
  let v4882 : Index := Scalar.indexCast arg11
  let c0 : Index := 0#32
  ![2, v4882.toNat, 0]
def k0_off463 (k0_t87 : Fin k0_t87_loop.trips) : Fin 3 → Nat :=
  let c2_i32_3886 : BitVec 32 := 2#32
  let v4884 : Index := Scalar.indexCast c2_i32_3886
  let c0_i32_3881 : BitVec 32 := 0#32
  let c1_i32_3883 : BitVec 32 := 1#32
  let arg11 : BitVec 32 := Scf.iv c0_i32_3881 c1_i32_3883 k0_t87
  let v4885 : Index := Scalar.indexCast arg11
  let c16 : Index := 16#32
  ![2, v4885.toNat, 16]
def k0_off464 (k0_t87 : Fin k0_t87_loop.trips) : Fin 3 → Nat :=
  let c2_i32_3887 : BitVec 32 := 2#32
  let v4887 : Index := Scalar.indexCast c2_i32_3887
  let c0_i32_3881 : BitVec 32 := 0#32
  let c1_i32_3883 : BitVec 32 := 1#32
  let arg11 : BitVec 32 := Scf.iv c0_i32_3881 c1_i32_3883 k0_t87
  let v4888 : Index := Scalar.indexCast arg11
  let c32 : Index := 32#32
  ![2, v4888.toNat, 32]
def k0_off465 (k0_t87 : Fin k0_t87_loop.trips) : Fin 3 → Nat :=
  let c2_i32_3888 : BitVec 32 := 2#32
  let v4890 : Index := Scalar.indexCast c2_i32_3888
  let c0_i32_3881 : BitVec 32 := 0#32
  let c1_i32_3883 : BitVec 32 := 1#32
  let arg11 : BitVec 32 := Scf.iv c0_i32_3881 c1_i32_3883 k0_t87
  let v4891 : Index := Scalar.indexCast arg11
  let c48 : Index := 48#32
  ![2, v4891.toNat, 48]
@[reducible] def k0_t88_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off466 (k0_t88 : Fin k0_t88_loop.trips) : Fin 3 → Nat :=
  let c3_i32_3885 : BitVec 32 := 3#32
  let v4881 : Index := Scalar.indexCast c3_i32_3885
  let c0_i32_3881 : BitVec 32 := 0#32
  let c1_i32_3883 : BitVec 32 := 1#32
  let arg11 : BitVec 32 := Scf.iv c0_i32_3881 c1_i32_3883 k0_t88
  let v4882 : Index := Scalar.indexCast arg11
  let c0 : Index := 0#32
  ![3, v4882.toNat, 0]
def k0_off467 (k0_t88 : Fin k0_t88_loop.trips) : Fin 3 → Nat :=
  let c3_i32_3886 : BitVec 32 := 3#32
  let v4884 : Index := Scalar.indexCast c3_i32_3886
  let c0_i32_3881 : BitVec 32 := 0#32
  let c1_i32_3883 : BitVec 32 := 1#32
  let arg11 : BitVec 32 := Scf.iv c0_i32_3881 c1_i32_3883 k0_t88
  let v4885 : Index := Scalar.indexCast arg11
  let c16 : Index := 16#32
  ![3, v4885.toNat, 16]
def k0_off468 (k0_t88 : Fin k0_t88_loop.trips) : Fin 3 → Nat :=
  let c3_i32_3887 : BitVec 32 := 3#32
  let v4887 : Index := Scalar.indexCast c3_i32_3887
  let c0_i32_3881 : BitVec 32 := 0#32
  let c1_i32_3883 : BitVec 32 := 1#32
  let arg11 : BitVec 32 := Scf.iv c0_i32_3881 c1_i32_3883 k0_t88
  let v4888 : Index := Scalar.indexCast arg11
  let c32 : Index := 32#32
  ![3, v4888.toNat, 32]
def k0_off469 (k0_t88 : Fin k0_t88_loop.trips) : Fin 3 → Nat :=
  let c3_i32_3888 : BitVec 32 := 3#32
  let v4890 : Index := Scalar.indexCast c3_i32_3888
  let c0_i32_3881 : BitVec 32 := 0#32
  let c1_i32_3883 : BitVec 32 := 1#32
  let arg11 : BitVec 32 := Scf.iv c0_i32_3881 c1_i32_3883 k0_t88
  let v4891 : Index := Scalar.indexCast arg11
  let c48 : Index := 48#32
  ![3, v4891.toNat, 48]
def k0_off470 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c84_i32_3666 : BitVec 32 := 84#32
  let v4645 : BitVec 32 := Scalar.addi v4 c84_i32_3666
  let c0_i32_3671 : BitVec 32 := 0#32
  let c0_i32_3672 : BitVec 32 := 0#32
  ![v2.toNat, v4645.toNat, 0, 0]

def k0_chk189 (v4701 : IVec S16 32) : Prop :=
  (∀ a x, ((![v4701] : Fin 1 → IVec S16 32) a x).toNat < S1536.size a)
theorem k0_idx93_inb : ∀ (v4701 : IVec S16 32) (k0_hw189 : k0_chk189 v4701), ∀ a x, ((![v4701] : Fin 1 → IVec S16 32) a x).toNat < S1536.size a := fun v4701 k0_hw189 => k0_hw189

def k0_chk190 (v4698 : IVec S16 32) : Prop :=
  (∀ a x, ((![v4698] : Fin 1 → IVec S16 32) a x).toNat < S384.size a)
theorem k0_idx94_inb : ∀ (v4698 : IVec S16 32) (k0_hw190 : k0_chk190 v4698), ∀ a x, ((![v4698] : Fin 1 → IVec S16 32) a x).toNat < S384.size a := fun v4698 k0_hw190 => k0_hw190
@[reducible] def k0_t89_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off471 (k0_t89 : Fin k0_t89_loop.trips) : Fin 3 → Nat :=
  let c4_i32_3885 : BitVec 32 := 4#32
  let v4881 : Index := Scalar.indexCast c4_i32_3885
  let c0_i32_3881 : BitVec 32 := 0#32
  let c1_i32_3883 : BitVec 32 := 1#32
  let arg11 : BitVec 32 := Scf.iv c0_i32_3881 c1_i32_3883 k0_t89
  let v4882 : Index := Scalar.indexCast arg11
  let c0 : Index := 0#32
  ![4, v4882.toNat, 0]
def k0_off472 (k0_t89 : Fin k0_t89_loop.trips) : Fin 3 → Nat :=
  let c4_i32_3886 : BitVec 32 := 4#32
  let v4884 : Index := Scalar.indexCast c4_i32_3886
  let c0_i32_3881 : BitVec 32 := 0#32
  let c1_i32_3883 : BitVec 32 := 1#32
  let arg11 : BitVec 32 := Scf.iv c0_i32_3881 c1_i32_3883 k0_t89
  let v4885 : Index := Scalar.indexCast arg11
  let c16 : Index := 16#32
  ![4, v4885.toNat, 16]
def k0_off473 (k0_t89 : Fin k0_t89_loop.trips) : Fin 3 → Nat :=
  let c4_i32_3887 : BitVec 32 := 4#32
  let v4887 : Index := Scalar.indexCast c4_i32_3887
  let c0_i32_3881 : BitVec 32 := 0#32
  let c1_i32_3883 : BitVec 32 := 1#32
  let arg11 : BitVec 32 := Scf.iv c0_i32_3881 c1_i32_3883 k0_t89
  let v4888 : Index := Scalar.indexCast arg11
  let c32 : Index := 32#32
  ![4, v4888.toNat, 32]
def k0_off474 (k0_t89 : Fin k0_t89_loop.trips) : Fin 3 → Nat :=
  let c4_i32_3888 : BitVec 32 := 4#32
  let v4890 : Index := Scalar.indexCast c4_i32_3888
  let c0_i32_3881 : BitVec 32 := 0#32
  let c1_i32_3883 : BitVec 32 := 1#32
  let arg11 : BitVec 32 := Scf.iv c0_i32_3881 c1_i32_3883 k0_t89
  let v4891 : Index := Scalar.indexCast arg11
  let c48 : Index := 48#32
  ![4, v4891.toNat, 48]
@[reducible] def k0_t90_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off475 (k0_t90 : Fin k0_t90_loop.trips) : Fin 3 → Nat :=
  let c5_i32_3885 : BitVec 32 := 5#32
  let v4881 : Index := Scalar.indexCast c5_i32_3885
  let c0_i32_3881 : BitVec 32 := 0#32
  let c1_i32_3883 : BitVec 32 := 1#32
  let arg11 : BitVec 32 := Scf.iv c0_i32_3881 c1_i32_3883 k0_t90
  let v4882 : Index := Scalar.indexCast arg11
  let c0 : Index := 0#32
  ![5, v4882.toNat, 0]
def k0_off476 (k0_t90 : Fin k0_t90_loop.trips) : Fin 3 → Nat :=
  let c5_i32_3886 : BitVec 32 := 5#32
  let v4884 : Index := Scalar.indexCast c5_i32_3886
  let c0_i32_3881 : BitVec 32 := 0#32
  let c1_i32_3883 : BitVec 32 := 1#32
  let arg11 : BitVec 32 := Scf.iv c0_i32_3881 c1_i32_3883 k0_t90
  let v4885 : Index := Scalar.indexCast arg11
  let c16 : Index := 16#32
  ![5, v4885.toNat, 16]
def k0_off477 (k0_t90 : Fin k0_t90_loop.trips) : Fin 3 → Nat :=
  let c5_i32_3887 : BitVec 32 := 5#32
  let v4887 : Index := Scalar.indexCast c5_i32_3887
  let c0_i32_3881 : BitVec 32 := 0#32
  let c1_i32_3883 : BitVec 32 := 1#32
  let arg11 : BitVec 32 := Scf.iv c0_i32_3881 c1_i32_3883 k0_t90
  let v4888 : Index := Scalar.indexCast arg11
  let c32 : Index := 32#32
  ![5, v4888.toNat, 32]
def k0_off478 (k0_t90 : Fin k0_t90_loop.trips) : Fin 3 → Nat :=
  let c5_i32_3888 : BitVec 32 := 5#32
  let v4890 : Index := Scalar.indexCast c5_i32_3888
  let c0_i32_3881 : BitVec 32 := 0#32
  let c1_i32_3883 : BitVec 32 := 1#32
  let arg11 : BitVec 32 := Scf.iv c0_i32_3881 c1_i32_3883 k0_t90
  let v4891 : Index := Scalar.indexCast arg11
  let c48 : Index := 48#32
  ![5, v4891.toNat, 48]
@[reducible] def k0_t91_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off479 (k0_t91 : Fin k0_t91_loop.trips) : Fin 3 → Nat :=
  let c6_i32_3885 : BitVec 32 := 6#32
  let v4881 : Index := Scalar.indexCast c6_i32_3885
  let c0_i32_3881 : BitVec 32 := 0#32
  let c1_i32_3883 : BitVec 32 := 1#32
  let arg11 : BitVec 32 := Scf.iv c0_i32_3881 c1_i32_3883 k0_t91
  let v4882 : Index := Scalar.indexCast arg11
  let c0 : Index := 0#32
  ![6, v4882.toNat, 0]
def k0_off480 (k0_t91 : Fin k0_t91_loop.trips) : Fin 3 → Nat :=
  let c6_i32_3886 : BitVec 32 := 6#32
  let v4884 : Index := Scalar.indexCast c6_i32_3886
  let c0_i32_3881 : BitVec 32 := 0#32
  let c1_i32_3883 : BitVec 32 := 1#32
  let arg11 : BitVec 32 := Scf.iv c0_i32_3881 c1_i32_3883 k0_t91
  let v4885 : Index := Scalar.indexCast arg11
  let c16 : Index := 16#32
  ![6, v4885.toNat, 16]
def k0_off481 (k0_t91 : Fin k0_t91_loop.trips) : Fin 3 → Nat :=
  let c6_i32_3887 : BitVec 32 := 6#32
  let v4887 : Index := Scalar.indexCast c6_i32_3887
  let c0_i32_3881 : BitVec 32 := 0#32
  let c1_i32_3883 : BitVec 32 := 1#32
  let arg11 : BitVec 32 := Scf.iv c0_i32_3881 c1_i32_3883 k0_t91
  let v4888 : Index := Scalar.indexCast arg11
  let c32 : Index := 32#32
  ![6, v4888.toNat, 32]
def k0_off482 (k0_t91 : Fin k0_t91_loop.trips) : Fin 3 → Nat :=
  let c6_i32_3888 : BitVec 32 := 6#32
  let v4890 : Index := Scalar.indexCast c6_i32_3888
  let c0_i32_3881 : BitVec 32 := 0#32
  let c1_i32_3883 : BitVec 32 := 1#32
  let arg11 : BitVec 32 := Scf.iv c0_i32_3881 c1_i32_3883 k0_t91
  let v4891 : Index := Scalar.indexCast arg11
  let c48 : Index := 48#32
  ![6, v4891.toNat, 48]
@[reducible] def k0_t92_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off483 (k0_t92 : Fin k0_t92_loop.trips) : Fin 3 → Nat :=
  let c7_i32_3885 : BitVec 32 := 7#32
  let v4881 : Index := Scalar.indexCast c7_i32_3885
  let c0_i32_3881 : BitVec 32 := 0#32
  let c1_i32_3883 : BitVec 32 := 1#32
  let arg11 : BitVec 32 := Scf.iv c0_i32_3881 c1_i32_3883 k0_t92
  let v4882 : Index := Scalar.indexCast arg11
  let c0 : Index := 0#32
  ![7, v4882.toNat, 0]
def k0_off484 (k0_t92 : Fin k0_t92_loop.trips) : Fin 3 → Nat :=
  let c7_i32_3886 : BitVec 32 := 7#32
  let v4884 : Index := Scalar.indexCast c7_i32_3886
  let c0_i32_3881 : BitVec 32 := 0#32
  let c1_i32_3883 : BitVec 32 := 1#32
  let arg11 : BitVec 32 := Scf.iv c0_i32_3881 c1_i32_3883 k0_t92
  let v4885 : Index := Scalar.indexCast arg11
  let c16 : Index := 16#32
  ![7, v4885.toNat, 16]
def k0_off485 (k0_t92 : Fin k0_t92_loop.trips) : Fin 3 → Nat :=
  let c7_i32_3887 : BitVec 32 := 7#32
  let v4887 : Index := Scalar.indexCast c7_i32_3887
  let c0_i32_3881 : BitVec 32 := 0#32
  let c1_i32_3883 : BitVec 32 := 1#32
  let arg11 : BitVec 32 := Scf.iv c0_i32_3881 c1_i32_3883 k0_t92
  let v4888 : Index := Scalar.indexCast arg11
  let c32 : Index := 32#32
  ![7, v4888.toNat, 32]
def k0_off486 (k0_t92 : Fin k0_t92_loop.trips) : Fin 3 → Nat :=
  let c7_i32_3888 : BitVec 32 := 7#32
  let v4890 : Index := Scalar.indexCast c7_i32_3888
  let c0_i32_3881 : BitVec 32 := 0#32
  let c1_i32_3883 : BitVec 32 := 1#32
  let arg11 : BitVec 32 := Scf.iv c0_i32_3881 c1_i32_3883 k0_t92
  let v4891 : Index := Scalar.indexCast arg11
  let c48 : Index := 48#32
  ![7, v4891.toNat, 48]
def k0_off487 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let c88_i32_3749 : BitVec 32 := 88#32
  let v4744 : BitVec 32 := Scalar.addi v4 c88_i32_3749
  let c0_i32_3754 : BitVec 32 := 0#32
  let c0_i32_3755 : BitVec 32 := 0#32
  ![v2.toNat, v4744.toNat, 0, 0]

def k0_chk191 (v4800 : IVec S16 32) : Prop :=
  (∀ a x, ((![v4800] : Fin 1 → IVec S16 32) a x).toNat < S1536.size a)
theorem k0_idx95_inb : ∀ (v4800 : IVec S16 32) (k0_hw191 : k0_chk191 v4800), ∀ a x, ((![v4800] : Fin 1 → IVec S16 32) a x).toNat < S1536.size a := fun v4800 k0_hw191 => k0_hw191

def k0_chk192 (v4797 : IVec S16 32) : Prop :=
  (∀ a x, ((![v4797] : Fin 1 → IVec S16 32) a x).toNat < S384.size a)
theorem k0_idx96_inb : ∀ (v4797 : IVec S16 32) (k0_hw192 : k0_chk192 v4797), ∀ a x, ((![v4797] : Fin 1 → IVec S16 32) a x).toNat < S384.size a := fun v4797 k0_hw192 => k0_hw192
@[reducible] def k0_t93_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off488 (k0_t93 : Fin k0_t93_loop.trips) : Fin 3 → Nat :=
  let c8_i32_3885 : BitVec 32 := 8#32
  let v4881 : Index := Scalar.indexCast c8_i32_3885
  let c0_i32_3881 : BitVec 32 := 0#32
  let c1_i32_3883 : BitVec 32 := 1#32
  let arg11 : BitVec 32 := Scf.iv c0_i32_3881 c1_i32_3883 k0_t93
  let v4882 : Index := Scalar.indexCast arg11
  let c0 : Index := 0#32
  ![8, v4882.toNat, 0]
def k0_off489 (k0_t93 : Fin k0_t93_loop.trips) : Fin 3 → Nat :=
  let c8_i32_3886 : BitVec 32 := 8#32
  let v4884 : Index := Scalar.indexCast c8_i32_3886
  let c0_i32_3881 : BitVec 32 := 0#32
  let c1_i32_3883 : BitVec 32 := 1#32
  let arg11 : BitVec 32 := Scf.iv c0_i32_3881 c1_i32_3883 k0_t93
  let v4885 : Index := Scalar.indexCast arg11
  let c16 : Index := 16#32
  ![8, v4885.toNat, 16]
def k0_off490 (k0_t93 : Fin k0_t93_loop.trips) : Fin 3 → Nat :=
  let c8_i32_3887 : BitVec 32 := 8#32
  let v4887 : Index := Scalar.indexCast c8_i32_3887
  let c0_i32_3881 : BitVec 32 := 0#32
  let c1_i32_3883 : BitVec 32 := 1#32
  let arg11 : BitVec 32 := Scf.iv c0_i32_3881 c1_i32_3883 k0_t93
  let v4888 : Index := Scalar.indexCast arg11
  let c32 : Index := 32#32
  ![8, v4888.toNat, 32]
def k0_off491 (k0_t93 : Fin k0_t93_loop.trips) : Fin 3 → Nat :=
  let c8_i32_3888 : BitVec 32 := 8#32
  let v4890 : Index := Scalar.indexCast c8_i32_3888
  let c0_i32_3881 : BitVec 32 := 0#32
  let c1_i32_3883 : BitVec 32 := 1#32
  let arg11 : BitVec 32 := Scf.iv c0_i32_3881 c1_i32_3883 k0_t93
  let v4891 : Index := Scalar.indexCast arg11
  let c48 : Index := 48#32
  ![8, v4891.toNat, 48]
@[reducible] def k0_t94_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off492 (k0_t94 : Fin k0_t94_loop.trips) : Fin 3 → Nat :=
  let c9_i32_3885 : BitVec 32 := 9#32
  let v4881 : Index := Scalar.indexCast c9_i32_3885
  let c0_i32_3881 : BitVec 32 := 0#32
  let c1_i32_3883 : BitVec 32 := 1#32
  let arg11 : BitVec 32 := Scf.iv c0_i32_3881 c1_i32_3883 k0_t94
  let v4882 : Index := Scalar.indexCast arg11
  let c0 : Index := 0#32
  ![9, v4882.toNat, 0]
def k0_off493 (k0_t94 : Fin k0_t94_loop.trips) : Fin 3 → Nat :=
  let c9_i32_3886 : BitVec 32 := 9#32
  let v4884 : Index := Scalar.indexCast c9_i32_3886
  let c0_i32_3881 : BitVec 32 := 0#32
  let c1_i32_3883 : BitVec 32 := 1#32
  let arg11 : BitVec 32 := Scf.iv c0_i32_3881 c1_i32_3883 k0_t94
  let v4885 : Index := Scalar.indexCast arg11
  let c16 : Index := 16#32
  ![9, v4885.toNat, 16]
def k0_off494 (k0_t94 : Fin k0_t94_loop.trips) : Fin 3 → Nat :=
  let c9_i32_3887 : BitVec 32 := 9#32
  let v4887 : Index := Scalar.indexCast c9_i32_3887
  let c0_i32_3881 : BitVec 32 := 0#32
  let c1_i32_3883 : BitVec 32 := 1#32
  let arg11 : BitVec 32 := Scf.iv c0_i32_3881 c1_i32_3883 k0_t94
  let v4888 : Index := Scalar.indexCast arg11
  let c32 : Index := 32#32
  ![9, v4888.toNat, 32]
def k0_off495 (k0_t94 : Fin k0_t94_loop.trips) : Fin 3 → Nat :=
  let c9_i32_3888 : BitVec 32 := 9#32
  let v4890 : Index := Scalar.indexCast c9_i32_3888
  let c0_i32_3881 : BitVec 32 := 0#32
  let c1_i32_3883 : BitVec 32 := 1#32
  let arg11 : BitVec 32 := Scf.iv c0_i32_3881 c1_i32_3883 k0_t94
  let v4891 : Index := Scalar.indexCast arg11
  let c48 : Index := 48#32
  ![9, v4891.toNat, 48]
@[reducible] def k0_t95_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off496 (k0_t95 : Fin k0_t95_loop.trips) : Fin 3 → Nat :=
  let c10_i32_3885 : BitVec 32 := 10#32
  let v4881 : Index := Scalar.indexCast c10_i32_3885
  let c0_i32_3881 : BitVec 32 := 0#32
  let c1_i32_3883 : BitVec 32 := 1#32
  let arg11 : BitVec 32 := Scf.iv c0_i32_3881 c1_i32_3883 k0_t95
  let v4882 : Index := Scalar.indexCast arg11
  let c0 : Index := 0#32
  ![10, v4882.toNat, 0]
def k0_off497 (k0_t95 : Fin k0_t95_loop.trips) : Fin 3 → Nat :=
  let c10_i32_3886 : BitVec 32 := 10#32
  let v4884 : Index := Scalar.indexCast c10_i32_3886
  let c0_i32_3881 : BitVec 32 := 0#32
  let c1_i32_3883 : BitVec 32 := 1#32
  let arg11 : BitVec 32 := Scf.iv c0_i32_3881 c1_i32_3883 k0_t95
  let v4885 : Index := Scalar.indexCast arg11
  let c16 : Index := 16#32
  ![10, v4885.toNat, 16]
def k0_off498 (k0_t95 : Fin k0_t95_loop.trips) : Fin 3 → Nat :=
  let c10_i32_3887 : BitVec 32 := 10#32
  let v4887 : Index := Scalar.indexCast c10_i32_3887
  let c0_i32_3881 : BitVec 32 := 0#32
  let c1_i32_3883 : BitVec 32 := 1#32
  let arg11 : BitVec 32 := Scf.iv c0_i32_3881 c1_i32_3883 k0_t95
  let v4888 : Index := Scalar.indexCast arg11
  let c32 : Index := 32#32
  ![10, v4888.toNat, 32]
def k0_off499 (k0_t95 : Fin k0_t95_loop.trips) : Fin 3 → Nat :=
  let c10_i32_3888 : BitVec 32 := 10#32
  let v4890 : Index := Scalar.indexCast c10_i32_3888
  let c0_i32_3881 : BitVec 32 := 0#32
  let c1_i32_3883 : BitVec 32 := 1#32
  let arg11 : BitVec 32 := Scf.iv c0_i32_3881 c1_i32_3883 k0_t95
  let v4891 : Index := Scalar.indexCast arg11
  let c48 : Index := 48#32
  ![10, v4891.toNat, 48]
@[reducible] def k0_t96_loop : Scf.Loop 32 :=
  let c0_i32_3881 : BitVec 32 := 0#32
  let c64_i32_3882 : BitVec 32 := 64#32
  let v4880 : BitVec 32 := Scalar.addi c0_i32_3881 c64_i32_3882
  let c1_i32_3883 : BitVec 32 := 1#32
  ⟨c0_i32_3881, v4880, c1_i32_3883⟩
def k0_off500 (k0_t96 : Fin k0_t96_loop.trips) : Fin 3 → Nat :=
  let c11_i32_3885 : BitVec 32 := 11#32
  let v4881 : Index := Scalar.indexCast c11_i32_3885
  let c0_i32_3881 : BitVec 32 := 0#32
  let c1_i32_3883 : BitVec 32 := 1#32
  let arg11 : BitVec 32 := Scf.iv c0_i32_3881 c1_i32_3883 k0_t96
  let v4882 : Index := Scalar.indexCast arg11
  let c0 : Index := 0#32
  ![11, v4882.toNat, 0]
def k0_off501 (k0_t96 : Fin k0_t96_loop.trips) : Fin 3 → Nat :=
  let c11_i32_3886 : BitVec 32 := 11#32
  let v4884 : Index := Scalar.indexCast c11_i32_3886
  let c0_i32_3881 : BitVec 32 := 0#32
  let c1_i32_3883 : BitVec 32 := 1#32
  let arg11 : BitVec 32 := Scf.iv c0_i32_3881 c1_i32_3883 k0_t96
  let v4885 : Index := Scalar.indexCast arg11
  let c16 : Index := 16#32
  ![11, v4885.toNat, 16]
def k0_off502 (k0_t96 : Fin k0_t96_loop.trips) : Fin 3 → Nat :=
  let c11_i32_3887 : BitVec 32 := 11#32
  let v4887 : Index := Scalar.indexCast c11_i32_3887
  let c0_i32_3881 : BitVec 32 := 0#32
  let c1_i32_3883 : BitVec 32 := 1#32
  let arg11 : BitVec 32 := Scf.iv c0_i32_3881 c1_i32_3883 k0_t96
  let v4888 : Index := Scalar.indexCast arg11
  let c32 : Index := 32#32
  ![11, v4888.toNat, 32]
def k0_off503 (k0_t96 : Fin k0_t96_loop.trips) : Fin 3 → Nat :=
  let c11_i32_3888 : BitVec 32 := 11#32
  let v4890 : Index := Scalar.indexCast c11_i32_3888
  let c0_i32_3881 : BitVec 32 := 0#32
  let c1_i32_3883 : BitVec 32 := 1#32
  let arg11 : BitVec 32 := Scf.iv c0_i32_3881 c1_i32_3883 k0_t96
  let v4891 : Index := Scalar.indexCast arg11
  let c48 : Index := 48#32
  ![11, v4891.toNat, 48]
def k0_off504 (i : grid0.Coords) (c92_i32_3832 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.shrsi v1 c2_i32_0
  let c3_i32 : BitVec 32 := 3#32
  let v3 : BitVec 32 := Scalar.andi v1 c3_i32
  let c96_i32 : BitVec 32 := 96#32
  let v4 : BitVec 32 := Scalar.muli v3 c96_i32
  let v4843 : BitVec 32 := Scalar.addi v4 c92_i32_3832
  let c0_i32_3837 : BitVec 32 := 0#32
  let c0_i32_3838 : BitVec 32 := 0#32
  ![v2.toNat, v4843.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x384x64x64 : Shape := ⟨4, ![8, 384, 64, 64]⟩
abbrev S4x384 : Shape := ⟨2, ![4, 384]⟩
abbrev S384 : Shape := ⟨1, ![384]⟩
abbrev S4x2x384x64x64 : Shape := ⟨5, ![4, 2, 384, 64, 64]⟩
abbrev S4x1x384x1x1 : Shape := ⟨5, ![4, 1, 384, 1, 1]⟩
abbrev S1x384x1x1 : Shape := ⟨4, ![1, 384, 1, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x384x64x64, .f32⟩
  | .hbm, ⟨1, _⟩ => ⟨S4x384, .i1⟩
  | .hbm, ⟨2, _⟩ => ⟨S384, .i1⟩
  | .hbm, ⟨3, _⟩ => ⟨S4x2x384x64x64, .f32⟩
  | .hbm, ⟨4, _⟩ => ⟨S4x2x384x64x64, .f32⟩
  | .hbm, ⟨5, _⟩ => ⟨S4x1x384x1x1, .i1⟩
  | .hbm, ⟨6, _⟩ => ⟨S4x2x384x64x64, .i1⟩
  | .hbm, ⟨7, _⟩ => ⟨S4x2x384x64x64, .f32⟩
  | .hbm, ⟨8, _⟩ => ⟨S8x384x64x64, .f32⟩
  | .hbm, ⟨9, _⟩ => ⟨S1x384x1x1, .i1⟩
  | .hbm, ⟨10, _⟩ => ⟨S_, .f32⟩
  | .hbm, ⟨11, _⟩ => ⟨S8x384x64x64, .i1⟩
  | .hbm, ⟨12, _⟩ => ⟨S8x384x64x64, .f32⟩
  | .hbm, ⟨13, _⟩ => ⟨S8x384x64x64, .f32⟩
  | _, _ => ⟨S8x384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Proof.K.Chunks.lean ====
/-
  The kernel's body as a reader would write it: one definition per step of the ring of four-channel chunks, over
  the chunk's number `g`, in continuation form (each step takes the rest of the program).  `Same.lean` proves the
  printed body equal to `body` here; every later module reasons about these definitions only.
-/
module

public import proofs.«01_k».proof.Proof.Gen.KernelIdeal

@[expose] public section

noncomputable section

namespace Cert.Proof.K

open Cert.KernelIdeal Cert.KernelIdeal.Gen
open Idealize.ShloMosaic Idealize.SL.Sem

variable {F : FTy → Type} [FloatOps F]

/-! ## The arrays and scratches a tile works on -/

abbrev yM : Memref sig .scVector .hbm S8x384x64x64 .f32 := Memref.whole main_arg0_scv
abbrev mixM : Memref sig .scVector .hbm S1536 .i32 := Memref.whole main_v1_scv
abbrev dropM : Memref sig .scVector .hbm S384 .i32 := Memref.whole main_v2_scv
abbrev outM : Memref sig .scVector .hbm S8x384x64x64 .f32 := Memref.whole main_v3_scv
abbrev mixV : Memref sig .scVector .vmem S1536 .i32 := Memref.whole cc0_scratch0
abbrev dropV : Memref sig .scVector .vmem S384 .i32 := Memref.whole cc0_scratch1
abbrev bufV : Memref sig .scVector .vmem S12x64x64 .f32 := Memref.whole cc0_scratch2

/-- The type of a tile's programs. -/
abbrev TileProg (F : FTy → Type) [FloatOps F] (i : grid0.Coords) : Type 1 :=
  Prog (TpuEff nD τ sig (Elt F) Λ₀ (.scVector ((i 0).castLE hcore0) ((i 1).castLE hsub0))) PUnit

/-! ## The words a tile computes from its coordinates -/

/-- The tile's number among the thirty-two. -/
def word (i : grid0.Coords) : BitVec 32 :=
  Scalar.addi (Scalar.muli (BitVec.ofNat 32 (i 1).val) 2#32) (BitVec.ofNat 32 (i 0).val)
/-- The batch entry it writes. -/
def inst (i : grid0.Coords) : BitVec 32 := Scalar.shrsi (word i) 2#32
/-- The first of its ninety-six channels. -/
def base (i : grid0.Coords) : BitVec 32 := Scalar.muli (Scalar.andi (word i) 3#32) 96#32
/-- The pair its batch entry belongs to. -/
def pair (i : grid0.Coords) : BitVec 32 := Scalar.shrsi (inst i) 1#32
/-- The lane numbers. -/
def lanes : IVec S16 32 := iota .scVector S16 32 [0] iota_S16_d0_w32_scVector
/-- The first channel of chunk `g`. -/
def chan (i : grid0.Coords) (g : ℕ) : BitVec 32 := Scalar.addi (base i) (BitVec.ofNat 32 (4 * g))
/-- The sixteen entries of the drop table read for chunk `g`. -/
def dropIdx (i : grid0.Coords) (g : ℕ) : IVec S16 32 :=
  minsi (addi (broadcast S16 (chan i g)) lanes) (broadcast S16 383#32)
/-- The sixteen entries of the mix table read for chunk `g`. -/
def mixIdx (i : grid0.Coords) (g : ℕ) : IVec S16 32 :=
  addi (broadcast S16 (Scalar.muli (pair i) 384#32)) (dropIdx i g)
/-- Lane `j` of a vector, as the kernel takes it out: the sum of the vector with every other lane zeroed. -/
def flag (j : ℕ) (v : IVec S16 32) : BitVec 32 :=
  extractAt ![15] (scan .sum (select (cmpi .eq lanes (broadcast S16 (BitVec.ofNat 32 j))) v (broadcast S16 0#32)))
    inpos_S16_p15
/-- Where channel `j` of chunk `g` is copied from, given its mix word. -/
def srcOff (i : grid0.Coords) (g j : ℕ) (w : BitVec 32) : Fin 4 → Nat :=
  ![(Scalar.select (Scalar.cmpi .ne w 0#32) (Scalar.xori (inst i) 1#32) (inst i)).toNat,
    (Scalar.addi (chan i g) (BitVec.ofNat 32 j)).toNat, 0, 0]
/-- Where chunk `g` goes in the result. -/
def outOff (i : grid0.Coords) (g : ℕ) : Fin 4 → Nat := ![(inst i).toNat, (chan i g).toNat, 0, 0]

/-! ## The conditions the body assumes -/

def DropOk (v : IVec S16 32) : Prop := ∀ a x, ((![v] : Fin 1 → IVec S16 32) a x).toNat < S384.size a
instance DropOk.dec (v : IVec S16 32) : Decidable (DropOk v) := decidable_of_iff' _ (Iff.of_eq (DropOk.eq_1 v))
def MixOk (v : IVec S16 32) : Prop := ∀ a x, ((![v] : Fin 1 → IVec S16 32) a x).toNat < S1536.size a
instance MixOk.dec (v : IVec S16 32) : Decidable (MixOk v) := decidable_of_iff' _ (Iff.of_eq (MixOk.eq_1 v))
def SrcOk (i : grid0.Coords) (g j : ℕ) (w : BitVec 32) : Prop :=
  ∀ a, srcOff i g j w a + S1x1x64x64.size a ≤ S8x384x64x64.size a
instance SrcOk.dec (i : grid0.Coords) (g j : ℕ) (w : BitVec 32) : Decidable (SrcOk i g j w) :=
  decidable_of_iff' _ (Iff.of_eq (SrcOk.eq_1 i g j w))

/-! ## The windows the copies move -/

/-- A plane of the buffer lies inside it. -/
theorem plane_inb (p : Fin 12) : ∀ a, (![p.val, 0, 0] : Fin 3 → Nat) a + S1x64x64.size a ≤ S12x64x64.size a := by
  revert p; decide
/-- A slot of the buffer, four planes, lies inside it. -/
theorem slot_inb (b : Fin 3) : ∀ a, (![4 * b.val, 0, 0] : Fin 3 → Nat) a + S4x64x64.size a ≤ S12x64x64.size a := by
  revert b; decide
theorem cell_inb (b : Fin 3) : ∀ a, (![b.val] : Fin 1 → Nat) a + S1.size a ≤ S3.size a := by
  revert b; decide
/-- The tile's words as numbers. -/
theorem words_toNat (i : grid0.Coords) :
    (inst i).toNat = (2 * (i 1).val + (i 0).val) / 4 ∧ (base i).toNat = 96 * ((2 * (i 1).val + (i 0).val) % 4)
      ∧ (Scalar.xori (inst i) 1#32).toNat = (if (2 * (i 1).val + (i 0).val) / 4 % 2 = 0 then (2 * (i 1).val + (i 0).val) / 4 + 1 else (2 * (i 1).val + (i 0).val) / 4 - 1)
      ∧ (Scalar.muli (pair i) 384#32).toNat = 384 * ((2 * (i 1).val + (i 0).val) / 8) := by
  have key : ∀ (s : Fin 16) (c : Fin 2),
      (Scalar.shrsi (Scalar.addi (Scalar.muli (BitVec.ofNat 32 s.val) 2#32) (BitVec.ofNat 32 c.val)) 2#32).toNat = (2 * s.val + c.val) / 4
      ∧ (Scalar.muli (Scalar.andi (Scalar.addi (Scalar.muli (BitVec.ofNat 32 s.val) 2#32) (BitVec.ofNat 32 c.val)) 3#32) 96#32).toNat = 96 * ((2 * s.val + c.val) % 4)
      ∧ (Scalar.xori (Scalar.shrsi (Scalar.addi (Scalar.muli (BitVec.ofNat 32 s.val) 2#32) (BitVec.ofNat 32 c.val)) 2#32) 1#32).toNat
          = (if (2 * s.val + c.val) / 4 % 2 = 0 then (2 * s.val + c.val) / 4 + 1 else (2 * s.val + c.val) / 4 - 1)
      ∧ (Scalar.muli (Scalar.shrsi (Scalar.shrsi (Scalar.addi (Scalar.muli (BitVec.ofNat 32 s.val) 2#32) (BitVec.ofNat 32 c.val)) 2#32) 1#32) 384#32).toNat
          = 384 * ((2 * s.val + c.val) / 8) := by decide
  exact key (i 1) (i 0)

theorem tile_lt (i : grid0.Coords) : 2 * (i 1).val + (i 0).val < 32 := by
  have h1 : (i 1).val < 16 := (i 1).isLt
  have h0 : (i 0).val < 2 := (i 0).isLt
  omega

/-- The first channel of a chunk, as a number. -/
theorem chan_toNat (i : grid0.Coords) (g : ℕ) (hg : g < 24) :
    (chan i g).toNat = 96 * ((2 * (i 1).val + (i 0).val) % 4) + 4 * g := by
  have hb := (words_toNat i).2.1
  show (base i + BitVec.ofNat 32 (4 * g)).toNat = _
  rw [BitVec.toNat_add, hb, BitVec.toNat_ofNat]
  omega

/-- Chunk `g` of the tile's channels lies inside the result. -/
theorem outOff_inb (i : grid0.Coords) (g : Fin 24) : ∀ a, outOff i g a + S1x4x64x64.size a ≤ S8x384x64x64.size a := by
  have ht := tile_lt i
  have hc := chan_toNat i g g.isLt
  have hi := (words_toNat i).1
  have hg := g.isLt
  intro a
  match a with
  | 0 => show (inst i).toNat + 1 ≤ 8; omega
  | 1 => show (chan i g).toNat + 4 ≤ 384; omega
  | 2 => show 0 + 64 ≤ 64; omega
  | 3 => show 0 + 64 ≤ 64; omega

/-- Plane `p` of the buffer. -/
abbrev plane (p : Fin 12) : Memref sig .scVector .vmem S64x64 .f32 :=
  (bufV.slice (Rect.unit (s := S12x64x64) ![p.val, 0, 0] S1x64x64.size (plane_inb p)) (fun _ => rfl)).squeeze S64x64
    squeezes_S1x64x64_S64x64
/-- Slot `b` of the buffer: its planes `4b` to `4b + 3`. -/
abbrev slot (b : Fin 3) : Memref sig .scVector .vmem S4x64x64 .f32 :=
  bufV.slice (Rect.unit (s := S12x64x64) ![4 * b.val, 0, 0] S4x64x64.size (slot_inb b)) (fun _ => rfl)
/-- The plane of the input a channel is copied from. -/
abbrev srcPlane (off : Fin 4 → Nat) (h : ∀ a, off a + S1x1x64x64.size a ≤ S8x384x64x64.size a) :
    Memref sig .scVector .hbm S64x64 .f32 :=
  (yM.slice (Rect.unit (s := S8x384x64x64) off S1x1x64x64.size h) (fun _ => rfl)).squeeze S64x64
    squeezes_S1x1x64x64_S64x64
/-- Chunk `g` of the result. -/
abbrev outChunk (i : grid0.Coords) (g : Fin 24) : Memref sig .scVector .hbm S4x64x64 .f32 :=
  (outM.slice (Rect.unit (s := S8x384x64x64) (outOff i g) S1x4x64x64.size (outOff_inb i g)) (fun _ => rfl)).squeeze
    S4x64x64 squeezes_S1x4x64x64_S4x64x64
/-- The semaphore the copies into slot `b` signal, -/
abbrev inSem (b : Fin 3) : DmaSem sig :=
  ((cc0_scratch3.slice (Rect.unit (s := S3) ![b.val] S1.size (cell_inb b))).squeeze S_ squeezes_S1_S_).sem
/-- and the one the copy out of it signals. -/
abbrev outSem (b : Fin 3) : DmaSem sig :=
  ((cc0_scratch4.slice (Rect.unit (s := S3) ![b.val] S1.size (cell_inb b))).squeeze S_ squeezes_S1_S_).sem

/-- The slot chunk `g` uses, -/
def slotOf (g : ℕ) : Fin 3 := ⟨g % 3, Nat.mod_lt _ (by decide)⟩
/-- and the plane of its channel `j`. -/
def planeOf (g : ℕ) (j : Fin 4) : Fin 12 := ⟨4 * (g % 3) + j.val, by have := Nat.mod_lt g (show 0 < 3 by decide); omega⟩

/-! ## The steps -/

section steps
variable (i : grid0.Coords)

/-- One table fetched into its scratch and waited for; the two tables in order. -/
def fetchTables (k : TileProg F i) : TileProg F i :=
  .op (.enqueueDma mixM (.here mixV) (.dma cc0_scoped0.sem) (Memref.isWhole_whole _).wordExact (Memref.isWhole_whole _).wordExact ⟨Or.inl rfl, trivial⟩) fun _ =>
  .op (.waitDma2 cc0_scoped0.sem mixM mixV (Memref.isWhole_whole _).wordExact (Memref.isWhole_whole _).wordExact) fun _ =>
  .op (.enqueueDma dropM (.here dropV) (.dma cc0_scoped1.sem) (Memref.isWhole_whole _).wordExact (Memref.isWhole_whole _).wordExact ⟨Or.inl rfl, trivial⟩) fun _ =>
  .op (.waitDma2 cc0_scoped1.sem dropM dropV (Memref.isWhole_whole _).wordExact (Memref.isWhole_whole _).wordExact) fun _ => k

/-- The chunk's two table rows gathered, each under its check. -/
def readFlags (g : ℕ) (k : IVec S16 32 → IVec S16 32 → TileProg F i) : TileProg F i :=
  .op (.assume (DropOk (dropIdx i g)) (DropOk.dec (dropIdx i g))) fun hd =>
  .op (.assume (MixOk (mixIdx i g)) (MixOk.dec (mixIdx i g))) fun hm =>
  SparseCore.vectorLoadIdx (F := F) mixV ![mixIdx i g] hm.down (View.loads_vmem h_S1536) >>= fun m =>
  SparseCore.vectorLoadIdx (F := F) dropV ![dropIdx i g] hd.down (View.loads_vmem h_S384) >>= fun d =>
  k m d

/-- Channel `j`'s plane copied in, from the entry its mix word picks. -/
def startIn (g : ℕ) (m : IVec S16 32) (j : Fin 4) (k : TileProg F i) : TileProg F i :=
  .op (.assume (SrcOk i g j (flag j m)) (SrcOk.dec i g j (flag j m))) fun h =>
  .op (.enqueueDma (srcPlane (srcOff i g j (flag j m)) h.down) (.here (plane (planeOf g j))) (.dma (inSem (slotOf g)))
    ((View.wordExact_bits rfl).reshape _ _) ((View.wordExact_bits rfl).reshape _ _) ⟨Or.inl rfl, trivial⟩) fun _ => k

/-- The four copies in of chunk `g` started. -/
def startChunk (g : ℕ) (k : TileProg F i) : TileProg F i :=
  readFlags i g fun m _ => startIn i g m 0 (startIn i g m 1 (startIn i g m 2 (startIn i g m 3 k)))

theorem origin_inb : ∀ a, (![0, 0, 0, 0] : Fin 4 → Nat) a + S1x1x64x64.size a ≤ S8x384x64x64.size a := by decide

/-- One of them waited for: the wait names plane `j` of the slot. -/
def waitIn (g : ℕ) (j : Fin 4) (k : TileProg F i) : TileProg F i :=
  .op (.waitDma2 (inSem (slotOf g)) (srcPlane ![0, 0, 0, 0] origin_inb) (plane (planeOf g j))
    ((View.wordExact_bits rfl).reshape _ _) ((View.wordExact_bits rfl).reshape _ _)) fun _ => k

/-- All four of them waited for. -/
def waitChunk (g : ℕ) (k : TileProg F i) : TileProg F i :=
  waitIn i g 0 (waitIn i g 1 (waitIn i g 2 (waitIn i g 3 k)))

/-- The sixteen elements a step of the zeroing loop stores: row `k`, the `q`-th quarter of it, of plane `p`. -/
def zeroOff (p : Fin 12) (q : Fin 4) (k : Fin k0_t1_loop.trips) : Fin 3 → Nat :=
  ![p.val, (Scalar.indexCast (Scf.iv (0#32 : BitVec 32) 1#32 k)).toNat, 16 * q.val]
theorem zeroRow_toNat (k : Fin k0_t1_loop.trips) : (Scalar.indexCast (Scf.iv (0#32 : BitVec 32) 1#32 k)).toNat = k.val := by
  have h : ∀ k : Fin 64, (Scalar.indexCast (Scf.iv (0#32 : BitVec 32) 1#32 k)).toNat = k.val := by decide
  exact h k
theorem zeroRow_lt (k : Fin k0_t1_loop.trips) : (Scalar.indexCast (Scf.iv (0#32 : BitVec 32) 1#32 k)).toNat < 64 := by
  rw [zeroRow_toNat]; exact k.isLt
theorem zeroOff_inb (p : Fin 12) (q : Fin 4) (k : Fin k0_t1_loop.trips) :
    ∀ a, zeroOff p q k a + S1x1x16.size a ≤ S12x64x64.size a := by
  have hp := p.isLt
  have hq := q.isLt
  have hk : (Scalar.indexCast (Scf.iv (0#32 : BitVec 32) 1#32 k)).toNat < 64 := zeroRow_lt k
  intro a
  match a with
  | 0 => show p.val + 1 ≤ 12; omega
  | 1 => show (Scalar.indexCast (Scf.iv (0#32 : BitVec 32) 1#32 k)).toNat + 1 ≤ 64; omega
  | 2 => show 16 * q.val + 16 ≤ 64; omega

/-- One quarter row read (the value unused) and overwritten with zero. -/
def zeroQuarter (p : Fin 12) (q : Fin 4) (t : Fin k0_t1_loop.trips) (k : TileProg F i) : TileProg F i :=
  .op (.load bufV (Rect.unit (s := S12x64x64) (zeroOff p q t) S1x1x16.size (zeroOff_inb p q t)).toLoadRect (View.loadsAt_vmem h_S1x1x16)) fun _ =>
  .op (.store bufV (Rect.unit (s := S12x64x64) (zeroOff p q t) S1x1x16.size (zeroOff_inb p q t))
      (shapeCast S1x1x16 (broadcast S16 (Scalar.ofBits .f32 0x00000000#32 : F .f32)) shapeCasts_S16_S1x1x16) Finset.univ
      (View.stores_vmem_bits_univ h_S1x1x16 rfl) (.inl rfl)) fun _ => k

/-- One row of the plane overwritten with zero. -/
def zeroRow (p : Fin 12) (t : Fin k0_t1_loop.trips) : TileProg F i :=
  zeroQuarter i p 0 t (zeroQuarter i p 1 t (zeroQuarter i p 2 t (zeroQuarter i p 3 t (.ret ⟨⟩))))

/-- The plane of channel `j` overwritten with zero where the channel's drop word is set. -/
def dropPlane (g : ℕ) (d : IVec S16 32) (j : Fin 4) : TileProg F i :=
  if Scalar.cmpi .ne (Scalar.extui (Scalar.cmpi .ne (flag j d) 0#32) : BitVec 32) 0#32 = 1#1 then
    Scf.Loop.for k0_t1_loop k0_t1_ok ⟨⟩ (fun t _ => zeroRow i (planeOf g j) t) >>= fun _ => .ret ⟨⟩
  else .ret ⟨⟩

/-- Chunk `g` once its planes have landed: the dropped channels zeroed, and the slot's copy out started. -/
def finishChunk (g : Fin 24) (k : TileProg F i) : TileProg F i :=
  readFlags i g fun _ d =>
  dropPlane i g d 0 >>= fun _ => dropPlane i g d 1 >>= fun _ => dropPlane i g d 2 >>= fun _ => dropPlane i g d 3 >>= fun _ =>
  .op (.enqueueDma (slot (slotOf g)) (.here (outChunk i g)) (.dma (outSem (slotOf g)))
    (View.wordExact_bits rfl) ((View.wordExact_bits rfl).reshape _ _) ⟨Or.inl rfl, trivial⟩) fun _ => k

/-- Chunk `g`'s copy out waited for. -/
def waitOut (g : Fin 24) (k : TileProg F i) : TileProg F i :=
  .op (.waitDma2 (outSem (slotOf g)) (slot (slotOf g)) (outChunk i g)
    (View.wordExact_bits rfl) ((View.wordExact_bits rfl).reshape _ _)) fun _ => k

/-- A trip of the ring in its steady state, chunk `g` with its neighbours: chunk `g - 1` written out, chunk `g + 2`
    started, chunk `g` finished. -/
def trip (g : Fin 21) (k : TileProg F i) : TileProg F i :=
  waitOut i ⟨g, by omega⟩ (startChunk i (g + 3) (waitChunk i (g + 1) (finishChunk i ⟨g + 1, by omega⟩ k)))

/-- The tile's program. -/
def body : TileProg F i :=
  fetchTables i <| startChunk i 0 <| startChunk i 1 <| startChunk i 2 <|
  waitChunk i 0 <| finishChunk i 0 <|
  (List.finRange 21).foldr (trip i) <|
  waitChunk i 22 <| finishChunk i 22 <| waitChunk i 23 <| finishChunk i 23 <|
  waitOut i 21 <| waitOut i 22 <| waitOut i 23 <| .ret ⟨⟩

end steps

end Cert.Proof.K
-- ==== Proof.K.Same.lean ====
/-
  The printed body is `body` (Chunks.lean).  The printed text is cut by position into windows of sixty statements that
  do not line up with the chunks, so the two programs are walked together, operation by operation: sequencing is
  re-associated (`assoc`), equal operations are peeled (`step`, `test`), and each pair of operations is compared by
  unfolding alone.
-/
module

public import proofs.«01_k».proof.Proof.K.Chunks

@[expose] public section

noncomputable section

namespace Cert.Proof.K

open Cert.KernelIdeal Cert.KernelIdeal.Gen
open Idealize.ShloMosaic Idealize.SL.Sem

variable {F : FTy → Type} [FloatOps F]

section walk
universe v
variable {E : Type → Type v} {α β γ : Type}

theorem assoc {p : Prog E α} {f : α → Prog E β} {g : β → Prog E γ} {r : Prog E γ}
    (h : (p >>= fun a => f a >>= g) = r) : (p >>= f >>= g) = r := (Prog.bind_assoc p f g).trans h
theorem step {e : E α} {k k' : α → Prog E β} (h : ∀ x, k x = k' x) : (Prog.lift e >>= k) = Prog.op e k' :=
  congrArg (Prog.op e) (funext h)
theorem last {e : E β} {k' : β → Prog E β} (h : ∀ x, Prog.ret x = k' x) : Prog.lift e = Prog.op e k' :=
  congrArg (Prog.op e) (funext h)
theorem start {a : α} {k : α → Prog E β} {r : Prog E β} (h : k a = r) : ((pure a : Prog E α) >>= k) = r := h
theorem rfl0 (a : α) : (pure a : Prog E α) = .ret a := rfl
theorem test {p : Prog E α} {k k' : α → Prog E β} (h : ∀ x, k x = k' x) : (p >>= k) = (p >>= k') :=
  congrArg (p >>= ·) (funext h)
theorem ret {a : α} {k : α → Prog E β} {r : Prog E β} (h : r = k a) : r = (Prog.ret a).bind k := h
theorem branch {c : Prop} [Decidable c] {p : Prog E PUnit} {f : PUnit → Prog E α} {j : Prog E α} {r : α → Prog E β}
    {k : PUnit → Prog E β} (hf : ∀ x, f x = j) (h : (j >>= r) = k ⟨⟩) :
    ((if c then p >>= f else j) >>= r) = ((if c then p >>= fun _ => .ret ⟨⟩ else .ret ⟨⟩) >>= k) := by
  by_cases hc : c
  · rw [if_pos hc, if_pos hc]
    refine (Prog.bind_assoc p f r).trans (Eq.trans ?_ (Prog.bind_assoc p (fun _ => .ret ⟨⟩) k).symm)
    exact congrArg (p >>= ·) (funext fun x => (congrArg (· >>= r) (hf x)).trans h)
  · rw [if_neg hc, if_neg hc]; exact h

end walk

set_option maxHeartbeats 0 in
set_option maxRecDepth 65536 in
/-- The printed body is `body`.  The walk is cut every 350 steps, and what is left is proved as a statement of its own,
    so that no one proof is nested too deeply. -/
theorem body_eq (i : grid0.Coords) :
    cc0_sc_k (F := F) i yM (Memref.isWhole_whole _) mixM (Memref.isWhole_whole _) dropM (Memref.isWhole_whole _) outM (Memref.isWhole_whole _)
      mixV (Memref.isWhole_whole _) dropV (Memref.isWhole_whole _) bufV (Memref.isWhole_whole _) cc0_scratch3 cc0_scratch4 cc0_scoped0 cc0_scoped1
    = body i := by
  unfold cc0_sc_k
  iterate 350 (first
    | with_reducible refine start ?_ | refine branch (fun _ => rfl) ?_ | refine assoc ?_
    | refine step (fun _ => ?_) | refine ret ?_ | refine test (fun _ => ?_))
  as_aux_lemma =>
    iterate 350 (first
      | with_reducible refine start ?_ | refine branch (fun _ => rfl) ?_ | refine assoc ?_
      | refine step (fun _ => ?_) | refine ret ?_ | refine test (fun _ => ?_))
    as_aux_lemma =>
      iterate 350 (first
        | with_reducible refine start ?_ | refine branch (fun _ => rfl) ?_ | refine assoc ?_
        | refine step (fun _ => ?_) | refine ret ?_ | refine test (fun _ => ?_))
      as_aux_lemma =>
        repeat (first
          | with_reducible exact rfl0 _ | with_reducible refine start ?_ | refine branch (fun _ => rfl) ?_ | refine assoc ?_
          | refine step (fun _ => ?_) | refine ret ?_ | refine test (fun _ => ?_) | exact last (fun _ => rfl))

end Cert.Proof.K
-- ==== Proof.K.Places.lean ====
/-
  Which element of which array each window holds, and what the kernel computes there: `mixed` is the input after the
  mixing, `result` after the dropping too, both at an index of the result; `place i g x` is the index of the result that
  element `x` of the buffer stands for while chunk `g` is in it.
-/
module

public import proofs.«01_k».proof.Proof.K.Chunks
public import Idealize.ShloMosaic.Lib.Pipeline.ValueKit.Geometry
public import Idealize.ShloMosaic.Lib.ValueLayout

@[expose] public section

noncomputable section

namespace Cert.Proof.K

open Cert.KernelIdeal Cert.KernelIdeal.Gen
open Idealize.ShloMosaic Idealize.SL.Sem

variable {F : FTy → Type}

/-! ## Indices -/

/-- An index of the result, from its coordinates. -/
def full (a b c e : ℕ) (ha : a < 8) (hb : b < 384) (hc : c < 64) (he : e < 64) : S8x384x64x64.Idx :=
  fun | 0 => ⟨a, ha⟩ | 1 => ⟨b, hb⟩ | 2 => ⟨c, hc⟩ | 3 => ⟨e, he⟩
/-- An index of the buffer, from its coordinates. -/
def buf3 (p c e : ℕ) (hp : p < 12) (hc : c < 64) (he : e < 64) : S12x64x64.Idx :=
  fun | 0 => ⟨p, hp⟩ | 1 => ⟨c, hc⟩ | 2 => ⟨e, he⟩

theorem full_ext {z : S8x384x64x64.Idx} {a b c e : ℕ} {ha hb hc he} (h0 : (z 0).val = a) (h1 : (z 1).val = b)
    (h2 : (z 2).val = c) (h3 : (z 3).val = e) : z = full a b c e ha hb hc he :=
  funext fun | 0 => Fin.ext h0 | 1 => Fin.ext h1 | 2 => Fin.ext h2 | 3 => Fin.ext h3
theorem buf3_ext {x : S12x64x64.Idx} {p c e : ℕ} {hp hc he} (h0 : (x 0).val = p) (h1 : (x 1).val = c)
    (h2 : (x 2).val = e) : x = buf3 p c e hp hc he :=
  funext fun | 0 => Fin.ext h0 | 1 => Fin.ext h1 | 2 => Fin.ext h2

/-- The other entry of a pair. -/
theorem mate_lt {a : ℕ} (h : a < 8) : (if a % 2 = 0 then a + 1 else a - 1) < 8 := by split <;> omega
def mate (z : S8x384x64x64.Idx) : S8x384x64x64.Idx :=
  full (if (z 0).val % 2 = 0 then (z 0).val + 1 else (z 0).val - 1) (z 1).val (z 2).val (z 3).val
    (mate_lt (z 0).isLt) (z 1).isLt (z 2).isLt (z 3).isLt
/-- The mix table's entry for an index: its pair's row, its channel. -/
def mixAt (z : S8x384x64x64.Idx) : S1536.Idx := fun | 0 => ⟨384 * ((z 0).val / 2) + (z 1).val, by
  have h0 : (z 0).val < 8 := (z 0).isLt
  have h1 : (z 1).val < 384 := (z 1).isLt
  show 384 * ((z 0).val / 2) + (z 1).val < 1536; omega⟩
/-- The drop table's entry for an index: its channel. -/
def dropAt (z : S8x384x64x64.Idx) : S384.Idx := fun | 0 => ⟨(z 1).val, (z 1).isLt⟩

/-! ## What is computed -/

section values
variable (Y : S8x384x64x64.Idx → F .f32) (MX : S1536.Idx → BitVec 32) (DX : S384.Idx → BitVec 32)

/-- The input mixed: the other entry of the pair where the mix word is set. -/
def mixed (z : S8x384x64x64.Idx) : F .f32 := if MX (mixAt z) = 0#32 then Y z else Y (mate z)
/-- The input mixed and dropped: zero where the drop word is set. -/
def result [FloatOps F] (z : S8x384x64x64.Idx) : F .f32 :=
  if DX (dropAt z) = 0#32 then mixed Y MX z else Scalar.ofBits .f32 0x00000000#32

end values

/-! ## Where the windows lie -/

theorem emb_plane (p : Fin 12) (y : S64x64.Idx) :
    (plane p).view.emb y = buf3 p.val (y 0).val (y 1).val p.isLt (y 0).isLt (y 1).isLt := by
  have e := Shape.reshapeEquiv_cons_one (n := 2) (d := ![64, 64]) (squeezes_S1x64x64_S64x64).numel_eq y
  have h (a) : (((plane p).view.emb y) a : Fin _).val = ![p.val, 0, 0] a + ((Fin.cons ⟨0, Nat.one_pos⟩ y : (⟨3, ![1, 64, 64]⟩ : Shape).Idx) a).val := by
    rw [← e]
    exact ValueKit.view_emb_slice_whole_unit_val cc0_scratch2 ![p.val, 0, 0] S1x64x64.size (plane_inb p)
      (Shape.reshapeEquiv (squeezes_S1x64x64_S64x64).numel_eq y) a
  exact buf3_ext (h 0) ((h 1).trans (Nat.zero_add _)) ((h 2).trans (Nat.zero_add _))

theorem emb_slot (b : Fin 3) (y : S4x64x64.Idx) :
    (slot b).view.emb y = buf3 (4 * b.val + (y 0).val) (y 1).val (y 2).val
      (by have := b.isLt; have h : (y 0).val < 4 := (y 0).isLt; omega) (y 1).isLt (y 2).isLt := by
  have h (a) : (((slot b).view.emb y) a : Fin _).val = ![4 * b.val, 0, 0] a + (y a).val :=
    ValueKit.view_emb_slice_whole_unit_val cc0_scratch2 _ _ _ _ a
  exact buf3_ext (h 0) ((h 1).trans (Nat.zero_add _)) ((h 2).trans (Nat.zero_add _))

theorem emb_src (off : Fin 4 → ℕ) (ho : ∀ a, off a + S1x1x64x64.size a ≤ S8x384x64x64.size a) (y : S64x64.Idx) (a : Fin 4) :
    (((srcPlane off ho).view.emb y) a : Fin _).val = off a + ![0, 0, (y 0).val, (y 1).val] a := by
  have e : Shape.reshapeEquiv (squeezes_S1x1x64x64_S64x64).numel_eq y
      = (fun | 0 => ⟨0, Nat.one_pos⟩ | 1 => ⟨0, Nat.one_pos⟩ | 2 => y 0 | 3 => y 1 : S1x1x64x64.Idx) :=
    Shape.reshapeEquiv_eq_of_rowMajor _ (by
      rw [Shape.rowMajor_val_four, Shape.rowMajor_val_two]
      show (((0 * 1 + 0) * 64 + (y 0).val) * 64 + (y 1).val) = (y 0).val * 64 + (y 1).val
      simp only [Nat.zero_mul, Nat.zero_add])
  refine (ValueKit.view_emb_slice_whole_unit_val main_arg0_scv off S1x1x64x64.size ho
    (Shape.reshapeEquiv (squeezes_S1x1x64x64_S64x64).numel_eq y) a).trans ?_
  rw [e]
  match a with
  | 0 => rfl
  | 1 => rfl
  | 2 => rfl
  | 3 => rfl

theorem place_lt (i : grid0.Coords) (g : Fin 24) (k : ℕ) (hk : k < 4) :
    96 * ((2 * (i 1).val + (i 0).val) % 4) + 4 * g.val + k < 384 := by
  have := g.isLt; omega
theorem inst_lt (i : grid0.Coords) : (2 * (i 1).val + (i 0).val) / 4 < 8 := by
  have := tile_lt i; omega

theorem emb_out (i : grid0.Coords) (g : Fin 24) (y : S4x64x64.Idx) :
    (outChunk i g).view.emb y = full ((2 * (i 1).val + (i 0).val) / 4)
      (96 * ((2 * (i 1).val + (i 0).val) % 4) + 4 * g.val + (y 0).val) (y 1).val (y 2).val
      (inst_lt i) (place_lt i g _ (y 0).isLt) (y 1).isLt (y 2).isLt := by
  have e := Shape.reshapeEquiv_cons_one (n := 3) (d := ![4, 64, 64]) (squeezes_S1x4x64x64_S4x64x64).numel_eq y
  have h (a) : (((outChunk i g).view.emb y) a : Fin _).val = outOff i g a + ((Fin.cons ⟨0, Nat.one_pos⟩ y : (⟨4, ![1, 4, 64, 64]⟩ : Shape).Idx) a).val := by
    rw [← e]
    exact ValueKit.view_emb_slice_whole_unit_val main_v3_scv (outOff i g) S1x4x64x64.size (outOff_inb i g)
      (Shape.reshapeEquiv (squeezes_S1x4x64x64_S4x64x64).numel_eq y) a
  refine full_ext ((h 0).trans ?_) ((h 1).trans ?_) ((h 2).trans (Nat.zero_add _)) ((h 3).trans (Nat.zero_add _))
  · exact (words_toNat i).1
  · show (chan i g).toNat + (y 0).val = _
    rw [chan_toNat i g g.isLt]

/-- The index of the result that element `x` of the buffer stands for while chunk `g` is in it. -/
def place (i : grid0.Coords) (g : Fin 24) (x : S12x64x64.Idx) : S8x384x64x64.Idx :=
  full ((2 * (i 1).val + (i 0).val) / 4) (96 * ((2 * (i 1).val + (i 0).val) % 4) + 4 * g.val + (x 0).val % 4)
    (x 1).val (x 2).val (inst_lt i) (place_lt i g _ (Nat.mod_lt _ (by decide))) (x 1).isLt (x 2).isLt

/-- The slot's elements stand for the chunk's, index by index. -/
theorem place_slot (i : grid0.Coords) (g : Fin 24) (y : S4x64x64.Idx) :
    place i g ((slot (slotOf g)).view.emb y) = (outChunk i g).view.emb y := by
  rw [emb_slot, emb_out]
  have h : (y 0).val < 4 := (y 0).isLt
  refine full_ext rfl ?_ rfl rfl
  show 96 * ((2 * (i 1).val + (i 0).val) % 4) + 4 * g.val + (4 * (slotOf g).val + (y 0).val) % 4 = _
  omega

/-- The places of the buffer in a plane, -/
def planeSet (p : Fin 12) : Finset S12x64x64.Idx := Finset.univ.filter fun x => (x 0).val = p.val
/-- in a slot, -/
def slotSet (b : Fin 3) : Finset S12x64x64.Idx := Finset.univ.filter fun x => (x 0).val / 4 = b.val
/-- and the places of the result in a chunk. -/
def outSet (i : grid0.Coords) (g : Fin 24) : Finset S8x384x64x64.Idx :=
  Finset.univ.filter fun z => (z 0).val = (2 * (i 1).val + (i 0).val) / 4
      ∧ (z 1).val / 4 = 24 * ((2 * (i 1).val + (i 0).val) % 4) + g.val

theorem mem_planeSet {p : Fin 12} {x : S12x64x64.Idx} : x ∈ planeSet p ↔ (x 0).val = p.val := by
  unfold planeSet; rw [Finset.mem_filter]; exact and_iff_right (Finset.mem_univ _)
theorem mem_slotSet {b : Fin 3} {x : S12x64x64.Idx} : x ∈ slotSet b ↔ (x 0).val / 4 = b.val := by
  unfold slotSet; rw [Finset.mem_filter]; exact and_iff_right (Finset.mem_univ _)
theorem mem_outSet {i : grid0.Coords} {g : Fin 24} {z : S8x384x64x64.Idx} :
    z ∈ outSet i g ↔ (z 0).val = (2 * (i 1).val + (i 0).val) / 4
      ∧ (z 1).val / 4 = 24 * ((2 * (i 1).val + (i 0).val) % 4) + g.val := by
  unfold outSet; rw [Finset.mem_filter]; exact and_iff_right (Finset.mem_univ _)

theorem plane_set (p : Fin 12) : (plane p).view.set = planeSet p := by
  refine Finset.ext fun x => ⟨fun h => ?_, fun h => ?_⟩
  · obtain ⟨y, rfl⟩ := View.exists_emb_of_mem_set _ h
    rw [emb_plane]; exact mem_planeSet.2 rfl
  · have e : (plane p).view.emb (fun | 0 => x 1 | 1 => x 2 : S64x64.Idx) = x :=
      (emb_plane p _).trans (buf3_ext (mem_planeSet.1 h) rfl rfl).symm
    exact e ▸ (plane p).view.emb_mem_set _
theorem slot_set (b : Fin 3) : (slot b).view.set = slotSet b := by
  refine Finset.ext fun x => ⟨fun h => ?_, fun h => ?_⟩
  · obtain ⟨y, rfl⟩ := View.exists_emb_of_mem_set _ h
    rw [emb_slot]
    have h : (y 0).val < 4 := (y 0).isLt
    refine mem_slotSet.2 ?_
    show (4 * b.val + (y 0).val) / 4 = b.val
    omega
  · have h := mem_slotSet.1 h
    have e : (slot b).view.emb (fun | 0 => ⟨(x 0).val % 4, Nat.mod_lt _ (by decide)⟩ | 1 => x 1 | 2 => x 2 : S4x64x64.Idx) = x :=
      (emb_slot b _).trans (buf3_ext (by show (x 0).val = 4 * b.val + (x 0).val % 4; omega) rfl rfl).symm
    exact e ▸ (slot b).view.emb_mem_set _
theorem out_set (i : grid0.Coords) (g : Fin 24) : (outChunk i g).view.set = outSet i g := by
  refine Finset.ext fun z => ⟨fun h => ?_, fun h => ?_⟩
  · obtain ⟨y, rfl⟩ := View.exists_emb_of_mem_set _ h
    rw [emb_out]
    have h : (y 0).val < 4 := (y 0).isLt
    refine mem_outSet.2 ⟨rfl, ?_⟩
    show (96 * ((2 * (i 1).val + (i 0).val) % 4) + 4 * g.val + (y 0).val) / 4 = _
    omega
  · obtain ⟨h0, h1⟩ := mem_outSet.1 h
    have e : (outChunk i g).view.emb (fun | 0 => ⟨(z 1).val % 4, Nat.mod_lt _ (by decide)⟩ | 1 => z 2 | 2 => z 3 : S4x64x64.Idx) = z :=
      (emb_out i g _).trans (full_ext h0
        (by show (z 1).val = 96 * ((2 * (i 1).val + (i 0).val) % 4) + 4 * g.val + (z 1).val % 4; omega) rfl rfl).symm
    exact e ▸ (outChunk i g).view.emb_mem_set _

/-- A slot is its four planes. -/
theorem slot_planes (g : ℕ) : (Finset.univ : Finset (Fin 4)).biUnion (fun j => planeSet (planeOf g j)) = slotSet (slotOf g) := by
  refine Finset.ext fun x => ?_
  rw [Finset.mem_biUnion, mem_slotSet]
  constructor
  · rintro ⟨j, -, h⟩
    have h : (x 0).val = 4 * (g % 3) + j.val := mem_planeSet.1 h
    have := j.isLt
    show (x 0).val / 4 = g % 3
    omega
  · intro h
    refine ⟨⟨(x 0).val % 4, Nat.mod_lt _ (by decide)⟩, Finset.mem_univ _, mem_planeSet.2 ?_⟩
    show (x 0).val = 4 * (g % 3) + (x 0).val % 4
    have h : (x 0).val / 4 = g % 3 := h
    omega
theorem planes_disjoint (g : ℕ) : ∀ j ∈ (Finset.univ : Finset (Fin 4)), ∀ k ∈ (Finset.univ : Finset (Fin 4)), j ≠ k →
    Disjoint (planeSet (planeOf g j)) (planeSet (planeOf g k)) := by
  intro j _ k _ hjk
  refine Finset.disjoint_left.mpr fun x h1 h2 => hjk (Fin.ext ?_)
  have h1 : (x 0).val = 4 * (g % 3) + j.val := mem_planeSet.1 h1
  have h2 : (x 0).val = 4 * (g % 3) + k.val := mem_planeSet.1 h2
  omega

/-! ## The table entries a chunk reads -/

/-- Lane `k` of a vector of sixteen. -/
def lane (k : Fin 16) : S16.Idx := fun | 0 => k

theorem lanes_at (k : Fin 16) : lanes (lane k) = BitVec.ofNat 32 k.val := by
  show BitVec.ofNat 32 (0 * 16 + k.val) = _
  rw [Nat.zero_mul, Nat.zero_add]

/-- The running sum of a vector, at its last lane: all lanes added in order. -/
theorem scan_last (e : IVec S16 32) : extractAt ![15] (scan .sum e) inpos_S16_p15
    = ([1, 2, 3, 4, 5, 6, 7, 8, 9, 10, 11, 12, 13, 14, 15] : List (Fin 16)).foldl (fun r k => r + e (lane k)) (e (lane 0)) := by
  have hf : ((List.finRange 16).filter fun k => decide (0 < k.val ∧ k.val ≤ 15)) = [1, 2, 3, 4, 5, 6, 7, 8, 9, 10, 11, 12, 13, 14, 15] := by
    decide
  have ho : ∀ k : Fin 16, (Shape.ofLane k : S16.Idx) = lane k := fun k => funext fun | 0 => rfl
  rw [← hf, ← ho]
  show List.foldl _ _ _ = List.foldl _ _ _
  refine congrArg (fun f => List.foldl f _ _) (funext fun r => funext fun k => ?_)
  exact congrArg (fun x => r + e x) (ho k)

/-- Lane `j` as the kernel takes it out is lane `j`. -/
theorem flag_eq (j : Fin 4) (v : IVec S16 32) : flag j.val v = v (lane ⟨j.val, by omega⟩) := by
  have hl : ∀ k : Fin 16, ∀ j : Fin 4, IntOp.cmpi .eq (BitVec.ofNat 32 k.val) (BitVec.ofNat 32 j.val) = if k.val = j.val then 1#1 else 0#1 := by
    decide
  have he : ∀ k : Fin 16, select (cmpi .eq lanes (broadcast S16 (BitVec.ofNat 32 j.val))) v (broadcast S16 0#32) (lane k)
      = if k.val = j.val then v (lane k) else 0#32 := by
    intro k
    show (if IntOp.cmpi .eq (lanes (lane k)) (BitVec.ofNat 32 j.val) = 1#1 then v (lane k) else 0#32) = _
    rw [lanes_at, hl k j]
    by_cases h : k.val = j.val
    · rw [if_pos h, if_pos h, if_pos rfl]
    · rw [if_neg h, if_neg h, if_neg (by decide)]
  unfold flag
  rw [scan_last]
  simp only [List.foldl, he]
  match j with
  | 0 => simp
  | 1 => simp
  | 2 => simp
  | 3 => simp

/-- The sixteen drop entries of a chunk, lane by lane: its channels, the last channel repeated past the end. -/
theorem dropIdx_toNat (i : grid0.Coords) (g : Fin 24) (k : Fin 16) :
    (dropIdx i g (lane k)).toNat = min (96 * ((2 * (i 1).val + (i 0).val) % 4) + 4 * g.val + k.val) 383 := by
  have hc := chan_toNat i g g.isLt
  have hg := g.isLt
  have hk := k.isLt
  show (IntOp.minsi (chan i g + lanes (lane k)) 383#32).toNat = _
  rw [lanes_at]
  have ha : (chan i g + BitVec.ofNat 32 k.val).toNat = 96 * ((2 * (i 1).val + (i 0).val) % 4) + 4 * g.val + k.val := by
    rw [BitVec.toNat_add, hc, BitVec.toNat_ofNat]; omega
  generalize chan i g + BitVec.ofNat 32 k.val = w at ha
  unfold IntOp.minsi
  have hw : w.toInt = (w.toNat : ℤ) := by rw [BitVec.toInt_eq_toNat_cond]; split <;> omega
  have h3 : (383#32 : BitVec 32).toInt = 383 := by decide
  simp only [BitVec.slt_eq_decide, BitVec.sle_eq_decide, hw, h3, decide_eq_true_eq]
  split
  · omega
  · show (383#32 : BitVec 32).toNat = _
    rw [show (383#32 : BitVec 32).toNat = 383 from rfl]; omega
theorem dropIdx_lt (i : grid0.Coords) (g : Fin 24) (x : S16.Idx) : (dropIdx i g x).toNat < 384 := by
  obtain ⟨k, rfl⟩ : ∃ k : Fin 16, x = lane k := ⟨x 0, funext fun | 0 => rfl⟩
  rw [dropIdx_toNat]; omega
theorem mixIdx_toNat (i : grid0.Coords) (g : Fin 24) (x : S16.Idx) :
    (mixIdx i g x).toNat = 384 * ((2 * (i 1).val + (i 0).val) / 8) + (dropIdx i g x).toNat := by
  have hp := (words_toNat i).2.2.2
  have ht := tile_lt i
  have hd := dropIdx_lt i g x
  show (Scalar.muli (pair i) 384#32 + dropIdx i g x).toNat = _
  rw [BitVec.toNat_add, hp]; omega

/-- The three kinds of check the body makes all pass. -/
theorem dropOk (i : grid0.Coords) (g : Fin 24) : DropOk (dropIdx i g) := fun a x => by
  obtain rfl : a = 0 := Subsingleton.elim _ _
  exact dropIdx_lt i g x
theorem mixOk (i : grid0.Coords) (g : Fin 24) : MixOk (mixIdx i g) := fun a x => by
  obtain rfl : a = 0 := Subsingleton.elim _ _
  have hd := dropIdx_lt i g x
  have ht := tile_lt i
  show (mixIdx i g x).toNat < 1536
  rw [mixIdx_toNat]; omega

/-- Where channel `j` of chunk `g` comes from, as numbers. -/
theorem srcOff_val (i : grid0.Coords) (g : Fin 24) (j : Fin 4) (w : BitVec 32) :
    srcOff i g j w 0 = (if w = 0#32 then (2 * (i 1).val + (i 0).val) / 4
        else if (2 * (i 1).val + (i 0).val) / 4 % 2 = 0 then (2 * (i 1).val + (i 0).val) / 4 + 1 else (2 * (i 1).val + (i 0).val) / 4 - 1)
      ∧ srcOff i g j w 1 = 96 * ((2 * (i 1).val + (i 0).val) % 4) + 4 * g.val + j.val
      ∧ srcOff i g j w 2 = 0 ∧ srcOff i g j w 3 = 0 := by
  have hw := words_toNat i
  have hc := chan_toNat i g g.isLt
  have hg := g.isLt
  have hj := j.isLt
  refine ⟨?_, ?_, rfl, rfl⟩
  · show (if BitVec.ofBool (w != 0#32) = 1#1 then Scalar.xori (inst i) 1#32 else inst i).toNat = _
    by_cases h : w = 0#32
    · subst h; rw [if_neg (by decide), if_pos rfl]; exact hw.1
    · rw [if_neg h]
      have : (w != 0#32) = true := by simpa using h
      rw [this, if_pos (by decide)]; exact hw.2.2.1
  · show (chan i g + BitVec.ofNat 32 j.val).toNat = _
    rw [BitVec.toNat_add, hc, BitVec.toNat_ofNat]; omega
theorem srcOk (i : grid0.Coords) (g : Fin 24) (j : Fin 4) (w : BitVec 32) : SrcOk i g j w := by
  obtain ⟨h0, h1, h2, h3⟩ := srcOff_val i g j w
  have ht := tile_lt i
  have hg := g.isLt
  have hj := j.isLt
  intro a
  match a with
  | 0 => show srcOff i g j w 0 + 1 ≤ 8; rw [h0]; split; omega; split <;> omega
  | 1 => show srcOff i g j w 1 + 1 ≤ 384; omega
  | 2 => show srcOff i g j w 2 + 64 ≤ 64; omega
  | 3 => show srcOff i g j w 3 + 64 ≤ 64; omega

end Cert.Proof.K
-- ==== Proof.K.Setup.lean ====
/-
  The set-up of the launch, as the library's theorem for SparseCore programs sees the program, and the places and
  values a tile's steps are stated over.
-/
module

public import proofs.«01_k».proof.Proof.K.Places
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds and the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A tile and its places -/

/-- The tile with coordinates `i` on device `d`. -/
abbrev thr (d : Dev nD) (i : grid0.Coords) : Thread nD τ := V d ((i 0).castLE hcore0) ((i 1).castLE hsub0)

abbrev yLoc (d : Dev nD) : Loc nD τ sig := (SparseCore.T d).loc main_arg0
abbrev mixLoc (d : Dev nD) : Loc nD τ sig := (SparseCore.T d).loc main_v1
abbrev dropLoc (d : Dev nD) : Loc nD τ sig := (SparseCore.T d).loc main_v2
abbrev outLoc (d : Dev nD) : Loc nD τ sig := (SparseCore.T d).loc main_v3
abbrev mLoc (d : Dev nD) (i : grid0.Coords) : Loc nD τ sig := (thr d i).loc cc0_scratch0
abbrev dLoc (d : Dev nD) (i : grid0.Coords) : Loc nD τ sig := (thr d i).loc cc0_scratch1
abbrev bLoc (d : Dev nD) (i : grid0.Coords) : Loc nD τ sig := (thr d i).loc cc0_scratch2

theorem yLoc_eq (d : Dev nD) (i : grid0.Coords) : yM.view.loc (thr d i) = yLoc d := rfl
theorem mixLoc_eq (d : Dev nD) (i : grid0.Coords) : mixM.view.loc (thr d i) = mixLoc d := rfl
theorem dropLoc_eq (d : Dev nD) (i : grid0.Coords) : dropM.view.loc (thr d i) = dropLoc d := rfl
theorem outLoc_eq (d : Dev nD) (i : grid0.Coords) (g : Fin 24) : (outChunk i g).view.loc (thr d i) = outLoc d := rfl
theorem planeLoc_eq (d : Dev nD) (i : grid0.Coords) (p : Fin 12) : (plane p).view.loc (thr d i) = bLoc d i := rfl
theorem slotLoc_eq (d : Dev nD) (i : grid0.Coords) (b : Fin 3) : (slot b).view.loc (thr d i) = bLoc d i := rfl

/-! ## What the buffer holds while chunk `g` is in it -/

section values
variable (Y : S8x384x64x64.Idx → F .f32) (MX : S1536.Idx → BitVec 32) (DX : S384.Idx → BitVec 32)

/-- Once copied in, -/
def inF (i : grid0.Coords) (g : Fin 24) (x : S12x64x64.Idx) : F .f32 := mixed Y MX (place i g x)
/-- and once its dropped channels are zeroed. -/
def outF [FloatOps F] (i : grid0.Coords) (g : Fin 24) (x : S12x64x64.Idx) : F .f32 := result Y MX DX (place i g x)

theorem inF_def (i : grid0.Coords) (g : Fin 24) (x : S12x64x64.Idx) : inF Y MX i g x = mixed Y MX (place i g x) := rfl
theorem outF_def [FloatOps F] (i : grid0.Coords) (g : Fin 24) (x : S12x64x64.Idx) :
    outF Y MX DX i g x = if DX (dropAt (place i g x)) = 0#32 then inF Y MX i g x else Scalar.ofBits .f32 0x00000000#32 := rfl

/-- The mix words of a chunk's row of lanes, -/
def mixRow (i : grid0.Coords) (g : Fin 24) : IVec S16 32 :=
  fun x => MX (fun | 0 => ⟨(mixIdx i g x).toNat, mixOk i g 0 x⟩)
/-- and its drop words. -/
def dropRow (i : grid0.Coords) (g : Fin 24) : IVec S16 32 :=
  fun x => DX (fun | 0 => ⟨(dropIdx i g x).toNat, dropOk i g 0 x⟩)

/-- The word the kernel takes for channel `j` is the table's entry for that channel's elements. -/
theorem flag_mixRow (i : grid0.Coords) (g : Fin 24) (j : Fin 4) (x : S12x64x64.Idx) (hx : x ∈ planeSet (planeOf g j)) :
    flag j.val (mixRow MX i g) = MX (mixAt (place i g x)) := by
  rw [flag_eq]
  have hx : (x 0).val = 4 * (g.val % 3) + j.val := mem_planeSet.1 hx
  refine congrArg MX (funext fun | 0 => Fin.ext ?_)
  have hj := j.isLt
  have hg := g.isLt
  show (mixIdx i g _).toNat = 384 * ((2 * (i 1).val + (i 0).val) / 4 / 2)
    + (96 * ((2 * (i 1).val + (i 0).val) % 4) + 4 * g.val + (x 0).val % 4)
  rw [mixIdx_toNat, dropIdx_toNat]
  show 384 * _ + min (_ + j.val) 383 = _
  omega
theorem flag_dropRow (i : grid0.Coords) (g : Fin 24) (j : Fin 4) (x : S12x64x64.Idx) (hx : x ∈ planeSet (planeOf g j)) :
    flag j.val (dropRow DX i g) = DX (dropAt (place i g x)) := by
  rw [flag_eq]
  have hx : (x 0).val = 4 * (g.val % 3) + j.val := mem_planeSet.1 hx
  refine congrArg DX (funext fun | 0 => Fin.ext ?_)
  have hj := j.isLt
  have hg := g.isLt
  show (dropIdx i g _).toNat = 96 * ((2 * (i 1).val + (i 0).val) % 4) + 4 * g.val + (x 0).val % 4
  rw [dropIdx_toNat]
  show min (_ + j.val) 383 = _
  omega

/-- The source element copied onto an element of channel `j`'s plane, the word `w` being the channel's mix word. -/
theorem src_place (i : grid0.Coords) (g : Fin 24) (j : Fin 4) (w : BitVec 32) (h) (y : S64x64.Idx)
    (hw : w = MX (mixAt (place i g ((plane (planeOf g j)).view.emb y)))) :
    Y ((srcPlane (srcOff i g j w) h).view.emb y) = inF Y MX i g ((plane (planeOf g j)).view.emb y) := by
  obtain ⟨h0, h1, h2, h3⟩ := srcOff_val i g j w
  have he := emb_src (srcOff i g j w) h y
  rw [emb_plane] at hw ⊢
  rw [inF_def, mixed, ← hw]
  have hj := j.isLt
  have e1 : 96 * ((2 * (i 1).val + (i 0).val) % 4) + 4 * g.val + j.val
      = 96 * ((2 * (i 1).val + (i 0).val) % 4) + 4 * g.val + (planeOf g j).val % 4 := by
    show _ = _ + (4 * (g.val % 3) + j.val) % 4
    omega
  have z0 := (he 0).trans (congrArg (· + 0) h0)
  have z1 := ((he 1).trans (congrArg (· + 0) h1)).trans e1
  have z2 := (he 2).trans (congrArg (· + (y 0).val) h2)
  have z3 := (he 3).trans (congrArg (· + (y 1).val) h3)
  by_cases hz : w = 0#32
  · rw [if_pos hz]
    exact congrArg Y (full_ext (z0.trans (if_pos hz)) z1 (z2.trans (Nat.zero_add _)) (z3.trans (Nat.zero_add _)))
  · rw [if_neg hz]
    exact congrArg Y (full_ext (z0.trans (if_neg hz)) z1 (z2.trans (Nat.zero_add _)) (z3.trans (Nat.zero_add _)))

end values

end Cert.Proof.K
-- ==== Proof.K.Load.lean ====
/-
  Copying a chunk in: its table rows gathered, its four planes started as one batch on the slot's semaphore, and the
  batch waited for.  Each step is stated in continuation form over what it holds.
-/
module

public import proofs.«01_k».proof.Proof.K.Setup

@[expose] public section

noncomputable section

namespace Cert.Proof.K

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (d : Dev nD) (i : grid0.Coords)
variable (Y : S8x384x64x64.Idx → F .f32) (MX : S1536.Idx → BitVec 32) (DX : S384.Idx → BitVec 32)

/-- Running a tile's program. -/
abbrev run (k : TileProg F i) (Q : PUnit → sProp 𝕄) : sProp 𝕄 :=
  wp frame (wpE (defs₀ (F := F)) 𝒱₀ (thr d i) none) Set.univ k Q

/-! ## What a tile holds -/

/-- The two tables in its scratches, -/
abbrev Tables : sProp 𝕄 :=
  iprop((mLoc d i ↦{fullShare} (MX : Buf (Elt F) (mLoc d i))) ∗ (dLoc d i ↦{fullShare} (DX : Buf (Elt F) (dLoc d i))))
/-- some share of the input, -/
abbrev Input : sProp 𝕄 := iprop(∃ q, yLoc d ↦{q} (Y : Buf (Elt F) (yLoc d)))
/-- a part of the buffer, -/
abbrev Part (S : Finset S12x64x64.Idx) (f : S12x64x64.Idx → F .f32) : sProp 𝕄 :=
  bLoc d i ↦[S]{fullShare} (f : Buf (Elt F) (bLoc d i))

/-- A slot is its four planes, held separately. -/
theorem slot_part (g : ℕ) (f : S12x64x64.Idx → F .f32) :
    Part d i (slotSet (slotOf g)) f = bigSep Finset.univ fun j : Fin 4 => Part d i (planeSet (planeOf g j)) f := by
  rw [← slot_planes g]
  exact pointsTo_biUnion Finset.univ (ℓ := bLoc d i) (fun j : Fin 4 => planeSet (planeOf g j)) (planes_disjoint g)
/-- Four things, one after another. -/
theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- What one copy in credits. -/
abbrev inN : ℕ := (plane 0).view.dmaCredit
/-- The batch of chunk `g`'s copies in, `j` of them started and `u` of their credit consumed. -/
abbrev Copies (g : Fin 24) (j u : ℕ) : sProp 𝕄 :=
  Batch (EC (F := F)) (thr d i) (.dma (inSem (slotOf g))) (default : HIx 1) inN
    (fun j : Fin 4 => Part d i (planeSet (planeOf g j)) (inF Y MX i g)) j u
/-- A slot's copy-in semaphore at rest, -/
abbrev InRest (b : Fin 3) : sProp 𝕄 := semVal (thr d i, .dma (inSem b)) 0
/-- and its copy-out semaphore at rest. -/
abbrev OutRest (b : Fin 3) : sProp 𝕄 := semVal (thr d i, .dma (outSem b)) 0

/-- What a tile owes, and that it may wait while owing it: `W` is what it had promised at the start. -/
abbrev Owing (O : CellTallies nD τ sig (HIx 1)) (W : Waits sig (HIx 1)) : sProp 𝕄 :=
  iprop(MayWaits (thr d i) (default : HIx 1) O ∗ ∃ W', ⌜∀ p ∈ W', p ∈ W ∨ p.2 = none⌝ ∗ owes (thr d i) O W')

/-- Waiting once more on a copy's semaphore. -/
theorem owing_insert {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.1 hp with rfl | hp
  · exact Or.inr rfl
  · exact h p hp

/-! ## The table rows -/

theorem read_mixV (f : S1536.Idx → BitVec 32) :
    View.read (Elt F) (mixV.access (Rect.whole S1536)) (f : S1536.Idx → Elt F .i32) = f :=
  funext fun x => congrArg f (Rect.emb_whole_apply S1536 x)
theorem read_dropV (f : S384.Idx → BitVec 32) :
    View.read (Elt F) (dropV.access (Rect.whole S384)) (f : S384.Idx → Elt F .i32) = f :=
  funext fun x => congrArg f (Rect.emb_whole_apply S384 x)
theorem gather_mix (g : Fin 24) (h) :
    loadIdx (View.read (Elt F) (mixV.access (Rect.whole S1536)) (MX : S1536.Idx → Elt F .i32)) ![mixIdx i g] h = mixRow MX i g := by
  rw [read_mixV]
  exact funext fun x => congrArg MX (funext fun | 0 => rfl)
theorem gather_drop (g : Fin 24) (h) :
    loadIdx (View.read (Elt F) (dropV.access (Rect.whole S384)) (DX : S384.Idx → Elt F .i32)) ![dropIdx i g] h = dropRow DX i g := by
  rw [read_dropV]
  exact funext fun x => congrArg DX (funext fun | 0 => rfl)

theorem wp_readFlags (g : Fin 24) (k : IVec S16 32 → IVec S16 32 → TileProg F i) (Q : PUnit → sProp 𝕄) :
    Tables d i MX DX ⊢ iprop((Tables d i MX DX -∗ run d i (k (mixRow MX i g) (dropRow DX i g)) Q)
      -∗ run d i (readFlags i g k) Q) := by
  rw [← gather_mix (F := F) i MX g (mixOk i g), ← gather_drop (F := F) i DX g (dropOk i g)]
  unfold readFlags run
  iintro ⟨Hm, Hd⟩ HK
  rw [wp_assume_of 𝒱₀ (thr d i) none _ (dropOk i g), wp_assume_of 𝒱₀ (thr d i) none _ (mixOk i g)]
  iapply (SparseCore.wp_vectorLoadIdx 𝒱₀ (thr d i) none Set.univ (base := mixV) (S := Finset.univ) (q := fullShare)
    (f := MX) (Finset.subset_univ _)) $$ Hm
  iintro Hm
  iapply (SparseCore.wp_vectorLoadIdx 𝒱₀ (thr d i) none Set.univ (base := dropV) (S := Finset.univ) (q := fullShare)
    (f := DX) (Finset.subset_univ _)) $$ Hd
  iintro Hd
  iapply HK
  isplitl [Hm]; · iexact Hm
  iexact Hd

/-! ## The copies in -/

theorem amount_plane (p : Fin 12) (sm : DmaSem sig) : (plane p).view.amount (.dma sm) = inN := rfl

/-- A copy in lands the input mixed. -/
theorem landed (g : Fin 24) (j : Fin 4) (h) (f : S12x64x64.Idx → F .f32) (x : S12x64x64.Idx) (hx : x ∈ planeSet (planeOf g j)) :
    (plane (planeOf g j)).view.write (Elt F) f
      ((srcPlane (srcOff i g j (flag j (mixRow MX i g))) h).view.read (Elt F) Y) Finset.univ x = inF Y MX i g x := by
  rw [← plane_set] at hx
  obtain ⟨y, rfl⟩ := View.exists_emb_of_mem_set _ hx
  refine (View.write_emb_of_mem _ _ (Finset.mem_univ y)).trans ?_
  exact src_place Y MX i g j _ h y (flag_mixRow MX i g j _ (plane_set _ ▸ View.emb_mem_set _ _))

theorem wp_startIn (g : Fin 24) (j : Fin 4) (k : TileProg F i) (Q : PUnit → sProp 𝕄) (f : S12x64x64.Idx → F .f32) :
    iprop(Part d i (planeSet (planeOf g j)) f ∗ Input d Y ∗ Copies d i Y MX g j 0)
      ⊢ iprop((Input d Y ∗ Copies d i Y MX g (j + 1) 0 -∗ run d i k Q) -∗ run d i (startIn i g (mixRow MX i g) j k) Q) := by
  unfold startIn run
  iintro ⟨Hp, ⟨%q, Hy⟩, HB⟩ HK
  have ho := srcOk i g j (flag j (mixRow MX i g))
  rw [wp_assume_of 𝒱₀ (thr d i) none _ ho]
  ihave H := (pointsTo_share (PosShare.mem_left_op_right q)).1 $$ Hy
  icases H with ⟨Hl, Hr⟩
  ihave H := (pointsTo_split_subset (ℓ := yLoc d) (q := q.left) (f := (Y : Buf (Elt F) (yLoc d)))
    (Finset.subset_univ (srcPlane (srcOff i g j (flag j (mixRow MX i g))) ho).view.set)).1 $$ Hl
  icases H with ⟨Hs, -⟩
  iapply (wp_dmaBatch (EC (F := F)) 𝒱₀ (thr d i) none (src := srcPlane (srcOff i g j (flag j (mixRow MX i g))) ho)
    (dst := plane (planeOf g j)) (sm := .dma (inSem (slotOf g))) (via := ReadAs.same) (q := q.left) (fs := Y) (fd := f) (D := fun j : Fin 4 => Part d i (planeSet (planeOf g j)) (inF Y MX i g)) (Sd := planeSet (planeOf g j))
    (default : HIx 1) inN (amount_plane _ _) (plane_set _).le j.isLt (Nat.zero_le _)
    (sep_elim_left.trans (Entails.of_eq (pointsTo_congr fun x hx => landed i Y MX g j ho f x hx)))) $$ [Hs Hp HB]
  · isplitl [Hs]; · iexact Hs
    isplitl [Hp]; · iexact Hp
    iexact HB
  · iintro HB
    iapply HK
    isplitl [Hr]; · iexists q.right; iexact Hr
    iexact HB

/-- The four copies of a chunk started, its slot free before. -/
theorem wp_startChunk (g : Fin 24) (k : TileProg F i) (Q : PUnit → sProp 𝕄) :
    iprop((∃ f, Part d i (slotSet (slotOf g)) f) ∗ InRest (F := F) d i (slotOf g) ∗ Tables d i MX DX ∗ Input d Y)
      ⊢ iprop((Copies d i Y MX g 4 0 ∗ Tables d i MX DX ∗ Input d Y -∗ run d i k Q) -∗ run d i (startChunk i g k) Q) := by
  unfold startChunk
  iintro ⟨⟨%f, Hf⟩, Hs, HT, HY⟩ HK
  imod (batch_alloc' (EC (F := F)) (thr d i) (default : HIx 1) inN
    (fun j : Fin 4 => Part d i (planeSet (planeOf g j)) (inF Y MX i g))) $$ Hs with HB
  ihave H := (Entails.of_eq ((slot_part d i g f).trans (four _))) $$ Hf
  icases H with ⟨H0, H1, H2, H3⟩
  iapply (wp_readFlags d i MX DX g _ Q) $$ HT
  iintro HT
  iapply (wp_startIn d i Y MX g 0 _ Q f) $$ [H0 HY HB]
  · isplitl [H0]; · iexact H0
    isplitl [HY]; · iexact HY
    iexact HB
  iintro ⟨HY, HB⟩
  iapply (wp_startIn d i Y MX g 1 _ Q f) $$ [H1 HY HB]
  · isplitl [H1]; · iexact H1
    isplitl [HY]; · iexact HY
    iexact HB
  iintro ⟨HY, HB⟩
  iapply (wp_startIn d i Y MX g 2 _ Q f) $$ [H2 HY HB]
  · isplitl [H2]; · iexact H2
    isplitl [HY]; · iexact HY
    iexact HB
  iintro ⟨HY, HB⟩
  iapply (wp_startIn d i Y MX g 3 _ Q f) $$ [H3 HY HB]
  · isplitl [H3]; · iexact H3
    isplitl [HY]; · iexact HY
    iexact HB
  iintro ⟨HY, HB⟩
  iapply HK
  isplitl [HB]; · iexact HB
  isplitl [HT] <;> iassumption

/-! ## Their waits -/

theorem inN_pos : 0 < inN := by decide

/-- A wait that is not the chunk's last gives nothing back, -/
theorem wp_waitIn (g : Fin 24) (j : Fin 4) (u : ℕ) (hu : u + inN < inN * 4) (k : TileProg F i) (Q : PUnit → sProp 𝕄)
    (O : CellTallies nD τ sig (HIx 1)) (W : Waits sig (HIx 1)) :
    iprop(Copies d i Y MX g 4 u ∗ Owing d i O W)
      ⊢ iprop((Copies d i Y MX g 4 (u + inN) ∗ Owing d i O W -∗ run d i k Q) -∗ run d i (waitIn i g j k) Q) := by
  unfold waitIn run
  iintro ⟨HB, #HM, %W', %hW, HO⟩ HK
  iapply (wp_waitBatchO (EC (F := F)) 𝒱₀ (thr d i) none (srcw := srcPlane ![0, 0, 0, 0] origin_inb) (dstw := plane (planeOf g j))
    (hsrc := (View.wordExact_bits rfl).reshape _ _) (hdst := (View.wordExact_bits rfl).reshape _ _) (default : HIx 1) (N := inN) rfl hu) $$ [HB HO]
  · isplitl [HB]; · iexact HB
    isplitl [HO]; · iexact HO
    iapply (MayWaits.elim (.dma (inSem (slotOf g)))); iexact HM
  iintro ⟨HB, HO⟩
  iapply HK
  isplitl [HB]; · iexact HB
  isplitr; · iexact HM
  iexists (insert (SemLoc.dma (inSem (slotOf g)), (default : HIx 1)) W')
  isplitr; · ipureintro; exact owing_insert hW (.dma (inSem (slotOf g)))
  iexact HO

/-- and the last gives all four planes. -/
theorem wp_waitLastIn (g : Fin 24) (j : Fin 4) (u : ℕ) (hu : u + inN = inN * 4) (k : TileProg F i) (Q : PUnit → sProp 𝕄)
    (O : CellTallies nD τ sig (HIx 1)) (W : Waits sig (HIx 1)) :
    iprop(Copies d i Y MX g 4 u ∗ Owing d i O W)
      ⊢ iprop((Part d i (slotSet (slotOf g)) (inF Y MX i g) ∗ InRest (F := F) d i (slotOf g) ∗ Owing d i O W -∗ run d i k Q)
        -∗ run d i (waitIn i g j k) Q) := by
  unfold waitIn run
  iintro ⟨HB, #HM, %W', %hW, HO⟩ HK
  iapply (wp_waitBatchLastO (EC (F := F)) 𝒱₀ (thr d i) none (srcw := srcPlane ![0, 0, 0, 0] origin_inb) (dstw := plane (planeOf g j))
    (hsrc := (View.wordExact_bits rfl).reshape _ _) (hdst := (View.wordExact_bits rfl).reshape _ _) (default : HIx 1) (N := inN) rfl inN_pos hu) $$ [HB HO]
  · isplitl [HB]; · iexact HB
    isplitl [HO]; · iexact HO
    iapply (MayWaits.elim (.dma (inSem (slotOf g)))); iexact HM
  iintro ⟨HB, HS, HO⟩
  iapply HK
  isplitl [HB]
  · rw [slot_part d i g]; iexact HB
  isplitl [HS]; · iexact HS
  isplitr; · iexact HM
  iexists (insert (SemLoc.dma (inSem (slotOf g)), (default : HIx 1)) W')
  isplitr; · ipureintro; exact owing_insert hW (.dma (inSem (slotOf g)))
  iexact HO

/-- A chunk waited for: its slot holds the input mixed. -/
theorem wp_waitChunk (g : Fin 24) (k : TileProg F i) (Q : PUnit → sProp 𝕄)
    (O : CellTallies nD τ sig (HIx 1)) (W : Waits sig (HIx 1)) :
    iprop(Copies d i Y MX g 4 0 ∗ Owing d i O W)
      ⊢ iprop((Part d i (slotSet (slotOf g)) (inF Y MX i g) ∗ InRest (F := F) d i (slotOf g) ∗ Owing d i O W -∗ run d i k Q)
        -∗ run d i (waitChunk i g k) Q) := by
  have hp := inN_pos
  unfold waitChunk
  iintro H HK
  iapply (wp_waitIn d i Y MX g 0 0 (by omega) _ Q O W) $$ H
  iintro H
  iapply (wp_waitIn d i Y MX g 1 (0 + inN) (by omega) _ Q O W) $$ H
  iintro H
  iapply (wp_waitIn d i Y MX g 2 (0 + inN + inN) (by omega) _ Q O W) $$ H
  iintro H
  iapply (wp_waitLastIn d i Y MX g 3 (0 + inN + inN + inN) (by omega) _ Q O W) $$ H
  iexact HK

end Cert.Proof.K
-- ==== Proof.K.Finish.lean ====
/-
  Finishing a chunk: the planes of its dropped channels zeroed, row by row and quarter row by quarter row, and its slot
  copied out to its chunk of the result; and the wait for that copy.
-/
module

public import proofs.«01_k».proof.Proof.K.Load

@[expose] public section

noncomputable section

namespace Cert.Proof.K

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (d : Dev nD) (i : grid0.Coords)
variable (Y : S8x384x64x64.Idx → F .f32) (MX : S1536.Idx → BitVec 32) (DX : S384.Idx → BitVec 32)

/-! ## Zeroing a plane -/

/-- The word zero as a float. -/
abbrev zeroF : F .f32 := Scalar.ofBits .f32 0x00000000#32

/-- A buffer whose planes are zeroed up to quarter `q` of row `r`. -/
def zeroed (f : S12x64x64.Idx → F .f32) (r q : ℕ) (x : S12x64x64.Idx) : F .f32 :=
  if (x 1).val < r ∨ ((x 1).val = r ∧ (x 2).val < 16 * q) then zeroF else f x

theorem zeroed_start (f : S12x64x64.Idx → F .f32) : zeroed f 0 0 = f :=
  funext fun x => if_neg (by omega)
theorem zeroed_row (f : S12x64x64.Idx → F .f32) (r : ℕ) : zeroed f r 4 = zeroed f (r + 1) 0 := by
  funext x
  have h : (x 2).val < 64 := (x 2).isLt
  unfold zeroed
  exact if_congr (by omega) rfl rfl
theorem zeroed_end (f : S12x64x64.Idx → F .f32) (x : S12x64x64.Idx) : zeroed f 64 0 x = zeroF := by
  have h : (x 1).val < 64 := (x 1).isLt
  exact if_pos (by omega)

/-- The sixteen elements a step stores, as a rectangle of the buffer. -/
abbrev quarter (p : Fin 12) (q : Fin 4) (t : Fin k0_t1_loop.trips) : Rect S12x64x64 :=
  Rect.unit (s := S12x64x64) (zeroOff p q t) S1x1x16.size (zeroOff_inb p q t)

theorem emb_quarter (p : Fin 12) (q : Fin 4) (t : Fin k0_t1_loop.trips) (y : S1x1x16.Idx) :
    (((bufV.access (quarter p q t)).emb y) 0 : Fin _).val = p.val ∧ (((bufV.access (quarter p q t)).emb y) 1 : Fin _).val = t.val
      ∧ (((bufV.access (quarter p q t)).emb y) 2 : Fin _).val = 16 * q.val + (y 2).val := by
  have h (a) : (((bufV.access (quarter p q t)).emb y) a : Fin _).val = zeroOff p q t a + (y a).val :=
    ValueKit.view_emb_slice_whole_unit_val cc0_scratch2 _ _ _ y a
  have y0 : (y 0).val < 1 := (y 0).isLt
  have y1 : (y 1).val < 1 := (y 1).isLt
  refine ⟨(h 0).trans ?_, (h 1).trans ?_, h 2⟩
  · show p.val + (y 0).val = _; omega
  · show (Scalar.indexCast (Scf.iv (0#32 : BitVec 32) 1#32 t)).toNat + (y 1).val = _
    rw [zeroRow_toNat]; omega

theorem quarter_sub (p : Fin 12) (q : Fin 4) (t : Fin k0_t1_loop.trips) :
    (bufV.access (quarter p q t)).set ⊆ planeSet p := by
  intro x hx
  obtain ⟨y, rfl⟩ := View.exists_emb_of_mem_set _ hx
  exact mem_planeSet.2 (emb_quarter p q t y).1

theorem mem_quarter (p : Fin 12) (q : Fin 4) (t : Fin k0_t1_loop.trips) (x : S12x64x64.Idx) (h0 : (x 0).val = p.val)
    (h1 : (x 1).val = t.val) (h2 : 16 * q.val ≤ (x 2).val) (h3 : (x 2).val < 16 * q.val + 16) :
    x ∈ (bufV.access (quarter p q t)).set := by
  have e : (bufV.access (quarter p q t)).emb (fun | 0 => ⟨0, Nat.one_pos⟩ | 1 => ⟨0, Nat.one_pos⟩ | 2 => ⟨(x 2).val - 16 * q.val, by
      show _ < 16; omega⟩ : S1x1x16.Idx) = x := by
    obtain ⟨e0, e1, e2⟩ := emb_quarter p q t (fun | 0 => ⟨0, Nat.one_pos⟩ | 1 => ⟨0, Nat.one_pos⟩ | 2 => ⟨(x 2).val - 16 * q.val, by
      show _ < 16; omega⟩ : S1x1x16.Idx)
    refine funext fun | 0 => Fin.ext (e0.trans h0.symm) | 1 => Fin.ext (e1.trans h1.symm) | 2 => Fin.ext (e2.trans ?_)
    show 16 * q.val + ((x 2).val - 16 * q.val) = _
    omega
  exact e ▸ View.emb_mem_set _ _

/-- A step's store, on its plane. -/
theorem zeroed_store (p : Fin 12) (q : Fin 4) (t : Fin k0_t1_loop.trips) (f : S12x64x64.Idx → F .f32) (x : S12x64x64.Idx)
    (hx : x ∈ planeSet p) :
    (bufV.access (quarter p q t)).write (Elt F) (zeroed f t q)
      (shapeCast S1x1x16 (broadcast S16 (zeroF : F .f32)) shapeCasts_S16_S1x1x16) Finset.univ x = zeroed f t (q + 1) x := by
  by_cases hm : x ∈ (bufV.access (quarter p q t)).set
  · obtain ⟨y, rfl⟩ := View.exists_emb_of_mem_set _ hm
    obtain ⟨e0, e1, e2⟩ := emb_quarter p q t y
    have y2 : (y 2).val < 16 := (y 2).isLt
    refine (View.write_emb_of_mem _ _ (Finset.mem_univ y)).trans ?_
    refine Eq.trans ?_ (if_pos (Or.inr ⟨e1, by rw [e2]; omega⟩)).symm
    rfl
  · refine (View.write_of_not_mem _ _ _ hm).trans ?_
    have h0 := mem_planeSet.1 hx
    unfold zeroed
    refine if_congr ?_ rfl rfl
    have hn : ¬ ((x 1).val = t.val ∧ 16 * q.val ≤ (x 2).val ∧ (x 2).val < 16 * q.val + 16) :=
      fun ⟨h1, h2, h3⟩ => hm (mem_quarter p q t x h0 h1 h2 h3)
    omega

theorem wp_zeroQuarter (p : Fin 12) (q : Fin 4) (n : ℕ) (hn : n = q.val) (t : Fin k0_t1_loop.trips)
    (f : S12x64x64.Idx → F .f32) (k : TileProg F i) (Q : PUnit → sProp 𝕄) :
    Part d i (planeSet p) (zeroed f t n)
      ⊢ iprop((Part d i (planeSet p) (zeroed f t (n + 1)) -∗ run d i k Q) -∗ run d i (zeroQuarter i p q t k) Q) := by
  subst hn
  unfold zeroQuarter run
  iintro Hp HK
  iapply (wp_load_rect 𝒱₀ (thr d i) none Set.univ (m := bufV) (r := quarter p q t) (S := planeSet p) (q := fullShare)
    (f := zeroed f t q) (quarter_sub p q t)) $$ Hp
  iintro Hp
  iapply (wp_store 𝒱₀ (thr d i) none Set.univ (m := bufV) (r := quarter p q t) (S := planeSet p)
    (f := zeroed f t q) (Mk := Finset.univ) (quarter_sub p q t)) $$ Hp
  iintro Hp
  iapply HK
  iapply (Entails.of_eq (pointsTo_congr fun x hx => zeroed_store p q t f x hx)); iexact Hp

theorem wp_zeroRow (p : Fin 12) (t : Fin k0_t1_loop.trips) (f : S12x64x64.Idx → F .f32) :
    Part d i (planeSet p) (zeroed f t 0) ⊢ run d i (zeroRow i p t) fun _ => Part d i (planeSet p) (zeroed f (t + 1) 0) := by
  unfold zeroRow
  iintro Hp
  iapply (wp_zeroQuarter d i p 0 (0) rfl t f _ _) $$ Hp
  iintro Hp
  iapply (wp_zeroQuarter d i p 1 (0 + 1) rfl t f _ _) $$ Hp
  iintro Hp
  iapply (wp_zeroQuarter d i p 2 (0 + 1 + 1) rfl t f _ _) $$ Hp
  iintro Hp
  iapply (wp_zeroQuarter d i p 3 (0 + 1 + 1 + 1) rfl t f _ _) $$ Hp
  iintro Hp
  unfold run
  rw [wp_ret]
  imodintro
  iapply (Entails.of_eq (congrArg (Part d i (planeSet p)) (zeroed_row f t))); iexact Hp

/-- The kernel's test of a word. -/
theorem test_iff (w : BitVec 32) :
    Scalar.cmpi .ne (Scalar.extui (Scalar.cmpi .ne w 0#32) : BitVec 32) 0#32 = 1#1 ↔ w ≠ 0#32 := by
  show BitVec.ofBool ((BitVec.zeroExtend 32 (BitVec.ofBool (w != 0#32))) != 0#32) = 1#1 ↔ _
  by_cases h : w = 0#32
  · subst h; simp
  · have : (w != 0#32) = true := by simpa using h
    rw [this]
    exact ⟨fun _ => h, fun _ => by decide⟩

theorem wp_dropPlane (g : Fin 24) (j : Fin 4) (k : PUnit → TileProg F i) (Q : PUnit → sProp 𝕄) :
    Part d i (planeSet (planeOf g j)) (inF Y MX i g)
      ⊢ iprop((Part d i (planeSet (planeOf g j)) (outF Y MX DX i g) -∗ run d i (k ⟨⟩) Q)
        -∗ run d i (dropPlane i g (dropRow DX i g) j >>= k) Q) := by
  unfold dropPlane
  by_cases hw : flag j (dropRow DX i g) = 0#32
  · rw [if_neg (fun h => (test_iff _).1 h hw)]
    iintro Hp HK
    iapply HK
    iapply (Entails.of_eq (pointsTo_congr fun x hx =>
      ((outF_def Y MX DX i g x).trans (if_pos ((flag_dropRow DX i g j x hx).symm.trans hw))).symm))
    iexact Hp
  · rw [if_pos ((test_iff _).2 hw)]
    unfold run
    rw [wp_bind]
    iintro Hp HK
    iapply (Scf.wp_for_bind frame (wpE (defs₀ (F := F)) 𝒱₀ (thr d i) none) Set.univ _ _ _ k0_t1_ok ⟨⟩
      (fun t _ => zeroRow i (planeOf g j) t)
      (fun t _ => Part d i (planeSet (planeOf g j)) (zeroed (inF Y MX i g) t 0))
      (fun t _ => wp_zeroRow d i (planeOf g j) t (inF Y MX i g))) $$ [Hp]
    · iapply (Entails.of_eq (congrArg (Part d i (planeSet (planeOf g j))) (zeroed_start (inF Y MX i g)).symm)); iexact Hp
    iintro %acc Hp
    rw [wp_ret]
    imodintro
    iapply HK
    iapply (Entails.of_eq (pointsTo_congr fun x hx =>
      (zeroed_end (inF Y MX i g) x).trans ((outF_def Y MX DX i g x).trans
        (if_neg (fun h => hw ((flag_dropRow DX i g j x hx).trans h)))).symm))
    iexact Hp

/-! ## The copy out -/

/-- A chunk of the result's array. -/
abbrev Chunk (g : Fin 24) (f : S8x384x64x64.Idx → F .f32) : sProp 𝕄 :=
  outLoc d ↦[outSet i g]{fullShare} (f : Buf (Elt F) (outLoc d))

/-- What a copy out credits. -/
abbrev outN : ℕ := (outM.slice (Rect.unit (s := S8x384x64x64) ![0, 0, 0, 0] S1x4x64x64.size (by decide)) (fun _ => rfl)).view.dmaCredit
theorem amount_out (g : Fin 24) : (outChunk i g).view.dmaCredit = outN := rfl
theorem outN_pos : 0 < outN := by decide

/-- Chunk `g` on its way out. -/
abbrev Sending (g : Fin 24) : sProp 𝕄 :=
  Flight (EC (F := F)) (thr d i) (.dma (outSem (slotOf g))) (default : HIx 1) outN
    iprop(Chunk d i g (result Y MX DX) ∗ Part d i (slotSet (slotOf g)) (outF Y MX DX i g))

/-- A copy out lands the result. -/
theorem sent (g : Fin 24) (f : S8x384x64x64.Idx → F .f32) (z : S8x384x64x64.Idx) (hz : z ∈ outSet i g) :
    (outChunk i g).view.write (Elt F) f ((slot (slotOf g)).view.read (Elt F) (outF Y MX DX i g)) Finset.univ z
      = result Y MX DX z := by
  rw [← out_set] at hz
  obtain ⟨y, rfl⟩ := View.exists_emb_of_mem_set _ hz
  refine (View.write_emb_of_mem _ _ (Finset.mem_univ y)).trans ?_
  exact congrArg (result Y MX DX) (place_slot i g y)

theorem sent_delivers (g : Fin 24) (f : S8x384x64x64.Idx → F .f32) :
    iprop((outLoc d ↦[outSet i g]{fullShare}
        ((outChunk i g).view.write (Elt F) f ((slot (slotOf g)).view.read (Elt F) (outF Y MX DX i g)) Finset.univ : Buf (Elt F) (outLoc d)))
      ∗ (bLoc d i ↦[(slot (slotOf g)).view.set]{fullShare} (outF Y MX DX i g : Buf (Elt F) (bLoc d i))))
    ⊢ (iprop(Chunk d i g (result Y MX DX) ∗ Part d i (slotSet (slotOf g)) (outF Y MX DX i g)) : sProp 𝕄) := by
  iintro ⟨Hc, Hp⟩
  isplitl [Hc]
  · iapply (Entails.of_eq (pointsTo_congr fun z hz => sent i Y MX DX g f z hz)); iexact Hc
  · rw [slot_set]; iexact Hp

/-- A chunk finished: its copy out is on its way. -/
theorem wp_finishChunk (g : Fin 24) (k : TileProg F i) (Q : PUnit → sProp 𝕄) (f : S8x384x64x64.Idx → F .f32) :
    iprop(Part d i (slotSet (slotOf g)) (inF Y MX i g) ∗ OutRest (F := F) d i (slotOf g) ∗ Tables d i MX DX ∗ Chunk d i g f)
      ⊢ iprop((Sending d i Y MX DX g ∗ Tables d i MX DX -∗ run d i k Q) -∗ run d i (finishChunk i g k) Q) := by
  unfold finishChunk
  iintro ⟨Hp, Hs, HT, Hc⟩ HK
  ihave H := (Entails.of_eq ((slot_part d i g (inF Y MX i g)).trans (four _))) $$ Hp
  icases H with ⟨H0, H1, H2, H3⟩
  iapply (wp_readFlags d i MX DX g _ Q) $$ HT
  iintro HT
  iapply (wp_dropPlane d i Y MX DX g 0 _ Q) $$ H0
  iintro H0
  iapply (wp_dropPlane d i Y MX DX g 1 _ Q) $$ H1
  iintro H1
  iapply (wp_dropPlane d i Y MX DX g 2 _ Q) $$ H2
  iintro H2
  iapply (wp_dropPlane d i Y MX DX g 3 _ Q) $$ H3
  iintro H3
  ihave Hp := (Entails.of_eq ((slot_part d i g (outF Y MX DX i g)).trans (four _)).symm) $$ [H0 H1 H2 H3]
  · isplitl [H0]; · iexact H0
    isplitl [H1]; · iexact H1
    isplitl [H2]; · iexact H2
    iexact H3
  unfold run
  iapply (wp_dmaLocal (EC (F := F)) 𝒱₀ (thr d i) none (src := slot (slotOf g)) (dst := outChunk i g)
    (sm := .dma (outSem (slotOf g))) (via := ReadAs.same) (q := fullShare) (fs := outF Y MX DX i g) (fd := f) (Sd := outSet i g)
    (default : HIx 1) outN (amount_out i g) outN_pos (out_set i g).le) $$ [Hp Hc Hs]
  · isplitl [Hp]; · rw [slot_set]; iexact Hp
    isplitl [Hc]; · iexact Hc
    iexact Hs
  iintro HF
  iapply HK
  isplitl [HF]
  · iapply (Flight_mono (EC (F := F)) (thr d i) (sent_delivers d i Y MX DX g f)); iexact HF
  iexact HT

/-- A copy out waited for: the chunk of the result is written, its slot free again. -/
theorem wp_waitOut (g : Fin 24) (k : TileProg F i) (Q : PUnit → sProp 𝕄)
    (O : CellTallies nD τ sig (HIx 1)) (W : Waits sig (HIx 1)) :
    iprop(Sending d i Y MX DX g ∗ Owing d i O W)
      ⊢ iprop((Chunk d i g (result Y MX DX) ∗ (∃ f, Part d i (slotSet (slotOf g)) f) ∗ OutRest (F := F) d i (slotOf g) ∗ Owing d i O W
          -∗ run d i k Q)
        -∗ run d i (waitOut i g k) Q) := by
  unfold waitOut run
  iintro ⟨HF, #HM, %W', %hW, HO⟩ HK
  iapply (wp_waitLocalO (EC (F := F)) 𝒱₀ (thr d i) none (srcw := slot (slotOf g)) (dstw := outChunk i g)
    (hsrc := View.wordExact_bits rfl) (hdst := (View.wordExact_bits rfl).reshape _ _) (default : HIx 1) (N := outN)
    (amount_out i g)) $$ [HF HO]
  · isplitl [HF]; · iexact HF
    isplitl [HO]; · iexact HO
    iapply (MayWaits.elim (.dma (outSem (slotOf g)))); iexact HM
  iintro ⟨⟨Hc, Hp⟩, HS, HO⟩
  iapply HK
  isplitl [Hc]; · iexact Hc
  isplitl [Hp]; · iexists _; iexact Hp
  isplitl [HS]; · iexact HS
  isplitr; · iexact HM
  iexists (insert (SemLoc.dma (outSem (slotOf g)), (default : HIx 1)) W')
  isplitr; · ipureintro; exact owing_insert hW (.dma (outSem (slotOf g)))
  iexact HO

end Cert.Proof.K
-- ==== Proof.K.Tile.lean ====
/-
  A tile's whole program: the tables fetched, the ring filled, twenty-one trips of its steady state, and the ring
  drained.  Between trips one chunk is on its way out and the next two are on their way in.
-/
module

public import proofs.«01_k».proof.Proof.K.Finish

@[expose] public section

noncomputable section

namespace Cert.Proof.K

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (d : Dev nD) (i : grid0.Coords)
variable (Y : S8x384x64x64.Idx → F .f32) (MX : S1536.Idx → BitVec 32) (DX : S384.Idx → BitVec 32)
variable (O : CellTallies nD τ sig (HIx 1)) (W : Waits sig (HIx 1))

/-! ## The tables -/

/-- The semaphores of the two fetches at rest. -/
abbrev FetchRest : sProp 𝕄 :=
  iprop(semVal (thr d i, .dma cc0_scoped0.sem) 0 ∗ semVal (thr d i, .dma cc0_scoped1.sem) 0)

abbrev mixN : ℕ := mixV.view.dmaCredit
theorem mixN_pos : 0 < mixN := by decide
abbrev dropN : ℕ := dropV.view.dmaCredit
theorem dropN_pos : 0 < dropN := by decide

theorem fetched_mix (f : S1536.Idx → BitVec 32) :
    mixV.view.write (Elt F) f (mixM.view.read (Elt F) (MX : S1536.Idx → Elt F .i32)) Finset.univ = MX :=
  View.write_whole_univ _ _ _
theorem fetched_drop (f : S384.Idx → BitVec 32) :
    dropV.view.write (Elt F) f (dropM.view.read (Elt F) (DX : S384.Idx → Elt F .i32)) Finset.univ = DX :=
  View.write_whole_univ _ _ _

theorem wp_fetchTables (k : TileProg F i) (Q : PUnit → sProp 𝕄) (q q' : PosShare TreeShare)
    (fm : S1536.Idx → BitVec 32) (fd : S384.Idx → BitVec 32) :
    iprop((mixLoc d ↦{q} (MX : Buf (Elt F) (mixLoc d))) ∗ (dropLoc d ↦{q'} (DX : Buf (Elt F) (dropLoc d)))
        ∗ Tables d i fm fd ∗ FetchRest (F := F) d i ∗ Owing d i O W)
      ⊢ iprop((Tables d i MX DX ∗ FetchRest (F := F) d i ∗ Owing d i O W -∗ run d i k Q) -∗ run d i (fetchTables i k) Q) := by
  unfold fetchTables run
  iintro ⟨Hm, Hd, ⟨Hmv, Hdv⟩, ⟨Hs, Ht⟩, #HM, %W', %hW, HO⟩ HK
  iapply (wp_dmaLocal (EC (F := F)) 𝒱₀ (thr d i) none (src := mixM) (dst := mixV) (sm := .dma cc0_scoped0.sem)
    (via := ReadAs.same) (q := q) (fs := MX) (fd := fm) (Sd := Finset.univ)
    (default : HIx 1) mixN rfl mixN_pos (Finset.subset_univ _)) $$ [Hm Hmv Hs]
  · isplitl [Hm]
    · rw [View.set_whole]; iexact Hm
    isplitl [Hmv]; · iexact Hmv
    iexact Hs
  iintro HF
  iapply (wp_waitLocalO (EC (F := F)) 𝒱₀ (thr d i) none (srcw := mixM) (dstw := mixV)
    (hsrc := (Memref.isWhole_whole _).wordExact) (hdst := (Memref.isWhole_whole _).wordExact) (default : HIx 1) (N := mixN) rfl) $$ [HF HO]
  · isplitl [HF]; · iexact HF
    isplitl [HO]; · iexact HO
    iapply (MayWaits.elim (.dma cc0_scoped0.sem)); iexact HM
  iintro ⟨⟨Hmv, -⟩, Hs, HO⟩
  iapply (wp_dmaLocal (EC (F := F)) 𝒱₀ (thr d i) none (src := dropM) (dst := dropV) (sm := .dma cc0_scoped1.sem)
    (via := ReadAs.same) (q := q') (fs := DX) (fd := fd) (Sd := Finset.univ)
    (default : HIx 1) dropN rfl dropN_pos (Finset.subset_univ _)) $$ [Hd Hdv Ht]
  · isplitl [Hd]
    · rw [View.set_whole]; iexact Hd
    isplitl [Hdv]; · iexact Hdv
    iexact Ht
  iintro HF
  iapply (wp_waitLocalO (EC (F := F)) 𝒱₀ (thr d i) none (srcw := dropM) (dstw := dropV)
    (hsrc := (Memref.isWhole_whole _).wordExact) (hdst := (Memref.isWhole_whole _).wordExact) (default : HIx 1) (N := dropN) rfl) $$ [HF HO]
  · isplitl [HF]; · iexact HF
    isplitl [HO]; · iexact HO
    iapply (MayWaits.elim (.dma cc0_scoped1.sem)); iexact HM
  iintro ⟨⟨Hdv, -⟩, Ht, HO⟩
  iapply HK
  isplitl [Hmv Hdv]
  · isplitl [Hmv]
    · iapply (Entails.of_eq (congrArg (fun f => (mLoc d i ↦{fullShare} (f : Buf (Elt F) (mLoc d i)) : sProp 𝕄)) (fetched_mix (F := F) MX fm)))
      iexact Hmv
    · iapply (Entails.of_eq (congrArg (fun f => (dLoc d i ↦{fullShare} (f : Buf (Elt F) (dLoc d i)) : sProp 𝕄)) (fetched_drop (F := F) DX fd)))
      iexact Hdv
  isplitl [Hs Ht]
  · isplitl [Hs] <;> iassumption
  isplitr; · iexact HM
  iexists (insert (SemLoc.dma cc0_scoped1.sem, (default : HIx 1)) (insert (SemLoc.dma cc0_scoped0.sem, (default : HIx 1)) W'))
  isplitr; · ipureintro; exact owing_insert (owing_insert hW (.dma cc0_scoped0.sem)) (.dma cc0_scoped1.sem)
  iexact HO

/-! ## The result's chunks -/

/-- The chunks before the `n`-th, written, -/
abbrev Done (n : ℕ) : sProp 𝕄 := bigSep (Finset.univ.filter fun g : Fin 24 => g.val < n) fun g => Chunk d i g (result Y MX DX)
/-- and those from the `n`-th on, as they were. -/
abbrev Todo (f : S8x384x64x64.Idx → F .f32) (n : ℕ) : sProp 𝕄 :=
  bigSep (Finset.univ.filter fun g : Fin 24 => n ≤ g.val) fun g => Chunk d i g f

theorem done_step (g : Fin 24) : iprop(Chunk d i g (result Y MX DX) ∗ Done d i Y MX DX g) ⊢ Done d i Y MX DX (g + 1) := by
  have e : (Finset.univ.filter fun c : Fin 24 => c.val < g.val + 1) = insert g (Finset.univ.filter fun c : Fin 24 => c.val < g.val) := by
    ext c; simp only [Finset.mem_filter, Finset.mem_univ, true_and, Finset.mem_insert, Fin.ext_iff]; omega
  unfold Done
  rw [e, bigSep_insert (by simp)]
  exact .rfl
theorem todo_step (f : S8x384x64x64.Idx → F .f32) (g : Fin 24) : Todo d i f g ⊢ iprop(Chunk d i g f ∗ Todo d i f (g + 1)) := by
  have e : (Finset.univ.filter fun c : Fin 24 => g.val ≤ c.val) = insert g (Finset.univ.filter fun c : Fin 24 => g.val + 1 ≤ c.val) := by
    ext c; simp only [Finset.mem_filter, Finset.mem_univ, true_and, Finset.mem_insert, Fin.ext_iff]; omega
  unfold Todo
  rw [e, bigSep_insert (by simp)]
  exact .rfl
theorem done_all : Done d i Y MX DX 24 = bigSep Finset.univ fun g => Chunk d i g (result Y MX DX) := by
  unfold Done; rw [Finset.filter_true_of_mem fun g _ => g.isLt]
theorem todo_all (f : S8x384x64x64.Idx → F .f32) : Todo d i f 0 = bigSep Finset.univ fun g => Chunk d i g f := by
  unfold Todo; rw [Finset.filter_true_of_mem fun g _ => Nat.zero_le _]
theorem done_none : (BI.emp : sProp 𝕄) ⊢ Done d i Y MX DX 0 := by
  unfold Done
  rw [Finset.filter_false_of_mem fun g _ => Nat.not_lt_zero _]
  exact Entails.of_eq bigSep_empty.symm

/-! ## The ring -/

/-- The ring between trips: chunk `n` on its way out, the next two on their way in. -/
def Ring (f : S8x384x64x64.Idx → F .f32) (n : ℕ) (h : n < 22) : sProp 𝕄 :=
  iprop((Sending d i Y MX DX ⟨n, by omega⟩ ∗ InRest (F := F) d i (slotOf n))
    ∗ (Copies d i Y MX ⟨n + 1, by omega⟩ 4 0 ∗ OutRest (F := F) d i (slotOf (n + 1)))
    ∗ (Copies d i Y MX ⟨n + 2, by omega⟩ 4 0 ∗ OutRest (F := F) d i (slotOf (n + 2)))
    ∗ Done d i Y MX DX n ∗ Todo d i f (n + 1) ∗ Tables d i MX DX ∗ Input d Y ∗ Owing d i O W)

theorem slotOf_add (n : ℕ) : slotOf (n + 3) = slotOf n := Fin.ext (Nat.add_mod_right n 3)

/-- A chunk waited for and sent out, in terms of what is held for it. -/
theorem wp_pass (f : S8x384x64x64.Idx → F .f32) (g : Fin 24) (k : TileProg F i) (Q : PUnit → sProp 𝕄) :
    iprop((Copies d i Y MX g 4 0 ∗ OutRest (F := F) d i (slotOf g)) ∗ Todo d i f g ∗ Tables d i MX DX ∗ Owing d i O W)
      ⊢ iprop(((Sending d i Y MX DX g ∗ InRest (F := F) d i (slotOf g)) ∗ Todo d i f (g + 1) ∗ Tables d i MX DX ∗ Owing d i O W
          -∗ run d i k Q)
        -∗ run d i (waitChunk i g (finishChunk i g k)) Q) := by
  iintro ⟨⟨HC, HR⟩, HD, HT, HO⟩ HK
  iapply (wp_waitChunk d i Y MX g _ Q O W) $$ [HC HO]
  · isplitl [HC] <;> iassumption
  iintro ⟨HP, HI, HO⟩
  ihave HD := (todo_step d i f g) $$ HD
  icases HD with ⟨Hc, HD⟩
  iapply (wp_finishChunk d i Y MX DX g _ Q f) $$ [HP HR HT Hc]
  · isplitl [HP]; · iexact HP
    isplitl [HR]; · iexact HR
    isplitl [HT] <;> iassumption
  iintro ⟨HS, HT⟩
  iapply HK
  isplitl [HS HI]; · isplitl [HS] <;> iassumption
  isplitl [HD]; · iexact HD
  isplitl [HT] <;> iassumption

theorem wp_trip (f : S8x384x64x64.Idx → F .f32) (n : ℕ) (h : n < 21) (k : TileProg F i) (Q : PUnit → sProp 𝕄) :
    Ring d i Y MX DX O W f n (by omega)
      ⊢ iprop((Ring d i Y MX DX O W f (n + 1) (by omega) -∗ run d i k Q) -∗ run d i (trip i ⟨n, h⟩ k) Q) := by
  have h0 : n < 24 := by omega
  have h1 : n + 1 < 24 := by omega
  unfold Ring trip
  iintro ⟨⟨HS, HI⟩, HA, ⟨HB, HBr⟩, HDn, HD, HT, HY, HO⟩ HK
  iapply (wp_waitOut d i Y MX DX ⟨n, h0⟩ _ Q O W) $$ [HS HO]
  · isplitl [HS] <;> iassumption
  iintro ⟨Hc, HP, HR, HO⟩
  ihave HDn := (done_step d i Y MX DX ⟨n, by omega⟩) $$ [Hc HDn]
  · isplitl [Hc] <;> iassumption
  iapply (wp_startChunk d i Y MX DX ⟨n + 3, by omega⟩ _ Q) $$ [HP HI HT HY]
  · isplitl [HP]
    · iapply (Entails.of_eq (congrArg (fun b => (iprop(∃ f, Part d i (slotSet b) f) : sProp 𝕄)) (slotOf_add n).symm)); iexact HP
    isplitl [HI]
    · iapply (Entails.of_eq (congrArg (fun b => (InRest (F := F) d i b : sProp 𝕄)) (slotOf_add n).symm)); iexact HI
    isplitl [HT] <;> iassumption
  iintro ⟨HC, HT, HY⟩
  iapply (wp_pass d i Y MX DX O W f ⟨n + 1, h1⟩ _ Q) $$ [HA HD HT HO]
  · isplitl [HA]; · iexact HA
    isplitl [HD]; · iexact HD
    isplitl [HT] <;> iassumption
  iintro ⟨HS, HD, HT, HO⟩
  iapply HK
  isplitl [HS]; · iexact HS
  isplitl [HB HBr]
  · isplitl [HB] <;> iassumption
  isplitl [HC HR]
  · isplitl [HC]; · iexact HC
    iapply (Entails.of_eq (congrArg (fun b => (OutRest (F := F) d i b : sProp 𝕄)) (slotOf_add n).symm)); iexact HR
  isplitl [HDn]; · iexact HDn
  isplitl [HD]; · iexact HD
  isplitl [HT]; · iexact HT
  isplitl [HY] <;> iassumption

/-- The trips from the `n`-th on. -/
theorem wp_trips (f : S8x384x64x64.Idx → F .f32) (k : TileProg F i) (Q : PUnit → sProp 𝕄) : ∀ (m n : ℕ) (h : n + m = 21),
    Ring d i Y MX DX O W f n (by omega)
      ⊢ iprop((Ring d i Y MX DX O W f 21 (by omega) -∗ run d i k Q) -∗ run d i (((List.finRange 21).drop n).foldr (trip i) k) Q)
  | 0, n, h => by
    obtain rfl : n = 21 := by omega
    iintro H HK
    iapply HK; iexact H
  | m + 1, n, h => by
    have hn : n < 21 := by omega
    rw [List.drop_eq_getElem_cons (by simpa using hn), List.getElem_finRange, Fin.cast_mk, List.foldr_cons]
    iintro H HK
    iapply (wp_trip d i Y MX DX O W f n hn _ Q) $$ H
    iintro H
    iapply (wp_trips f k Q m (n + 1) (by omega)) $$ H
    iexact HK

/-! ## The buffer's slots -/

theorem slot_all : (Finset.univ : Finset (Fin 3)).biUnion slotSet = Finset.univ := by
  refine Finset.eq_univ_iff_forall.2 fun x => Finset.mem_biUnion.2 ?_
  have h : (x 0).val < 12 := (x 0).isLt
  exact ⟨⟨(x 0).val / 4, by omega⟩, Finset.mem_univ _, mem_slotSet.2 rfl⟩
theorem slots_disjoint : ∀ b ∈ (Finset.univ : Finset (Fin 3)), ∀ c ∈ (Finset.univ : Finset (Fin 3)), b ≠ c →
    Disjoint (slotSet b) (slotSet c) := fun b _ c _ hbc =>
  Finset.disjoint_left.mpr fun x h1 h2 => hbc (Fin.ext ((mem_slotSet.1 h1).symm.trans (mem_slotSet.1 h2)))
theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide),
    SparseCore.bigSep_insert' (by decide), bigSep_singleton]
/-- The buffer is its three slots. -/
theorem buf_slots (f : S12x64x64.Idx → F .f32) :
    (bLoc d i ↦{fullShare} (f : Buf (Elt F) (bLoc d i)) : sProp 𝕄)
      = iprop(Part d i (slotSet 0) f ∗ Part d i (slotSet 1) f ∗ Part d i (slotSet 2) f) := by
  rw [← three (fun b => Part d i (slotSet b) f)]
  refine Eq.trans ?_ (pointsTo_biUnion Finset.univ (ℓ := bLoc d i) slotSet slots_disjoint)
  rw [slot_all]
/-- Three slots, whatever they hold, are the buffer. -/
theorem slots_buf : iprop((∃ f, Part d i (slotSet 0) f) ∗ (∃ f, Part d i (slotSet 1) f) ∗ (∃ f, Part d i (slotSet 2) f))
    ⊢ (iprop(∃ f : Buf (Elt F) (bLoc d i), bLoc d i ↦{fullShare} f) : sProp 𝕄) := by
  iintro ⟨⟨%f, Hf⟩, ⟨%g, Hg⟩, ⟨%h, Hh⟩⟩
  let u : S12x64x64.Idx → F .f32 := fun x => if (x 0).val / 4 = 0 then f x else if (x 0).val / 4 = 1 then g x else h x
  iexists u
  rw [buf_slots d i u]
  isplitl [Hf]
  · iapply (Entails.of_eq (pointsTo_congr fun x hx => (if_pos (mem_slotSet.1 hx) : u x = f x).symm)); iexact Hf
  isplitl [Hg]
  · iapply (Entails.of_eq (pointsTo_congr fun x hx => ((if_neg (by rw [mem_slotSet.1 hx]; decide)).trans
      (if_pos (mem_slotSet.1 hx)) : u x = g x).symm)); iexact Hg
  · iapply (Entails.of_eq (pointsTo_congr fun x hx => ((if_neg (by rw [mem_slotSet.1 hx]; decide)).trans
      (if_neg (by rw [mem_slotSet.1 hx]; decide)) : u x = h x).symm)); iexact Hh

/-! ## The tile -/

/-- The ring's semaphores at rest. -/
abbrev RingRest : sProp 𝕄 :=
  iprop((InRest (F := F) d i 0 ∗ InRest (F := F) d i 1 ∗ InRest (F := F) d i 2)
    ∗ OutRest (F := F) d i 0 ∗ OutRest (F := F) d i 1 ∗ OutRest (F := F) d i 2)

theorem wp_body (Q : PUnit → sProp 𝕄) (q q' : PosShare TreeShare) (f : S8x384x64x64.Idx → F .f32)
    (fm : S1536.Idx → BitVec 32) (fd : S384.Idx → BitVec 32) (fb : S12x64x64.Idx → F .f32) :
    iprop((mixLoc d ↦{q} (MX : Buf (Elt F) (mixLoc d))) ∗ (dropLoc d ↦{q'} (DX : Buf (Elt F) (dropLoc d))) ∗ Input d Y
        ∗ (bigSep Finset.univ fun g => Chunk d i g f)
        ∗ Tables d i fm fd ∗ (bLoc d i ↦{fullShare} (fb : Buf (Elt F) (bLoc d i)))
        ∗ FetchRest (F := F) d i ∗ RingRest (F := F) d i ∗ Owing d i O W)
      ⊢ iprop(((bigSep Finset.univ fun g => Chunk d i g (result Y MX DX))
            ∗ Tables d i MX DX ∗ (∃ f : Buf (Elt F) (bLoc d i), bLoc d i ↦{fullShare} f)
            ∗ FetchRest (F := F) d i ∗ RingRest (F := F) d i ∗ Owing d i O W -∗ Q ⟨⟩)
        -∗ run d i (body i) Q) := by
  unfold body
  rw [buf_slots d i fb, ← todo_all d i f]
  iintro ⟨Hm, Hd, HY, HD, HT, ⟨P0, P1, P2⟩, HF, ⟨⟨I0, I1, I2⟩, R0, R1, R2⟩, HO⟩ HK
  iapply (wp_fetchTables d i MX DX O W _ Q q q' fm fd) $$ [Hm Hd HT HF HO]
  · isplitl [Hm]; · iexact Hm
    isplitl [Hd]; · iexact Hd
    isplitl [HT]; · iexact HT
    isplitl [HF] <;> iassumption
  iintro ⟨HT, HF, HO⟩
  iapply (wp_startChunk d i Y MX DX 0 _ Q) $$ [P0 I0 HT HY]
  · isplitl [P0]; · iexists fb; iexact P0
    isplitl [I0]; · iexact I0
    isplitl [HT] <;> iassumption
  iintro ⟨C0, HT, HY⟩
  iapply (wp_startChunk d i Y MX DX 1 _ Q) $$ [P1 I1 HT HY]
  · isplitl [P1]; · iexists fb; iexact P1
    isplitl [I1]; · iexact I1
    isplitl [HT] <;> iassumption
  iintro ⟨C1, HT, HY⟩
  iapply (wp_startChunk d i Y MX DX 2 _ Q) $$ [P2 I2 HT HY]
  · isplitl [P2]; · iexists fb; iexact P2
    isplitl [I2]; · iexact I2
    isplitl [HT] <;> iassumption
  iintro ⟨C2, HT, HY⟩
  iapply (wp_pass d i Y MX DX O W f 0 _ Q) $$ [C0 R0 HD HT HO]
  · isplitl [C0 R0]
    · isplitl [C0]; · iexact C0
      iexact R0
    isplitl [HD]; · iexact HD
    isplitl [HT] <;> iassumption
  iintro ⟨HS, HD, HT, HO⟩
  ihave HDn := (done_none d i Y MX DX) $$ []
  · iempintro
  iapply (wp_trips d i Y MX DX O W f _ Q 21 0 rfl) $$ [HS C1 R1 C2 R2 HDn HD HT HY HO]
  · unfold Ring
    isplitl [HS]; · iexact HS
    isplitl [C1 R1]
    · isplitl [C1]; · iexact C1
      iexact R1
    isplitl [C2 R2]
    · isplitl [C2]; · iexact C2
      iexact R2
    isplitl [HDn]; · iexact HDn
    isplitl [HD]; · iexact HD
    isplitl [HT]; · iexact HT
    isplitl [HY] <;> iassumption
  unfold Ring
  iintro ⟨⟨S0, I0⟩, HA, HB, HDn, HD, HT, HY, HO⟩
  iapply (wp_pass d i Y MX DX O W f 22 _ Q) $$ [HA HD HT HO]
  · isplitl [HA]; · iexact HA
    isplitl [HD]; · iexact HD
    isplitl [HT] <;> iassumption
  iintro ⟨⟨S1, I1⟩, HD, HT, HO⟩
  iapply (wp_pass d i Y MX DX O W f 23 _ Q) $$ [HB HD HT HO]
  · isplitl [HB]; · iexact HB
    isplitl [HD]; · iexact HD
    isplitl [HT] <;> iassumption
  iintro ⟨⟨S2, I2⟩, -, HT, HO⟩
  iapply (wp_waitOut d i Y MX DX 21 _ Q O W) $$ [S0 HO]
  · isplitl [S0]; · iexact S0
    iexact HO
  iintro ⟨Hc, P0, R0, HO⟩
  ihave HDn := (done_step d i Y MX DX 21) $$ [Hc HDn]
  · isplitl [Hc]; · iexact Hc
    iexact HDn
  iapply (wp_waitOut d i Y MX DX 22 _ Q O W) $$ [S1 HO]
  · isplitl [S1]; · iexact S1
    iexact HO
  iintro ⟨Hc, P1, R1, HO⟩
  ihave HDn := (done_step d i Y MX DX 22) $$ [Hc HDn]
  · isplitl [Hc]; · iexact Hc
    iexact HDn
  iapply (wp_waitOut d i Y MX DX 23 _ Q O W) $$ [S2 HO]
  · isplitl [S2]; · iexact S2
    iexact HO
  iintro ⟨Hc, P2, R2, HO⟩
  ihave HDn := (done_step d i Y MX DX 23) $$ [Hc HDn]
  · isplitl [Hc]; · iexact Hc
    iexact HDn
  unfold run
  rw [wp_ret]
  imodintro
  iapply HK
  isplitl [HDn]
  · iapply (Entails.of_eq (done_all d i Y MX DX)); iexact HDn
  isplitl [HT]; · iexact HT
  isplitl [P0 P1 P2]
  · iapply (slots_buf d i)
    isplitl [P0]; · iexact P0
    isplitl [P1]; · iexact P1
    iexact P2
  isplitl [HF]; · iexact HF
  isplitl [I0 I1 I2 R0 R1 R2]
  · isplitl [I0 I1 I2]
    · isplitl [I0]; · iexact I0
      isplitl [I1]; · iexact I1
      iexact I2
    isplitl [R0]; · iexact R0
    isplitl [R1]; · iexact R1
    iexact R2
  iexact HO

end Cert.Proof.K
-- ==== Proof.K.Pieces.lean ====
/-
  What each tile takes of the arrays and hands back: a share of the input and of the two tables, and its twenty-four
  chunks of the result; and the whole arrays as the tiles' pieces together.
-/
module

public import proofs.«01_k».proof.Proof.K.Tile
public import Idealize.ShloMosaic.Lib.ShareLeaves

@[expose] public section

noncomputable section

namespace Cert.Proof.K

open Cert.KernelIdeal Cert.KernelIdeal.Gen
open Idealize.ShloMosaic Idealize.ShloMosaic.ShareLeaves
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

/-! ## The tiles -/

/-- The tile on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

abbrev tile (c : Fin 2) (s : Fin 16) : grid0.Coords := coordsV c s

/-! ## The result by chunks -/

/-- The places of the result a tile writes, -/
def tileSet (i : grid0.Coords) : Finset S8x384x64x64.Idx := Finset.univ.biUnion (outSet i)
/-- and those a core's tiles write. -/
def coreSet (c : Fin 2) : Finset S8x384x64x64.Idx := Finset.univ.biUnion fun s : Fin 16 => tileSet (tile c s)

theorem mem_tileSet {i : grid0.Coords} {z : S8x384x64x64.Idx} :
    z ∈ tileSet i ↔ 4 * (z 0).val + (z 1).val / 96 = 2 * (i 1).val + (i 0).val := by
  unfold tileSet
  rw [Finset.mem_biUnion]
  have h1 : (z 1).val < 384 := (z 1).isLt
  constructor
  · rintro ⟨g, -, h⟩
    have h := mem_outSet.1 h
    have := g.isLt
    omega
  · intro h
    refine ⟨⟨(z 1).val / 4 % 24, Nat.mod_lt _ (by decide)⟩, Finset.mem_univ _, mem_outSet.2 ⟨?_, ?_⟩⟩
    · omega
    · show _ = 24 * _ + (z 1).val / 4 % 24
      omega
theorem mem_coreSet {c : Fin 2} {z : S8x384x64x64.Idx} : z ∈ coreSet c ↔ (z 1).val / 96 % 2 = c.val := by
  unfold coreSet
  rw [Finset.mem_biUnion]
  have h0 : (z 0).val < 8 := (z 0).isLt
  have h1 : (z 1).val < 384 := (z 1).isLt
  have hc := c.isLt
  constructor
  · rintro ⟨s, -, h⟩
    have h : 4 * (z 0).val + (z 1).val / 96 = 2 * s.val + c.val := mem_tileSet.1 h
    omega
  · intro h
    refine ⟨⟨(4 * (z 0).val + (z 1).val / 96) / 2, by omega⟩, Finset.mem_univ _, mem_tileSet.2 ?_⟩
    show _ = 2 * ((4 * (z 0).val + (z 1).val / 96) / 2) + c.val
    omega

theorem chunks_disjoint (i : grid0.Coords) : ∀ g ∈ (Finset.univ : Finset (Fin 24)), ∀ g' ∈ (Finset.univ : Finset (Fin 24)),
    g ≠ g' → Disjoint (outSet i g) (outSet i g') := by
  intro g _ g' _ hg
  refine Finset.disjoint_left.mpr fun z h h' => hg (Fin.ext ?_)
  have h := (mem_outSet.1 h).2
  have h' := (mem_outSet.1 h').2
  omega
theorem tiles_disjoint (c : Fin 2) : ∀ s ∈ (Finset.univ : Finset (Fin 16)), ∀ s' ∈ (Finset.univ : Finset (Fin 16)),
    s ≠ s' → Disjoint (tileSet (tile c s)) (tileSet (tile c s')) := by
  intro s _ s' _ hs
  refine Finset.disjoint_left.mpr fun z h h' => hs (Fin.ext ?_)
  have h : 4 * (z 0).val + (z 1).val / 96 = 2 * s.val + c.val := mem_tileSet.1 h
  have h' : 4 * (z 0).val + (z 1).val / 96 = 2 * s'.val + c.val := mem_tileSet.1 h'
  omega
theorem cores_disjoint : ∀ c ∈ (Finset.univ : Finset (Fin 2)), ∀ c' ∈ (Finset.univ : Finset (Fin 2)),
    c ≠ c' → Disjoint (coreSet c) (coreSet c') := by
  intro c _ c' _ hc
  refine Finset.disjoint_left.mpr fun z h h' => hc (Fin.ext ?_)
  have h := mem_coreSet.1 h
  have h' := mem_coreSet.1 h'
  omega
theorem cores_cover : (Finset.univ : Finset (Fin 2)).biUnion coreSet = Finset.univ :=
  Finset.eq_univ_of_forall fun z => Finset.mem_biUnion.2
    ⟨⟨(z 1).val / 96 % 2, Nat.mod_lt _ (by decide)⟩, Finset.mem_univ _, mem_coreSet.2 rfl⟩

/-- The result is its chunks, core by core and tile by tile. -/
theorem out_pieces (d : Dev nD) (f : S8x384x64x64.Idx → F .f32) :
    (outLoc d ↦{fullShare} (f : Buf (Elt F) (outLoc d)) : sProp 𝕄)
      = bigSep Finset.univ fun c : Fin 2 => bigSep Finset.univ fun s : Fin 16 => bigSep Finset.univ fun g : Fin 24 =>
          Chunk d (tile c s) g f := by
  have ht (i : grid0.Coords) : (outLoc d ↦[tileSet i]{fullShare} (f : Buf (Elt F) (outLoc d)) : sProp 𝕄)
      = bigSep Finset.univ fun g : Fin 24 => Chunk d i g f :=
    pointsTo_biUnion Finset.univ (ℓ := outLoc d) (outSet i) (chunks_disjoint i)
  have hc (c : Fin 2) : (outLoc d ↦[coreSet c]{fullShare} (f : Buf (Elt F) (outLoc d)) : sProp 𝕄)
      = bigSep Finset.univ fun s : Fin 16 => bigSep Finset.univ fun g : Fin 24 => Chunk d (tile c s) g f :=
    (pointsTo_biUnion Finset.univ (ℓ := outLoc d) (fun s : Fin 16 => tileSet (tile c s)) (tiles_disjoint c)).trans
      (bigSep_congr fun s _ => ht (tile c s))
  refine Eq.trans ?_ ((pointsTo_biUnion Finset.univ (ℓ := outLoc d) coreSet cores_disjoint).trans (bigSep_congr fun c _ => hc c))
  exact congrArg (fun I : Finset S8x384x64x64.Idx => (outLoc d ↦[I]{fullShare} (f : Buf (Elt F) (outLoc d)) : sProp 𝕄)) cores_cover.symm

/-! ## The inputs by shares -/

/-- A tile's share out of `q`. -/
def tq (q : PosShare TreeShare) (c : Fin 2) (s : Fin 16) : PosShare TreeShare := leaf 4 (leaf 1 q c) s

theorem shares (ℓ : Loc nD τ sig) (f : Buf (Elt F) ℓ) (q : PosShare TreeShare) :
    (ℓ ↦{q} f : sProp 𝕄) = bigSep Finset.univ fun c : Fin 2 => bigSep Finset.univ fun s : Fin 16 => ℓ ↦{tq q c s} f :=
  (pointsTo_leaves Finset.univ f 1 q).trans
    (bigSep_congr fun c _ => pointsTo_leaves Finset.univ f 4 (leaf 1 q c))

/-! ## What a tile takes and hands back -/

section pieces
variable (d : Dev nD) (Y : S8x384x64x64.Idx → F .f32) (MX : S1536.Idx → BitVec 32) (DX : S384.Idx → BitVec 32)
  (Z : S8x384x64x64.Idx → F .f32)

/-- The half of the input the tiles share. -/
abbrev yHalf : PosShare TreeShare := fullShare.right

/-- What tile `s` of core `c` takes: shares of the input and the tables, and its chunks of the result. -/
def takes (c : Fin 2) (s : Fin 16) : sProp 𝕄 :=
  iprop((yLoc d ↦{tq yHalf c s} (Y : Buf (Elt F) (yLoc d))) ∗ (mixLoc d ↦{tq fullShare c s} (MX : Buf (Elt F) (mixLoc d)))
    ∗ (dropLoc d ↦{tq fullShare c s} (DX : Buf (Elt F) (dropLoc d))) ∗ bigSep Finset.univ fun g : Fin 24 => Chunk d (tile c s) g Z)
/-- What it hands back: its chunks, computed. -/
def brings (c : Fin 2) (s : Fin 16) : sProp 𝕄 :=
  bigSep Finset.univ fun g : Fin 24 => Chunk d (tile c s) g (result Y MX DX)

instance takes_storable (c : Fin 2) (s : Fin 16) : BI.Storable (upEmb : UEmb _ 𝕄) (takes d Y MX DX Z c s) := by
  unfold takes; infer_instance
instance brings_storable (c : Fin 2) (s : Fin 16) : BI.Storable (upEmb : UEmb _ 𝕄) (brings d Y MX DX c s) := by
  unfold brings; infer_instance

/-- All the tiles' takings are the arrays. -/
theorem takes_all : (bigSep Finset.univ fun c : Fin 2 => bigSep Finset.univ fun s : Fin 16 => takes d Y MX DX Z c s)
    = (iprop((yLoc d ↦{yHalf} (Y : Buf (Elt F) (yLoc d))) ∗ (mixLoc d ↦{fullShare} (MX : Buf (Elt F) (mixLoc d)))
        ∗ (dropLoc d ↦{fullShare} (DX : Buf (Elt F) (dropLoc d))) ∗ (outLoc d ↦{fullShare} (Z : Buf (Elt F) (outLoc d)))) : sProp 𝕄) := by
  rw [shares (yLoc d), shares (mixLoc d), shares (dropLoc d), out_pieces d Z]
  rw [← bigSep_sep', ← bigSep_sep', ← bigSep_sep']
  refine bigSep_congr fun c _ => ?_
  rw [← bigSep_sep', ← bigSep_sep', ← bigSep_sep']
  rfl
/-- All the tiles' givings are the result. -/
theorem brings_all : (bigSep Finset.univ fun c : Fin 2 => bigSep Finset.univ fun s : Fin 16 => brings d Y MX DX c s)
    = (outLoc d ↦{fullShare} (result Y MX DX : Buf (Elt F) (outLoc d)) : sProp 𝕄) := (out_pieces d _).symm

end pieces

end Cert.Proof.K
-- ==== Proof.K.TileRun.lean ====
/-
  A tile's whole run, from what it is dealt: its own semaphores and scratch buffers, its shares of the input and the
  tables, and its chunks of the result.
-/
module

public import proofs.«01_k».proof.Proof.K.Pieces

@[expose] public section

noncomputable section

namespace Cert.Proof.K

open Cert.KernelIdeal Cert.KernelIdeal.Gen
open Idealize.ShloMosaic Idealize.ShloMosaic.ShareLeaves
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (d : Dev nD) (i : grid0.Coords)

/-! ## A tile's own semaphores and buffers -/

/-- The semaphores a tile uses. -/
def sems : Finset (SemLoc sig) :=
  {.dma (inSem 0), .dma (inSem 1), .dma (inSem 2), .dma (outSem 0), .dma (outSem 1), .dma (outSem 2),
    .dma cc0_scoped0.sem, .dma cc0_scoped1.sem}
/-- They are the tile's own. -/
theorem sems_scoped : ∀ s ∈ sems, SemLoc.isScoped .scVector s = true := by decide

/-- A semaphore, as the tile's. -/
def onThr (t : Thread nD τ) : SemLoc sig ↪ GSem nD τ sig := ⟨fun s => (t, s), fun _ _ h => congrArg Prod.snd h⟩

theorem sems_own : sems.map (onThr (thr d i)) ⊆ SparseCore.Cfg.ownCells (thr d i) := by
  intro g hg
  obtain ⟨s, hs, rfl⟩ := Finset.mem_map.1 hg
  exact SparseCore.Cfg.mem_ownCells.2 ⟨rfl, sems_scoped s hs⟩

/-- What the tile owns of semaphores besides. -/
def SemsLeft : sProp 𝕄 :=
  bigSep (SparseCore.Cfg.ownCells (thr d i) \ sems.map (onThr (thr d i))) fun g => semVal g 0

theorem ownSems0_tile : (SparseCore.Cfg.ownSems0 (thr d i) : sProp 𝕄)
    = iprop((semVal (thr d i, .dma (inSem 0)) 0 ∗ semVal (thr d i, .dma (inSem 1)) 0 ∗ semVal (thr d i, .dma (inSem 2)) 0
        ∗ semVal (thr d i, .dma (outSem 0)) 0 ∗ semVal (thr d i, .dma (outSem 1)) 0 ∗ semVal (thr d i, .dma (outSem 2)) 0
        ∗ semVal (thr d i, .dma cc0_scoped0.sem) 0 ∗ semVal (thr d i, .dma cc0_scoped1.sem) 0) ∗ SemsLeft (F := F) d i) := by
  unfold SparseCore.Cfg.ownSems0 SemsLeft
  rw [SparseCore.bigSep_sdiff_split' (sems_own d i), bigSep_map]
  unfold sems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- The scratch buffers. -/
def scratch : Finset (Ref sig .scVector) := {cc0_scratch0, cc0_scratch1, cc0_scratch2}
def onProc (p : Proc τ) : Ref sig p.kind ↪ DevRef τ sig := ⟨p.devRef, Proc.devRef_injective p⟩

theorem scratch_three (Φ : Ref sig .scVector → sProp 𝕄) :
    bigSep scratch Φ = iprop(Φ cc0_scratch0 ∗ Φ cc0_scratch1 ∗ Φ cc0_scratch2) := by
  unfold scratch
  rw [SparseCore.bigSep_insert' (by decide), SparseCore.bigSep_insert' (by decide), bigSep_singleton]

theorem scratch_owner (c : Fin τ.nSC) (s : Fin τ.nSub) : ∀ b ∈ scratch, ((Proc.scVector c s).devRef b : DevRef τ sig).owner = .proc (.scVector c s) := by
  intro b hb
  unfold scratch at hb
  rcases Finset.mem_insert.1 hb with rfl | hb
  · rfl
  rcases Finset.mem_insert.1 hb with rfl | hb
  · rfl
  rcases Finset.mem_singleton.1 hb with rfl
  rfl

theorem scratch_own : scratch.map (onProc (thr d i).2) ⊆ SparseCore.Cfg.ownRefs (thr d i).2 := by
  intro g hg
  obtain ⟨s, hs, rfl⟩ := Finset.mem_map.1 hg
  exact SparseCore.Cfg.mem_ownRefs_of_owner (scratch_owner _ _ s hs)

/-- What the tile owns of buffers besides. -/
def BufsLeft : sProp 𝕄 :=
  bigSep (SparseCore.Cfg.ownRefs (thr d i).2 \ scratch.map (onProc (thr d i).2))
    fun b => iprop(∃ f, (((thr d i).1, b) : Loc nD τ sig) ↦{fullShare} f)

theorem ownBufs_tile : (SparseCore.Cfg.ownBufs (thr d i) : sProp 𝕄)
    = iprop(((∃ f, mLoc d i ↦{fullShare} f) ∗ (∃ f, dLoc d i ↦{fullShare} f) ∗ (∃ f, bLoc d i ↦{fullShare} f)) ∗ BufsLeft (F := F) d i) := by
  unfold SparseCore.Cfg.ownBufs BufsLeft
  rw [SparseCore.bigSep_sdiff_split' (scratch_own d i), bigSep_map]
  exact congrArg (fun A : sProp 𝕄 => iprop(A ∗ _)) (scratch_three _)

/-! ## The run -/

variable (Y : S8x384x64x64.Idx → F .f32) (MX : S1536.Idx → BitVec 32) (DX : S384.Idx → BitVec 32)
variable (O : CellTallies nD τ sig (HIx 1)) (W : Waits sig (HIx 1))

theorem wp_tile (hO : ∀ g, O g none = 0) (Z : S8x384x64x64.Idx → F .f32) (q q' q'' : PosShare TreeShare) :
    iprop(levAts (K (F := F)).L (K (F := F)).lev ∗ emp
        ∗ ((yLoc d ↦{q} (Y : Buf (Elt F) (yLoc d))) ∗ (mixLoc d ↦{q'} (MX : Buf (Elt F) (mixLoc d)))
          ∗ (dropLoc d ↦{q''} (DX : Buf (Elt F) (dropLoc d))) ∗ bigSep Finset.univ fun g : Fin 24 => Chunk d i g Z)
        ∗ scopedBufs (thr d i) ∗ scopedSems0 (thr d i) ∗ owes (thr d i) O W)
      ⊢ run d i (body i)
          fun _ => iprop((bigSep Finset.univ fun g : Fin 24 => Chunk d i g (result Y MX DX))
            ∗ scopedBufs (thr d i) ∗ scopedSems0 (thr d i)
            ∗ ∃ W', ⌜∀ p ∈ W', p ∈ W ∨ p.2 = none⌝ ∗ owes (thr d i) O W') := by
  rw [(K (F := F)).scopedBufs_V facts d _ _, SparseCore.Cfg.scopedSems0_V (Val := Elt F) d _ _, ownSems0_tile, ownBufs_tile]
  iintro ⟨#Hlv, -, ⟨Hy, Hm, Hd, Hout⟩, ⟨⟨⟨%fm, Hfm⟩, ⟨%fd, Hfd⟩, ⟨%fb, Hfb⟩⟩, Hbufs⟩, ⟨⟨Hi0, Hi1, Hi2, Ho0, Ho1, Ho2, Hs0, Hs1⟩, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_body (F := F) d i Y MX DX O W _ q' q'' Z fm fd fb) $$ [Hy Hm Hd Hout Hfm Hfd Hfb Hi0 Hi1 Hi2 Ho0 Ho1 Ho2 Hs0 Hs1 HO Hmw]
  · isplitl [Hm]; · iexact Hm
    isplitl [Hd]; · iexact Hd
    isplitl [Hy]; · iexists q; iexact Hy
    isplitl [Hout]; · iexact Hout
    isplitl [Hfm Hfd]
    · isplitl [Hfm]; · iexact Hfm
      iexact Hfd
    isplitl [Hfb]; · iexact Hfb
    isplitl [Hs0 Hs1]
    · isplitl [Hs0]; · iexact Hs0
      iexact Hs1
    isplitl [Hi0 Hi1 Hi2 Ho0 Ho1 Ho2]
    · isplitl [Hi0 Hi1 Hi2]
      · isplitl [Hi0]; · iexact Hi0
        isplitl [Hi1]; · iexact Hi1
        iexact Hi2
      isplitl [Ho0]; · iexact Ho0
      isplitl [Ho1]; · iexact Ho1
      iexact Ho2
    isplitl [Hmw]; · iexact Hmw
    iexists W; isplitr
    · ipureintro; exact fun p hp => .inl hp
    iexact HO
  iintro ⟨Hout, ⟨Hfm, Hfd⟩, Hfb, ⟨Hs0, Hs1⟩, ⟨⟨Hi0, Hi1, Hi2⟩, Ho0, Ho1, Ho2⟩, -, HO⟩
  isplitl [Hout]; · iexact Hout
  isplitl [Hfm Hfd Hfb Hbufs]
  · isplitl [Hfm Hfd Hfb]
    · isplitl [Hfm]; · iexists _; iexact Hfm
      isplitl [Hfd]; · iexists _; iexact Hfd
      iexact Hfb
    iexact Hbufs
  isplitl [Hs0 Hs1 Hi0 Hi1 Hi2 Ho0 Ho1 Ho2 Hsems]
  · isplitr [Hsems]
    · isplitl [Hi0]; · iexact Hi0
      isplitl [Hi1]; · iexact Hi1
      isplitl [Hi2]; · iexact Hi2
      isplitl [Ho0]; · iexact Ho0
      isplitl [Ho1]; · iexact Ho1
      isplitl [Ho2]; · iexact Ho2
      isplitl [Hs0]; · iexact Hs0
      iexact Hs1
    iexact Hsems
  iexact HO

end Cert.Proof.K
-- ==== Proof.K.Launch.lean ====
/-
  The launch: the host makes the two tables of words from the masks, hands every tile its pieces, and gets the result
  back whole, chunk by chunk.  What the tile's program is comes in as a premise here.
-/
module

public import proofs.«01_k».proof.Proof.K.TileRun

@[expose] public section

noncomputable section

namespace Cert.Proof.K

open Cert.KernelIdeal Cert.KernelIdeal.Gen
open Idealize.ShloMosaic Idealize.ShloMosaic.ShareLeaves Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

abbrev mixMaskLoc (d : Dev nD) : Loc nD τ sig := (SparseCore.T d).loc main_arg1
abbrev dropMaskLoc (d : Dev nD) : Loc nD τ sig := (SparseCore.T d).loc main_arg2

/-- The input, -/
def inputOf (d : Dev nD) : S8x384x64x64.Idx → F .f32 := m (yLoc d)
/-- the mask of mixed channels made a table of words, -/
def mixOf (d : Dev nD) : S1536.Idx → BitVec 32 :=
  shapeCast S1536 (extui 32 (m (mixMaskLoc d) : IVec S4x384 1) natLt_1_32) shapeCasts_S4x384_S1536
/-- the mask of dropped channels made one, -/
def dropOf (d : Dev nD) : S384.Idx → BitVec 32 := extui 32 (m (dropMaskLoc d) : IVec S384 1) natLt_1_32
/-- and what the result is to be. -/
def resultOf (d : Dev nD) : S8x384x64x64.Idx → F .f32 := result (inputOf m d) (mixOf m d) (dropOf m d)

/-! ## What the threads hand one another -/

theorem nSub_zero : (K (F := F)).nSub 0 = 16 := rfl
theorem nCore_zero : (K (F := F)).nCore 0 = 2 := rfl

/-- What a tile takes, and what it brings back. -/
abbrev tileTakes (d : Dev nD) (c : Fin 2) (s : Fin 16) : sProp 𝕄 :=
  takes d (inputOf m d) (mixOf m d) (dropOf m d) (m (outLoc d) : S8x384x64x64.Idx → F .f32) c s
abbrev tileBrings (d : Dev nD) (c : Fin 2) (s : Fin 16) : sProp 𝕄 := brings d (inputOf m d) (mixOf m d) (dropOf m d) c s

/-- A core takes what its tiles take, and brings back what they bring back. -/
def P : (K (F := F)).Pay (nD := nD) (Val := Elt F) (Name := ℕ) (U := UU) where
  st := fun q d c => match q with | 0 => bigSep Finset.univ fun s : Fin 16 => tileTakes m d (Fin.cast nCore_zero c) s
  dn := fun q d c => match q with | 0 => bigSep Finset.univ fun s : Fin 16 => tileBrings m d (Fin.cast nCore_zero c) s
  go := fun q d c s => match q with | 0 => tileTakes m d (Fin.cast nCore_zero c) (Fin.cast nSub_zero s)
  td := fun q d c s => match q with | 0 => tileBrings m d (Fin.cast nCore_zero c) (Fin.cast nSub_zero s)
  x := fun _ _ => iprop(emp)

instance P_storable : (P (F := F) m).IsStorable where
  st q d c := match q with
    | 0 => (inferInstance : BI.Storable (upEmb : UEmb _ 𝕄) (bigSep Finset.univ fun s : Fin 16 => tileTakes m d (Fin.cast nCore_zero c) s))
  dn q d c := match q with
    | 0 => (inferInstance : BI.Storable (upEmb : UEmb _ 𝕄) (bigSep Finset.univ fun s : Fin 16 => tileBrings m d (Fin.cast nCore_zero c) s))
  go q d c s := match q with
    | 0 => (inferInstance : BI.Storable (upEmb : UEmb _ 𝕄) (tileTakes m d (Fin.cast nCore_zero c) (Fin.cast nSub_zero s)))
  td q d c s := match q with
    | 0 => (inferInstance : BI.Storable (upEmb : UEmb _ 𝕄) (tileBrings m d (Fin.cast nCore_zero c) (Fin.cast nSub_zero s)))

theorem bigSep_tiles (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => tileTakes m d (Fin.cast nCore_zero c) s) ⊢ |={Set.univ}=> iprop(
      (bigSep Finset.univ fun s : Fin ((K (F := F)).nSub 0) => tileTakes m d (Fin.cast nCore_zero c) (Fin.cast nSub_zero s))
      ∗ ((bigSep Finset.univ fun s : Fin ((K (F := F)).nSub 0) => tileBrings m d (Fin.cast nCore_zero c) (Fin.cast nSub_zero s))
          -∗ bigSep Finset.univ fun s : Fin 16 => tileBrings m d (Fin.cast nCore_zero c) s))
  rw [bigSep_tiles (F := F) (fun s => tileTakes m d (Fin.cast nCore_zero c) s),
    bigSep_tiles (F := F) (fun s => tileBrings m d (Fin.cast nCore_zero c) s)]
  iintro H; imodintro
  isplitl [H]; · iexact H
  iintro H; iexact H

theorem st0_eq (d : Dev nD) : (bigSep Finset.univ fun c : Fin ((K (F := F)).nCore 0) => (P m).st 0 d c)
    = (iprop((yLoc d ↦{yHalf} (inputOf m d : Buf (Elt F) (yLoc d))) ∗ (mixLoc d ↦{fullShare} (mixOf m d : Buf (Elt F) (mixLoc d)))
        ∗ (dropLoc d ↦{fullShare} (dropOf m d : Buf (Elt F) (dropLoc d))) ∗ (outLoc d ↦{fullShare} m (outLoc d))) : sProp 𝕄) :=
  (bigSep_cores (F := F) (fun c => bigSep Finset.univ fun s : Fin 16 => tileTakes m d c s)).trans (takes_all d _ _ _ _)
theorem dn0_eq (d : Dev nD) : (bigSep Finset.univ fun c : Fin ((K (F := F)).nCore 0) => (P m).dn 0 d c)
    = (outLoc d ↦{fullShare} (resultOf m d : Buf (Elt F) (outLoc d)) : sProp 𝕄) :=
  (bigSep_cores (F := F) (fun c => bigSep Finset.univ fun s : Fin 16 => tileBrings m d c s)).trans (brings_all d _ _ _)

/-! ## The tiles' obligation -/

/-- The kernel as a tile runs it. -/
abbrev kernel (i : grid0.Coords) : TileProg F i :=
  cc0_sc_k (F := F) i yM (Memref.isWhole_whole _) mixM (Memref.isWhole_whole _) dropM (Memref.isWhole_whole _) outM (Memref.isWhole_whole _)
    mixV (Memref.isWhole_whole _) dropV (Memref.isWhole_whole _) bufV (Memref.isWhole_whole _) cc0_scratch3 cc0_scratch4 cc0_scoped0 cc0_scoped1

theorem defs₀_vector (c : Fin τ.nSC) (s : Fin τ.nSub) :
    defs₀ (F := F) (.scVector c s) 0 () = SparseCore.onTile hcore0 hsub0 (fun c s => kernel (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : ∀ i, kernel (F := F) i = body i) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  rw [hbody]
  exact (wp_tile d (coordsV ⟨_, hcs.1⟩ ⟨_, hcs.2⟩) (inputOf m d) (mixOf m d) (dropOf m d) O W hO (m (outLoc d)) _ _ _).trans
    (wp_mono frame _ _ fun _ => obl_post)

/-! ## The ghost state at the launch -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## The host's program -/

abbrev y' : DevRef τ sig := Proc.devRef .tc (main_arg0 : Ref sig .tc)
abbrev mixMask' : DevRef τ sig := Proc.devRef .tc (main_arg1 : Ref sig .tc)
abbrev dropMask' : DevRef τ sig := Proc.devRef .tc (main_arg2 : Ref sig .tc)
abbrev wide' : DevRef τ sig := Proc.devRef .tc (main_v0 : Ref sig .tc)
abbrev mix' : DevRef τ sig := Proc.devRef .tc (main_v1 : Ref sig .tc)
abbrev drop' : DevRef τ sig := Proc.devRef .tc (main_v2 : Ref sig .tc)
abbrev out' : DevRef τ sig := Proc.devRef .tc (main_v3 : Ref sig .tc)

/-- The three steps that make the tables. -/
abbrev opWide : HloOp τ sig (Elt F) :=
  StableHlo.unary main_arg1 main_v0 ((extui 32 · natLt_1_32) : (⟨S4x384, .i1⟩ : BufTy).Contents (Elt F) → (⟨S4x384, .i32⟩ : BufTy).Contents (Elt F))
abbrev opMix : HloOp τ sig (Elt F) :=
  StableHlo.reshape main_v0 main_v1 (rfl : (.i32 : EltTy) = .i32) shapeCasts_S4x384_S1536
abbrev opDrop : HloOp τ sig (Elt F) :=
  StableHlo.unary main_arg2 main_v2 ((extui 32 · natLt_1_32) : (⟨S384, .i1⟩ : BufTy).Contents (Elt F) → (⟨S384, .i32⟩ : BufTy).Contents (Elt F))

/-- The host's arrays. -/
abbrev arrays : Finset (DevRef τ sig) := {y', mixMask', dropMask', wide', mix', drop', out'}

theorem held_arrays (d : Dev nD) (V : Valuation τ sig (Elt F)) :
    (held (SparseCore.T d) arrays V : sProp 𝕄) = iprop((yLoc d ↦{fullShare} V y') ∗ (mixMaskLoc d ↦{fullShare} V mixMask')
      ∗ (dropMaskLoc d ↦{fullShare} V dropMask') ∗ ((SparseCore.T d).loc main_v0 ↦{fullShare} V wide')
      ∗ (mixLoc d ↦{fullShare} V mix') ∗ (dropLoc d ↦{fullShare} V drop') ∗ outLoc d ↦{fullShare} V out') := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_arrays (d : Dev nD) (W : (b : Ref sig .tc) → Buf (Elt F) ((d.tc : Thread nD τ).loc b)) :
    (unscopedBufs d W : sProp 𝕄) = iprop((yLoc d ↦{fullShare} W main_arg0) ∗ (mixMaskLoc d ↦{fullShare} W main_arg1)
      ∗ (dropMaskLoc d ↦{fullShare} W main_arg2) ∗ ((SparseCore.T d).loc main_v0 ↦{fullShare} W main_v0)
      ∗ (mixLoc d ↦{fullShare} W main_v1) ∗ (dropLoc d ↦{fullShare} W main_v2) ∗ outLoc d ↦{fullShare} W main_v3) := by
  unfold unscopedBufs
  rw [show (Finset.univ.filter fun b : Ref sig .tc => ¬ b.isScoped)
      = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch, and after the three steps. -/
def V0 (d : Dev nD) : Valuation τ sig (Elt F) := fun b => m (d, b)
def V1 (d : Dev nD) : Valuation τ sig (Elt F) := (opWide (F := F)).result (V0 m d)
def V2 (d : Dev nD) : Valuation τ sig (Elt F) := (opMix (F := F)).result (V1 m d)
def V3 (d : Dev nD) : Valuation τ sig (Elt F) := (opDrop (F := F)).result (V2 m d)

theorem unscoped_held (d : Dev nD) : (unscopedBufs d (fun b => m ((SparseCore.T d).loc b)) : sProp 𝕄) = held (SparseCore.T d) arrays (V0 m d) := by
  rw [unscopedBufs_arrays, held_arrays]; rfl

theorem V3_else (d : Dev nD) {r : Ref sig .tc} (h0 : r ≠ main_v0) (h1 : r ≠ main_v1) (h2 : r ≠ main_v2) :
    V3 m d (Proc.devRef .tc r) = m (d, Proc.devRef .tc r) := by
  unfold V3 V2 V1 V0
  rw [StableHlo.unary_result_ne _ _ _ _ _ _ h2, StableHlo.reshape_result_ne _ _ _ _ _ _ _ h1, StableHlo.unary_result_ne _ _ _ _ _ _ h0]
theorem V3_mix (d : Dev nD) : V3 m d mix' = mixOf m d := by
  unfold V3 V2 V1 V0
  rw [StableHlo.unary_result_ne _ _ _ _ _ _ (show main_v1 ≠ main_v2 by decide), StableHlo.reshape_result, StableHlo.unary_result]
  rfl
theorem V3_drop (d : Dev nD) : V3 m d drop' = dropOf m d := by
  unfold V3
  rw [StableHlo.unary_result]
  unfold V2 V1 V0
  rw [StableHlo.reshape_result_ne _ _ _ _ _ _ _ (show main_arg2 ≠ main_v1 by decide), StableHlo.unary_result_ne _ _ _ _ _ _ (show main_arg2 ≠ main_v0 by decide)]
  rfl

/-- What the host ends with. -/
abbrev FIN (d : Dev nD) : sProp 𝕄 :=
  iprop((yLoc d ↦{fullShare.left} m (yLoc d)) ∗ (mixMaskLoc d ↦{fullShare} m (mixMaskLoc d)) ∗ (dropMaskLoc d ↦{fullShare} m (dropMaskLoc d))
    ∗ (outLoc d ↦{fullShare} (resultOf m d : Buf (Elt F) (outLoc d))))

theorem held_end (d : Dev nD) : (held (SparseCore.T d) arrays (V3 m d) : sProp 𝕄)
    ⊢ iprop(((yLoc d ↦{fullShare.left} m (yLoc d)) ∗ (mixMaskLoc d ↦{fullShare} m (mixMaskLoc d)) ∗ (dropMaskLoc d ↦{fullShare} m (dropMaskLoc d)))
      ∗ (yLoc d ↦{yHalf} (inputOf m d : Buf (Elt F) (yLoc d))) ∗ (mixLoc d ↦{fullShare} (mixOf m d : Buf (Elt F) (mixLoc d)))
        ∗ (dropLoc d ↦{fullShare} (dropOf m d : Buf (Elt F) (dropLoc d))) ∗ (outLoc d ↦{fullShare} m (outLoc d))) := by
  rw [held_arrays, V3_mix, V3_drop, V3_else m d (r := main_arg0) (by decide) (by decide) (by decide),
    V3_else m d (r := main_arg1) (by decide) (by decide) (by decide), V3_else m d (r := main_arg2) (by decide) (by decide) (by decide),
    V3_else m d (r := main_v3) (by decide) (by decide) (by decide)]
  iintro ⟨Hy, Ha, Hb, -, Hm, Hd, Ho⟩
  ihave Hy := (pointsTo_share (PosShare.mem_left_op_right fullShare)).1 $$ Hy
  icases Hy with ⟨Hl, Hr⟩
  isplitl [Hl Ha Hb]
  · isplitl [Hl]; · iexact Hl
    isplitl [Ha]; · iexact Ha
    iexact Hb
  isplitl [Hr]; · iexact Hr
  isplitl [Hm]; · iexact Hm
  isplitl [Hd]; · iexact Hd
  iexact Ho

theorem wide_sub : (opWide (F := F)).bufs ⊆ arrays := show ({mixMask', wide'} : Finset (DevRef τ sig)) ⊆ arrays by decide
theorem mix_sub : (opMix (F := F)).bufs ⊆ arrays := show ({wide', mix'} : Finset (DevRef τ sig)) ⊆ arrays by decide
theorem drop_sub : (opDrop (F := F)).bufs ⊆ arrays := show ({dropMask', drop'} : Finset (DevRef τ sig)) ⊆ arrays by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opWide) (S := arrays) wide_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opMix) (S := arrays) mix_sub (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opDrop) (S := arrays) drop_sub (V := V2 m d)) $$ [Hb Hheld]
  · isplitl [Hb]; · iexact Hb
    iexact Hheld
  iintro ⟨Hb, Hheld⟩
  rw [wp_ret]; imodintro
  ihave Hh := (show (held (SparseCore.T d) arrays ((opDrop (F := F)).result (V2 m d)) : sProp 𝕄) ⊢ _ from held_end m d) $$ Hheld
  icases Hh with ⟨⟨Hy, Hmm, Hdm⟩, Hgo⟩
  iapply ((K (F := F)).wp_run (D (F := F)) 𝒱 (EH := EH) (P := P m) κ d 0) $$ [Hst Hgo Hy Hmm Hdm Hb Hts]
  isplitr; · iexact Hctx
  isplitl [Hst]; · iexact Hst
  isplitl [Hgo]
  · rw [st0_eq]; iexact Hgo
  iintro ⟨Hst, Hdn⟩
  ihave Ho := (Entails.of_eq (dn0_eq m d)) $$ Hdn
  imodintro
  isplitl [Hst]; · iexact Hst
  isplitr [Hb Hts]
  · isplitl [Hy]; · iexact Hy
    isplitl [Hmm]; · iexact Hmm
    isplitl [Hdm]; · iexact Hdm
    iexact Ho
  isplitl [Hb] <;> iassumption

/-! ## The run -/

/-- What the run leaves in the arrays. -/
def fq (d : Dev nD) (s' : Phys nD τ sig (Elt F)) : Prop :=
  s'.mem.mem (yLoc d) = m (yLoc d) ∧ s'.mem.mem (mixMaskLoc d) = m (mixMaskLoc d) ∧ s'.mem.mem (dropMaskLoc d) = m (dropMaskLoc d)
    ∧ s'.mem.mem (outLoc d) = resultOf m d

/-- Held contents are the memory's. -/
theorem held_agree (s' : Phys nD τ sig (Elt F)) (ℓ : Loc nD τ sig) (q : PosShare TreeShare) (f : Buf (Elt F) ℓ) :
    iprop(SI s' ∗ (ℓ ↦{q} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun z => h z (Finset.mem_univ z)
  iexact HSI

theorem hfin (d : Dev nD) (s' : Phys nD τ sig (Elt F)) : iprop(FIN m d ∗ SI s') ⊢ (⌜fq m d s'⌝ : sProp 𝕄) := by
  iintro ⟨⟨Hy, Hmm, Hdm, Ho⟩, HSI⟩
  ihave H := (held_agree s' (yLoc d) _ _) $$ [HSI Hy]
  · isplitl [HSI] <;> iassumption
  icases H with ⟨%h1, HSI⟩
  ihave H := (held_agree s' (mixMaskLoc d) _ _) $$ [HSI Hmm]
  · isplitl [HSI] <;> iassumption
  icases H with ⟨%h2, HSI⟩
  ihave H := (held_agree s' (dropMaskLoc d) _ _) $$ [HSI Hdm]
  · isplitl [HSI] <;> iassumption
  icases H with ⟨%h3, HSI⟩
  ihave H := (held_agree s' (outLoc d) _ _) $$ [HSI Ho]
  · isplitl [HSI] <;> iassumption
  icases H with ⟨%h4, HSI⟩
  ipureintro; exact ⟨h1, h2, h3, h4⟩

/-- The outcome: the inputs as they were, the result computed, every semaphore back at zero. -/
def QC : PUnit × MemSt nD τ sig (Elt F) → Prop := fun r =>
  (∀ d : Dev nD, r.2.mem (yLoc d) = m (yLoc d) ∧ r.2.mem (mixMaskLoc d) = m (mixMaskLoc d) ∧ r.2.mem (dropMaskLoc d) = m (dropMaskLoc d)
    ∧ r.2.mem (outLoc d) = resultOf m d) ∧ r.2.sem = fun _ => 0

theorem run_of_body [∀ e, Nonempty (Elt F e)] (hbody : ∀ i, kernel (F := F) i = body i) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.Proof.K
-- ==== Proof.K.Value.lean ====
/-
  What the reference computes, element by element, and that it is what the kernel's tiles compute from the same
  arrays: both only move elements of the input and put zeros, so they agree over any float values.
-/
module

public import proofs.«01_k».proof.Proof.K.Launch
public import proofs.«01_k».proof.Proof.Gen.ReferenceIdeal.Run

@[expose] public section

noncomputable section

namespace Cert.Proof.K

open Idealize.ShloMosaic
open Cert.KernelIdeal (S1536)
open Cert.ReferenceIdeal Cert.ReferenceIdeal.Gen

variable {F : FTy → Type} [FloatOps F]

/-! ## The reference's arrays -/

section
variable (Y : S8x384x64x64.Idx → F .f32) (M : IVec S4x384 1) (N : IVec S384 1)

/-- The input in pairs. -/
def pairs : S4x2x384x64x64.Idx → F .f32 := shapeCast S4x2x384x64x64 Y shapeCasts_S8x384x64x64_S4x2x384x64x64
/-- The mask of mixed channels, on the pairs. -/
def mixThere : IVec S4x2x384x64x64 1 :=
  broadcastInDim S4x2x384x64x64 ![0, 1, 2, 3, 4] bcast_S4x1x384x1x1_S4x2x384x64x64_0_1_2_3_4
    (broadcastInDim S4x1x384x1x1 ![0, 2] bcast_S4x384_S4x1x384x1x1_0_2 M)
/-- The pairs mixed, laid out as the input is. -/
def mixedPairs : S8x384x64x64.Idx → F .f32 :=
  shapeCast S8x384x64x64 (select (mixThere M) (Host.reverse [1] (pairs Y)) (pairs Y)) shapeCasts_S4x2x384x64x64_S8x384x64x64
/-- The mask of dropped channels, everywhere. -/
def dropThere : IVec S8x384x64x64 1 :=
  broadcastInDim S8x384x64x64 ![0, 1, 2, 3] bcast_S1x384x1x1_S8x384x64x64_0_1_2_3
    (broadcastInDim S1x384x1x1 ![1] bcast_S384_S1x384x1x1_1 N)
/-- What the reference returns. -/
def reference : S8x384x64x64.Idx → F .f32 :=
  select (dropThere N) (broadcastInDim S8x384x64x64 ![] bcast_S_S8x384x64x64 (constant S_ .f32 0x00000000#32)) (mixedPairs Y M)

/-! ## Element by element -/

/-- Where an element lies among the pairs. -/
def inPairs (z : S8x384x64x64.Idx) : S4x2x384x64x64.Idx :=
  fun | 0 => ⟨(z 0).val / 2, by have h : (z 0).val < 8 := (z 0).isLt; show _ < 4; omega⟩
      | 1 => ⟨(z 0).val % 2, Nat.mod_lt _ (by decide)⟩ | 2 => z 1 | 3 => z 2 | 4 => z 3
/-- The masks' entries for an element. -/
def maskAt (z : S8x384x64x64.Idx) : S4x384.Idx :=
  fun | 0 => ⟨(z 0).val / 2, by have h : (z 0).val < 8 := (z 0).isLt; show _ < 4; omega⟩ | 1 => z 1

theorem inPairs_rowMajor (z : S8x384x64x64.Idx) : (S4x2x384x64x64.rowMajor (inPairs z)).val = (S8x384x64x64.rowMajor z).val := by
  rw [Shape.rowMajor_val_five, Shape.rowMajor_val_four]
  show (((((z 0).val / 2 * 2 + (z 0).val % 2) * 384 + (z 1).val) * 64 + (z 2).val) * 64 + (z 3).val)
    = (((z 0).val * 384 + (z 1).val) * 64 + (z 2).val) * 64 + (z 3).val
  rw [Nat.div_add_mod']

theorem pairs_at (z : S8x384x64x64.Idx) : pairs Y (inPairs z) = Y z :=
  congrArg Y (Shape.reshapeEquiv_eq_of_rowMajor _ (inPairs_rowMajor z).symm)

/-- The reversed pairs hold the mate's element. -/
theorem reversed_at (z : S8x384x64x64.Idx) : Host.reverse [1] (pairs Y) (inPairs z) = Y (mate z) := by
  rw [← pairs_at Y (mate z)]
  have h0 : (z 0).val < 8 := (z 0).isLt
  refine congrArg (pairs Y) (funext fun a => Fin.ext ?_)
  match a with
  | 0 =>
    show (z 0).val / 2 = (if (z 0).val % 2 = 0 then (z 0).val + 1 else (z 0).val - 1) / 2
    split <;> omega
  | 1 =>
    show 2 - ((z 0).val % 2 + 1) = (if (z 0).val % 2 = 0 then (z 0).val + 1 else (z 0).val - 1) % 2
    split <;> omega
  | 2 => rfl
  | 3 => rfl
  | 4 => rfl

theorem mixThere_at (z : S8x384x64x64.Idx) : mixThere M (inPairs z) = M (maskAt z) :=
  congrArg M (funext fun | 0 => rfl | 1 => rfl)
theorem dropThere_at (z : S8x384x64x64.Idx) : dropThere N z = N (dropAt z) :=
  congrArg N (funext fun | 0 => rfl)

theorem mixedPairs_at (z : S8x384x64x64.Idx) : mixedPairs Y M z = if M (maskAt z) = 1#1 then Y (mate z) else Y z := by
  have e : mixedPairs Y M z = select (mixThere M) (Host.reverse [1] (pairs Y)) (pairs Y) (inPairs z) :=
    congrArg (select (mixThere M) (Host.reverse [1] (pairs Y)) (pairs Y)) (Shape.reshapeEquiv_eq_of_rowMajor _ (inPairs_rowMajor z))
  rw [e]
  show (if mixThere M (inPairs z) = 1#1 then _ else _) = _
  rw [mixThere_at, reversed_at, pairs_at]

theorem reference_at (z : S8x384x64x64.Idx) : reference Y M N z
    = if N (dropAt z) = 1#1 then Scalar.ofBits .f32 0x00000000#32 else if M (maskAt z) = 1#1 then Y (mate z) else Y z := by
  show (if dropThere N z = 1#1 then _ else mixedPairs Y M z) = _
  rw [dropThere_at, mixedPairs_at]
  rfl

/-! ## The equation -/

/-- A mask bit made a word is zero exactly when it is not set. -/
theorem word_zero (b : BitVec 1) : b.setWidth 32 = 0#32 ↔ ¬ b = 1#1 := by
  revert b; decide

/-- The mix table's word for an element is its mask bit. -/
theorem mixWord_at (z : S8x384x64x64.Idx) :
    shapeCast S1536 (extui 32 M Cert.KernelIdeal.Gen.natLt_1_32) Cert.KernelIdeal.Gen.shapeCasts_S4x384_S1536 (mixAt z) = (M (maskAt z)).setWidth 32 := by
  have h0 : (z 0).val < 8 := (z 0).isLt
  refine congrArg (fun x => (M x).setWidth 32) (Shape.reshapeEquiv_eq_of_rowMajor _ ?_)
  rw [Shape.rowMajor_val_two, Shape.rowMajor_val_one]
  show (z 0).val / 2 * 384 + (z 1).val = 384 * ((z 0).val / 2) + (z 1).val
  rw [Nat.mul_comm]

/-- From the same arrays the reference's result is the kernel's. -/
theorem reference_eq : reference Y M N
    = result Y (shapeCast S1536 (extui 32 M Cert.KernelIdeal.Gen.natLt_1_32) Cert.KernelIdeal.Gen.shapeCasts_S4x384_S1536)
        (extui 32 N Cert.KernelIdeal.Gen.natLt_1_32) := by
  funext z
  rw [reference_at]
  unfold result mixed
  rw [mixWord_at, show extui 32 N Cert.KernelIdeal.Gen.natLt_1_32 (dropAt z) = (N (dropAt z)).setWidth 32 from rfl]
  by_cases hn : N (dropAt z) = 1#1
  · rw [if_pos hn, if_neg (fun h => (word_zero _).1 h hn)]
  · rw [if_neg hn, if_pos ((word_zero _).2 hn)]
    by_cases hm : M (maskAt z) = 1#1
    · rw [if_pos hm, if_neg (fun h => (word_zero _).1 h hm)]
    · rw [if_neg hm, if_pos ((word_zero _).2 hm)]

end

end Cert.Proof.K
-- ==== Proof.K.Claims.lean ====
/-
  The claims, given that the kernel as printed is the tile's program these modules reason about.
-/
module

public import proofs.«01_k».proof.Defs
public import proofs.«01_k».proof.Proof.K.Value
public import proofs.«01_k».proof.Proof.Gen.Kernel
public import Idealize.ShloMosaic.Adequacy
public import Idealize.ShloMosaic.Init

@[expose] public section

noncomputable section

namespace Cert.Proof.K

open Idealize.ShloMosaic Idealize.SL.Sem

/-- The idealized kernel's frame. -/
theorem frame_kernelIdeal (hbody : ∀ i, kernel (F := Ideal) i = body i) : Cert.quiescent_KernelIdeal := fun m ρ _ =>
  (θ_run Cert.KernelIdeal.defs _ _).mono (fun _ h => ⟨fun c => ⟨(h.1 c).1, (h.1 c).2.1, (h.1 c).2.2.1⟩, h.2⟩)
    (run_of_body (F := Ideal) m ρ hbody)

/-- The reference's frame; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference, from the same arrays, end with the same result. -/
theorem same_result (hbody : ∀ i, kernel (F := Ideal) i = body i) : Cert.algebraic_KernelIdeal_ReferenceIdeal := by
  intro m ρ m' ρ' _ hagree
  refine ⟨fun c => resultOf m c, ?_, ?_⟩
  · exact (θ_run Cert.KernelIdeal.defs _ _).mono
      (fun _ h c => ⟨(h.1 c).2.2.2, (h.1 c).1, (h.1 c).2.1, (h.1 c).2.2.1⟩) (run_of_body (F := Ideal) m ρ hbody)
  · refine (θ_run Cert.ReferenceIdeal.defs _ _).mono (fun _ h c => ⟨(h c).1.trans ?_, (h c).2⟩)
      (Cert.ReferenceIdeal.Value.run (F := Ideal) m' ρ')
    obtain ⟨h0, h1, h2⟩ := hagree c
    rw [h0, h1, h2]
    exact reference_eq (F := Ideal) (inputOf m c) (m (mixMaskLoc c)) (m (dropMaskLoc c))

end Cert.Proof.K
-- ==== Proof.K.Frame.lean ====
/-
  The kernel's frame, given that the kernel as printed is the tile's program these modules reason about.
-/
module

public import proofs.«01_k».proof.Defs
public import proofs.«01_k».proof.Proof.K.Launch
public import proofs.«01_k».proof.Proof.Gen.Kernel
public import Idealize.ShloMosaic.Adequacy
public import Idealize.ShloMosaic.Init

@[expose] public section

noncomputable section

namespace Cert.Proof.K

open Idealize.ShloMosaic Idealize.SL.Sem

set_option maxHeartbeats 0 in
set_option maxRecDepth 65536 in
/-- The kernel's frame at the machine's floats: its text is the idealized program's, whose run is proved over any floats. -/
theorem frame_kernel (hbody : ∀ i, kernel (F := Bits) i = body i) : Cert.quiescent_Kernel := fun m ρ _ =>
  (θ_run Cert.KernelIdeal.defs _ _).mono (fun _ h => ⟨fun c => ⟨(h.1 c).1, (h.1 c).2.1, (h.1 c).2.2.1⟩, h.2⟩)
    (run_of_body (F := Bits) m ρ hbody)

end Cert.Proof.K
-- ==== Proof.lean ====
/-
  The five claims, put together.  `K/Same.lean` shows the printed body of the kernel to be `body` (`K/Chunks.lean`),
  the body as a reader would write it; everything else is proved of that one: `K/Launch.lean` runs it, `K/Value.lean`
  reads the reference, and `K/Claims.lean` and `K/Frame.lean` draw the claims.
-/
module

public import proofs.«01_k».proof.Defs
public import proofs.«01_k».proof.Proof.K.Same
public import proofs.«01_k».proof.Proof.K.Claims
public import proofs.«01_k».proof.Proof.K.Frame

@[expose] public section

noncomputable section

namespace Cert.Proof

/-- The claims of the statement: the kernel and its idealization each finish from every input, leave the inputs as
    they were, fault nowhere and end with every counter at zero; so does the reference; nothing was replaced between
    the kernel and its idealization; and over the reals the kernel's result is the reference's. -/
theorem claim : Cert.Claim :=
  ⟨Cert.Kernel.Gen.facts, Cert.KernelIdeal.Gen.facts, Cert.ReferenceIdeal.Gen.facts,
    K.frame_kernel K.body_eq, K.frame_kernelIdeal K.body_eq, K.frame_reference, trivial, K.same_result K.body_eq⟩

end Cert.Proof

end
